-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  IdealRules.named_const.Statement Cert.KernelIdeal.κ "exp2_scale" .f32 0x3DD53B95#32 (((Real.sqrt 192)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v0) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_v11) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v11) = v2 c
          ∧ r.2.mem ((c.tc : Thread Cert.Reference11Ideal.nD Cert.Reference11Ideal.τ).loc Cert.Reference11Ideal.main_v17) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v27) = v2 c
          ∧ r.2.mem ((c.tc : Thread Cert.Reference13Ideal.nD Cert.Reference13Ideal.τ).loc Cert.Reference13Ideal.main_v28) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v27) = v2 c
          ∧ r.2.mem ((c.tc : Thread Cert.Reference14Ideal.nD Cert.Reference14Ideal.τ).loc Cert.Reference14Ideal.main_v28) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)) (v2 : (c : Dev Cert.Kernel15Ideal.nD) → Buf (Elt Ideal) ((c.tc : Thread Cert.Kernel15Ideal.nD Cert.Kernel15Ideal.τ).loc Cert.Kernel15Ideal.main_v3_2)) (v3 : (c : Dev Cert.Kernel15Ideal.nD) → Buf (Elt Ideal) ((c.tc : Thread Cert.Kernel15Ideal.nD Cert.Kernel15Ideal.τ).loc Cert.Kernel15Ideal.main_v3_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_v3_2) = v2 c
          ∧ r.2.mem ((c.tc : Thread Cert.Kernel15Ideal.nD Cert.Kernel15Ideal.τ).loc Cert.Kernel15Ideal.main_v3_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v38) = v0 c
          ∧ r.2.mem ((c.tc : Thread Cert.Reference15Ideal.nD Cert.Reference15Ideal.τ).loc Cert.Reference15Ideal.main_v44) = v1 c
          ∧ r.2.mem ((c.tc : Thread Cert.Reference15Ideal.nD Cert.Reference15Ideal.τ).loc Cert.Reference15Ideal.main_v50) = v2 c
          ∧ r.2.mem ((c.tc : Thread Cert.Reference15Ideal.nD Cert.Reference15Ideal.τ).loc Cert.Reference15Ideal.main_v56) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4)) (v1 : (c : Dev Cert.Kernel16Ideal.nD) → Buf (Elt Ideal) ((c.tc : Thread Cert.Kernel16Ideal.nD Cert.Kernel16Ideal.τ).loc Cert.Kernel16Ideal.main_v5)) (v2 : (c : Dev Cert.Kernel16Ideal.nD) → Buf (Elt Ideal) ((c.tc : Thread Cert.Kernel16Ideal.nD Cert.Kernel16Ideal.τ).loc Cert.Kernel16Ideal.main_v6)) (v3 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_v5) = v1 c
          ∧ r.2.mem ((c.tc : Thread Cert.Kernel16Ideal.nD Cert.Kernel16Ideal.τ).loc Cert.Kernel16Ideal.main_v6) = v2 c
          ∧ r.2.mem ((c.tc : Thread Cert.Kernel16Ideal.nD Cert.Kernel16Ideal.τ).loc Cert.Kernel16Ideal.main_v7) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v34) = v0 c
          ∧ r.2.mem ((c.tc : Thread Cert.Reference16Ideal.nD Cert.Reference16Ideal.τ).loc Cert.Reference16Ideal.main_v36) = v1 c
          ∧ r.2.mem ((c.tc : Thread Cert.Reference16Ideal.nD Cert.Reference16Ideal.τ).loc Cert.Reference16Ideal.main_v38) = v2 c
          ∧ r.2.mem ((c.tc : Thread Cert.Reference16Ideal.nD Cert.Reference16Ideal.τ).loc Cert.Reference16Ideal.main_v40) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite_inputs.lean ====
abbrev S4096x8x192 : Shape := ⟨3, ![4096, 8, 192]⟩
abbrev S4096x8x256 : Shape := ⟨3, ![4096, 8, 256]⟩
abbrev S4096x64 : Shape := ⟨2, ![4096, 64]⟩
abbrev S4096x8x128 : Shape := ⟨3, ![4096, 8, 128]⟩
abbrev S_ : Shape := ⟨0, ![]⟩

class Facts : Prop where
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S4096x8x256 : S_.BroadcastsInDim S4096x8x256 (![] : Fin 0 → Fin S4096x8x256.rank)
  reducesTo_S4096x8x256_S_d0_1_2 : S4096x8x256.ReducesTo [0, 1, 2] S_
  bcast_S_S4096x64 : S_.BroadcastsInDim S4096x64 (![] : Fin 0 → Fin S4096x64.rank)
  reducesTo_S4096x64_S_d0_1 : S4096x64.ReducesTo [0, 1] S_
  bcast_S_S4096x8x128 : S_.BroadcastsInDim S4096x8x128 (![] : Fin 0 → Fin S4096x8x128.rank)
  reducesTo_S4096x8x128_S_d0_1_2 : S4096x8x128.ReducesTo [0, 1, 2] S_

variable [Facts]

def fn_part1 {F : FTy → Type} [FloatOps F] (main_v13 : IVec S_ 1) (main_v16 : IVec S4096x8x128 1) : IVec S_ 1 :=
  let main_c_5 : IVec S_ 1 := constantI S_ 1 1#1
  let main_v17 : IVec S_ 1 := (fun x v => Host.reduce IntOp.andi x v reducesTo_S4096x8x128_S_d0_1_2 h_S_) main_v16 main_c_5
  let main_v18 : IVec S_ 1 := andi main_v13 main_v17
  main_v18

def fn {F : FTy → Type} [FloatOps F] (main_arg0 : FVec F S4096x8x192 .f32) (main_arg1 : FVec F S4096x8x256 .f32) (main_arg2 : FVec F S4096x64 .f32) (main_arg3 : FVec F S4096x8x128 .f32) : IVec S_ 1 :=
  let main_v0 : FVec F S4096x8x192 .f32 := Host.absf main_arg0
  let main_cst : FVec F S_ .f32 := constant S_ .f32 0x7F800000#32
  let main_v1 : FVec F S4096x8x192 .f32 := broadcastInDim S4096x8x192 ![] bcast_S_S4096x8x192 main_cst
  let main_v2 : IVec S4096x8x192 1 := cmpf .olt main_v0 main_v1
  let main_c : IVec S_ 1 := constantI S_ 1 1#1
  let main_v3 : IVec S_ 1 := (fun x v => Host.reduce IntOp.andi x v reducesTo_S4096x8x192_S_d0_1_2 h_S_) main_v2 main_c
  let main_v4 : FVec F S4096x8x256 .f32 := Host.absf main_arg1
  let main_cst_0 : FVec F S_ .f32 := constant S_ .f32 0x7F800000#32
  let main_v5 : FVec F S4096x8x256 .f32 := broadcastInDim S4096x8x256 ![] bcast_S_S4096x8x256 main_cst_0
  let main_v6 : IVec S4096x8x256 1 := cmpf .olt main_v4 main_v5
  let main_c_1 : IVec S_ 1 := constantI S_ 1 1#1
  let main_v7 : IVec S_ 1 := (fun x v => Host.reduce IntOp.andi x v reducesTo_S4096x8x256_S_d0_1_2 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x8x128 .f32 := Host.absf main_arg3
  let main_cst_4 : FVec F S_ .f32 := constant S_ .f32 0x7F800000#32
  let main_v15 : FVec F S4096x8x128 .f32 := broadcastInDim S4096x8x128 ![] bcast_S_S4096x8x128 main_cst_4
  let main_v16 : IVec S4096x8x128 1 := cmpf .olt main_v14 main_v15
  fn_part1 (F := F) main_v13 main_v16
-- ==== Kernel.lean ====
abbrev S4096x8x192 : Shape := ⟨3, ![4096, 8, 192]⟩
abbrev S4096x8x256 : Shape := ⟨3, ![4096, 8, 256]⟩
abbrev S4096x64 : Shape := ⟨2, ![4096, 64]⟩
abbrev S4096x8x128 : Shape := ⟨3, ![4096, 8, 128]⟩
abbrev S37x2 : Shape := ⟨2, ![37, 2]⟩
abbrev S8x4096x4096 : Shape := ⟨3, ![8, 4096, 4096]⟩
abbrev S4096x8x64 : Shape := ⟨3, ![4096, 8, 64]⟩
abbrev S4096x4096x8 : Shape := ⟨3, ![4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S4096x8 : Shape := ⟨2, ![4096, 8]⟩
abbrev S8x4096x64 : Shape := ⟨3, ![8, 4096, 64]⟩
abbrev S8x4096x192 : Shape := ⟨3, ![8, 4096, 192]⟩
abbrev S8x4096x256 : Shape := ⟨3, ![8, 4096, 256]⟩
abbrev S8x4096x128 : Shape := ⟨3, ![8, 4096, 128]⟩
abbrev S1x4096x64 : Shape := ⟨3, ![1, 4096, 64]⟩
abbrev S4096x2048 : Shape := ⟨2, ![4096, 2048]⟩
abbrev S4096x1024 : Shape := ⟨2, ![4096, 1024]⟩
abbrev S8x16x1x256 : Shape := ⟨4, ![8, 16, 1, 256]⟩
abbrev S1x4096x256 : Shape := ⟨3, ![1, 4096, 256]⟩
abbrev S4096x128 : Shape := ⟨2, ![4096, 128]⟩
abbrev S1x16x1x256 : Shape := ⟨4, ![1, 16, 1, 256]⟩
abbrev S4096x256 : Shape := ⟨2, ![4096, 256]⟩
abbrev S1x4096x128 : Shape := ⟨3, ![1, 4096, 128]⟩
abbrev S8x256x512 : Shape := ⟨3, ![8, 256, 512]⟩
abbrev S8x512x256 : Shape := ⟨3, ![8, 512, 256]⟩
abbrev S8x512x128 : Shape := ⟨3, ![8, 512, 128]⟩
abbrev S2x512x512 : Shape := ⟨3, ![2, 512, 512]⟩
abbrev S512x512 : Shape := ⟨2, ![512, 512]⟩
abbrev S1x1 : Shape := ⟨2, ![1, 1]⟩
abbrev S1x512x256 : Shape := ⟨3, ![1, 512, 256]⟩
abbrev S512x256 : Shape := ⟨2, ![512, 256]⟩
abbrev S512x128 : Shape := ⟨2, ![512, 128]⟩
abbrev S1x512x512 : Shape := ⟨3, ![1, 512, 512]⟩
abbrev S256x512 : Shape := ⟨2, ![256, 512]⟩
abbrev S1x256x512 : Shape := ⟨3, ![1, 256, 512]⟩
abbrev S1x1x1x256 : Shape := ⟨4, ![1, 1, 1, 256]⟩
abbrev S1x256 : Shape := ⟨2, ![1, 256]⟩
abbrev S1x512 : Shape := ⟨2, ![1, 512]⟩
abbrev S1x512x128 : Shape := ⟨3, ![1, 512, 128]⟩

abbrev nBuf : Space → Nat
  | .hbm => 69
  | .vmem => 25
  | .smem => 1
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x64, .f32⟩
  | .hbm, ⟨3, _⟩ => ⟨S4096x8x128, .f32⟩
  | .hbm, ⟨4, _⟩ => ⟨S4096x8x128, .f32⟩
  | .hbm, ⟨5, _⟩ => ⟨S4096x8x128, .f32⟩
  | .hbm, ⟨6, _⟩ => ⟨S8x4096x4096, .f32⟩
  | .hbm, ⟨7, _⟩ => ⟨S4096x8x64, .f32⟩
  | .hbm, ⟨8, _⟩ => ⟨S4096x4096x8, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S1x4096x4096, .i1⟩
  | .hbm, ⟨22, _⟩ => ⟨S_, .f32⟩
  | .hbm, ⟨23, _⟩ => ⟨S_, .f32⟩
  | .hbm, ⟨24, _⟩ => ⟨S8x4096x4096, .i1⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096, .f32⟩
  | .hbm, ⟨39, _⟩ => ⟨S8x4096x4096, .f32⟩
  | .hbm, ⟨40, _⟩ => ⟨S8x4096x4096, .f32⟩
  | .hbm, ⟨41, _⟩ => ⟨S4096x8x128, .f32⟩
  | .hbm, ⟨42, _⟩ => ⟨S8x128x4096, .f32⟩
  | .hbm, ⟨43, _⟩ => ⟨S4096x8x128, .f32⟩
  | .hbm, ⟨44, _⟩ => ⟨S4096x8x128, .f32⟩
  | .hbm, ⟨45, _⟩ => ⟨S_, .f32⟩
  | .hbm, ⟨46, _⟩ => ⟨S4096x8, .f32⟩
  | .hbm, ⟨47, _⟩ => ⟨S8x4096, .f32⟩
  | .hbm, ⟨48, _⟩ => ⟨S_, .bf16⟩
  | .hbm, ⟨49, _⟩ => ⟨S8x4096x64, .bf16⟩
  | .hbm, ⟨50, _⟩ => ⟨S8x4096x192, .f32⟩
  | .hbm, ⟨51, _⟩ => ⟨S8x4096x192, .bf16⟩
  | .hbm, ⟨52, _⟩ => ⟨S8x4096x256, .bf16⟩
  | .hbm, ⟨53, _⟩ => ⟨S4096x8x128, .f32⟩
  | .hbm, ⟨54, _⟩ => ⟨S8x4096x128, .f32⟩
  | .hbm, ⟨55, _⟩ => ⟨S8x4096x128, .bf16⟩
  | .hbm, ⟨56, _⟩ => ⟨S4096x64, .bf16⟩
  | .hbm, ⟨57, _⟩ => ⟨S1x4096x64, .bf16⟩
  | .hbm, ⟨58, _⟩ => ⟨S8x4096x64, .bf16⟩
  | .hbm, ⟨59, _⟩ => ⟨S8x4096x256, .bf16⟩
  | .hbm, ⟨60, _⟩ => ⟨S4096x2048, .f32⟩
  | .hbm, ⟨61, _⟩ => ⟨S4096x2048, .bf16⟩
  | .hbm, ⟨62, _⟩ => ⟨S4096x1024, .f32⟩
  | .hbm, ⟨63, _⟩ => ⟨S4096x1024, .bf16⟩
  | .hbm, ⟨64, _⟩ => ⟨S8x16x1x256, .f32⟩
  | .hbm, ⟨65, _⟩ => ⟨S8x16x1x256, .f32⟩
  | .hbm, ⟨66, _⟩ => ⟨S8x4096x256, .f32⟩
  | .hbm, ⟨67, _⟩ => ⟨S4096x2048, .bf16⟩
  | .hbm, ⟨68, _⟩ => ⟨S8x4096x128, .f32⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1x16x1x256, .f32⟩
  | .local _ .vmem, ⟨9, _⟩ => ⟨S1x16x1x256, .f32⟩
  | .local _ .vmem, ⟨10, _⟩ => ⟨S1x16x1x256, .f32⟩
  | .local _ .vmem, ⟨11, _⟩ => ⟨S1x16x1x256, .f32⟩
  | .local _ .vmem, ⟨12, _⟩ => ⟨S1x4096x256, .f32⟩
  | .local _ .vmem, ⟨13, _⟩ => ⟨S1x4096x256, .f32⟩
  | .local _ .vmem, ⟨14, _⟩ => ⟨S4096x256, .bf16⟩
  | .local _ .vmem, ⟨15, _⟩ => ⟨S4096x256, .bf16⟩
  | .local _ .vmem, ⟨16, _⟩ => ⟨S1x4096x128, .f32⟩
  | .local _ .vmem, ⟨17, _⟩ => ⟨S1x4096x128, .f32⟩
  | .local _ .vmem, ⟨18, _⟩ => ⟨S8x256x512, .f32⟩
  | .local _ .vmem, ⟨19, _⟩ => ⟨S8x512x256, .f32⟩
  | .local _ .vmem, ⟨20, _⟩ => ⟨S8x512x128, .f32⟩
  | .local _ .vmem, ⟨21, _⟩ => ⟨S2x512x512, .f32⟩
  | .local _ .vmem, ⟨22, _⟩ => ⟨S2x512x512, .f32⟩
  | .local _ .vmem, ⟨23, _⟩ => ⟨S8x256x512, .bf16⟩
  | .local _ .vmem, ⟨24, _⟩ => ⟨S512x512, .f32⟩
  | .local _ .smem, ⟨0, _⟩ => ⟨S37x2, .i32⟩
  | _, _ => ⟨S4096x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53_0 : Ref sig .tc := ⟨.hbm, 66, rfl⟩
abbrev main_v53_1 : Ref sig .tc := ⟨.hbm, 67, rfl⟩
abbrev main_v53_2 : Ref sig .tc := ⟨.hbm, 68, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_mult1 (v0 : BitVec 32) : BitVec 32 :=
  let c512_i32 : BitVec 32 := 512#32
  let v2 : BitVec 32 := Scalar.muli v0 c512_i32
  v2

def k0_mult2 (v1 : BitVec 32) : BitVec 32 :=
  let c512_i32_2 : BitVec 32 := 512#32
  let v4 : BitVec 32 := Scalar.muli v1 c512_i32_2
  v4

def k0_off1 (v0 : BitVec 32) : Fin 3 → Nat :=
  let c0_3 : Index := 0#32
  let c512_i32 : BitVec 32 := 512#32
  let v2 : BitVec 32 := Scalar.muli v0 c512_i32
  let v3 : BitVec 32 := v2
  let v6 : Index := Scalar.indexCast v3
  let c0_4 : Index := 0#32
  ![0, v6.toNat, 0]
def k0_off2 (v0 : BitVec 32) : Fin 2 → Nat :=
  let c512_i32 : BitVec 32 := 512#32
  let v2 : BitVec 32 := Scalar.muli v0 c512_i32
  let v3 : BitVec 32 := v2
  let v9 : Index := Scalar.indexCast v3
  let c0_5 : Index := 0#32
  ![v9.toNat, 0]

def k0_chk1 (v0 : BitVec 32) : Prop :=
  (512 ∣ (k0_mult1 v0).toNat) ∧
  (∀ a, (k0_off1 v0) a + S1x512x256.size a ≤ S1x4096x256.size a) ∧
  (∀ a, (k0_off2 v0) a + S512x128.size a ≤ S4096x128.size a)
theorem k0_mult1_dvd : ∀ (v0 : BitVec 32) (k0_hw1 : k0_chk1 v0), 512 ∣ (k0_mult1 v0).toNat := fun v0 k0_hw1 => k0_hw1.1
theorem k0_off1_inb : ∀ (v0 : BitVec 32) (k0_hw1 : k0_chk1 v0), ∀ a, (k0_off1 v0) a + S1x512x256.size a ≤ S1x4096x256.size a := fun v0 k0_hw1 => k0_hw1.2.1
theorem k0_off2_inb : ∀ (v0 : BitVec 32) (k0_hw1 : k0_chk1 v0), ∀ a, (k0_off2 v0) a + S512x128.size a ≤ S4096x128.size a := fun v0 k0_hw1 => k0_hw1.2.2

def k0_off3 (v1 : BitVec 32) : Fin 3 → Nat :=
  let c0_6 : Index := 0#32
  let c512_i32_2 : BitVec 32 := 512#32
  let v4 : BitVec 32 := Scalar.muli v1 c512_i32_2
  let v5 : BitVec 32 := v4
  let v12 : Index := Scalar.indexCast v5
  let c0_7 : Index := 0#32
  ![0, v12.toNat, 0]
def k0_off4 (v1 : BitVec 32) : Fin 2 → Nat :=
  let c512_i32_2 : BitVec 32 := 512#32
  let v4 : BitVec 32 := Scalar.muli v1 c512_i32_2
  let v5 : BitVec 32 := v4
  let v15 : Index := Scalar.indexCast v5
  let c0_8 : Index := 0#32
  ![v15.toNat, 0]

def k0_chk2 (v1 : BitVec 32) : Prop :=
  (512 ∣ (k0_mult2 v1).toNat) ∧
  (∀ a, (k0_off3 v1) a + S1x512x256.size a ≤ S1x4096x256.size a) ∧
  (∀ a, (k0_off4 v1) a + S512x128.size a ≤ S4096x128.size a)
theorem k0_mult2_dvd : ∀ (v1 : BitVec 32) (k0_hw2 : k0_chk2 v1), 512 ∣ (k0_mult2 v1).toNat := fun v1 k0_hw2 => k0_hw2.1
theorem k0_off3_inb : ∀ (v1 : BitVec 32) (k0_hw2 : k0_chk2 v1), ∀ a, (k0_off3 v1) a + S1x512x256.size a ≤ S1x4096x256.size a := fun v1 k0_hw2 => k0_hw2.2.1
theorem k0_off4_inb : ∀ (v1 : BitVec 32) (k0_hw2 : k0_chk2 v1), ∀ a, (k0_off4 v1) a + S512x128.size a ≤ S4096x128.size a := fun v1 k0_hw2 => k0_hw2.2.2

@[reducible] def k0_t1_loop : Scf.Loop 32 :=
  let c0_i32 : BitVec 32 := 0#32
  let c18_i32 : BitVec 32 := 18#32
  let v111 : BitVec 32 := Scalar.addi c0_i32 c18_i32
  let c1_i32 : BitVec 32 := 1#32
  ⟨c0_i32, v111, c1_i32⟩
def k0_off5 (k0_t1 : Fin k0_t1_loop.trips) : Fin 2 → Nat :=
  let c2_i32 : BitVec 32 := 2#32
  let c0_i32 : BitVec 32 := 0#32
  let c1_i32 : BitVec 32 := 1#32
  let arg18 : BitVec 32 := Scf.iv c0_i32 c1_i32 k0_t1
  let v264 : BitVec 32 := Scalar.muli c2_i32 arg18
  let c1_i32_219 : BitVec 32 := 1#32
  let v265 : BitVec 32 := Scalar.addi v264 c1_i32_219
  let v266 : Index := Scalar.indexCast v265
  let c0_220 : Index := 0#32
  ![v266.toNat, 0]
def k0_off6 (k0_t1 : Fin k0_t1_loop.trips) : Fin 2 → Nat :=
  let c2_i32 : BitVec 32 := 2#32
  let c0_i32 : BitVec 32 := 0#32
  let c1_i32 : BitVec 32 := 1#32
  let arg18 : BitVec 32 := Scf.iv c0_i32 c1_i32 k0_t1
  let v264 : BitVec 32 := Scalar.muli c2_i32 arg18
  let c1_i32_219 : BitVec 32 := 1#32
  let v265 : BitVec 32 := Scalar.addi v264 c1_i32_219
  let v268 : Index := Scalar.indexCast v265
  let c1_221 : Index := 1#32
  ![v268.toNat, 1]
def k0_mult3 (v267 : BitVec 32) : BitVec 32 :=
  let c512_i32_222 : BitVec 32 := 512#32
  let v270 : BitVec 32 := Scalar.muli v267 c512_i32_222
  v270

def k0_mult4 (v269 : BitVec 32) : BitVec 32 :=
  let c512_i32_223 : BitVec 32 := 512#32
  let v272 : BitVec 32 := Scalar.muli v269 c512_i32_223
  v272

def k0_off7 (v267 : BitVec 32) : Fin 3 → Nat :=
  let c0_224 : Index := 0#32
  let c512_i32_222 : BitVec 32 := 512#32
  let v270 : BitVec 32 := Scalar.muli v267 c512_i32_222
  let v271 : BitVec 32 := v270
  let v274 : Index := Scalar.indexCast v271
  let c0_225 : Index := 0#32
  ![0, v274.toNat, 0]
def k0_off8 (v267 : BitVec 32) : Fin 2 → Nat :=
  let c512_i32_222 : BitVec 32 := 512#32
  let v270 : BitVec 32 := Scalar.muli v267 c512_i32_222
  let v271 : BitVec 32 := v270
  let v277 : Index := Scalar.indexCast v271
  let c0_226 : Index := 0#32
  ![v277.toNat, 0]

def k0_chk3 (v267 : BitVec 32) : Prop :=
  (512 ∣ (k0_mult3 v267).toNat) ∧
  (∀ a, (k0_off7 v267) a + S1x512x256.size a ≤ S1x4096x256.size a) ∧
  (∀ a, (k0_off8 v267) a + S512x128.size a ≤ S4096x128.size a)
theorem k0_mult3_dvd : ∀ (v267 : BitVec 32) (k0_hw3 : k0_chk3 v267), 512 ∣ (k0_mult3 v267).toNat := fun v267 k0_hw3 => k0_hw3.1
theorem k0_off7_inb : ∀ (v267 : BitVec 32) (k0_hw3 : k0_chk3 v267), ∀ a, (k0_off7 v267) a + S1x512x256.size a ≤ S1x4096x256.size a := fun v267 k0_hw3 => k0_hw3.2.1
theorem k0_off8_inb : ∀ (v267 : BitVec 32) (k0_hw3 : k0_chk3 v267), ∀ a, (k0_off8 v267) a + S512x128.size a ≤ S4096x128.size a := fun v267 k0_hw3 => k0_hw3.2.2

def k0_off9 (v269 : BitVec 32) : Fin 3 → Nat :=
  let c0_227 : Index := 0#32
  let c512_i32_223 : BitVec 32 := 512#32
  let v272 : BitVec 32 := Scalar.muli v269 c512_i32_223
  let v273 : BitVec 32 := v272
  let v280 : Index := Scalar.indexCast v273
  let c0_228 : Index := 0#32
  ![0, v280.toNat, 0]
def k0_off10 (v269 : BitVec 32) : Fin 2 → Nat :=
  let c512_i32_223 : BitVec 32 := 512#32
  let v272 : BitVec 32 := Scalar.muli v269 c512_i32_223
  let v273 : BitVec 32 := v272
  let v283 : Index := Scalar.indexCast v273
  let c0_229 : Index := 0#32
  ![v283.toNat, 0]

def k0_chk4 (v269 : BitVec 32) : Prop :=
  (512 ∣ (k0_mult4 v269).toNat) ∧
  (∀ a, (k0_off9 v269) a + S1x512x256.size a ≤ S1x4096x256.size a) ∧
  (∀ a, (k0_off10 v269) a + S512x128.size a ≤ S4096x128.size a)
theorem k0_mult4_dvd : ∀ (v269 : BitVec 32) (k0_hw4 : k0_chk4 v269), 512 ∣ (k0_mult4 v269).toNat := fun v269 k0_hw4 => k0_hw4.1
theorem k0_off9_inb : ∀ (v269 : BitVec 32) (k0_hw4 : k0_chk4 v269), ∀ a, (k0_off9 v269) a + S1x512x256.size a ≤ S1x4096x256.size a := fun v269 k0_hw4 => k0_hw4.2.1
theorem k0_off10_inb : ∀ (v269 : BitVec 32) (k0_hw4 : k0_chk4 v269), ∀ a, (k0_off10 v269) a + S512x128.size a ≤ S4096x128.size a := fun v269 k0_hw4 => k0_hw4.2.2

def k0_off11 (k0_t1 : Fin k0_t1_loop.trips) : Fin 2 → Nat :=
  let c2_i32 : BitVec 32 := 2#32
  let c0_i32 : BitVec 32 := 0#32
  let c1_i32 : BitVec 32 := 1#32
  let arg18 : BitVec 32 := Scf.iv c0_i32 c1_i32 k0_t1
  let v264 : BitVec 32 := Scalar.muli c2_i32 arg18
  let v294 : Index := Scalar.indexCast v264
  let c0_238 : Index := 0#32
  ![v294.toNat, 0]
def k0_off12 (k0_t1 : Fin k0_t1_loop.trips) : Fin 2 → Nat :=
  let c2_i32 : BitVec 32 := 2#32
  let c0_i32 : BitVec 32 := 0#32
  let c1_i32 : BitVec 32 := 1#32
  let arg18 : BitVec 32 := Scf.iv c0_i32 c1_i32 k0_t1
  let v264 : BitVec 32 := Scalar.muli c2_i32 arg18
  let v296 : Index := Scalar.indexCast v264
  let c1_239 : Index := 1#32
  ![v296.toNat, 1]
def k0_mult5 (v297 : BitVec 32) : BitVec 32 :=
  let c512_i32_240 : BitVec 32 := 512#32
  let v298 : BitVec 32 := Scalar.muli v297 c512_i32_240
  v298

def k0_off13 (v297 : BitVec 32) : Fin 3 → Nat :=
  let c0_241 : Index := 0#32
  let c512_i32_240 : BitVec 32 := 512#32
  let v298 : BitVec 32 := Scalar.muli v297 c512_i32_240
  let v299 : BitVec 32 := v298
  let v300 : Index := Scalar.indexCast v299
  let c0_242 : Index := 0#32
  ![0, v300.toNat, 0]
def k0_off14 (v297 : BitVec 32) : Fin 2 → Nat :=
  let c512_i32_240 : BitVec 32 := 512#32
  let v298 : BitVec 32 := Scalar.muli v297 c512_i32_240
  let v299 : BitVec 32 := v298
  let v303 : Index := Scalar.indexCast v299
  let c0_243 : Index := 0#32
  ![v303.toNat, 0]
def k0_off15 (v297 : BitVec 32) (c0_i32_252 : BitVec 32) : Fin 4 → Nat :=
  let c0_253 : Index := 0#32
  let c2_i32_251 : BitVec 32 := 2#32
  let v315 : BitVec 32 := Scalar.muli c2_i32_251 v297
  let v316 : BitVec 32 := Scalar.addi v315 c0_i32_252
  let v317 : Index := Scalar.indexCast v316
  let c0_254 : Index := 0#32
  let c0_255 : Index := 0#32
  ![0, v317.toNat, 0, 0]
def k0_off16 (v295 : BitVec 32) : Fin 3 → Nat :=
  let v350 : Index := Scalar.indexCast v295
  let c0_276 : Index := 0#32
  let c0_277 : Index := 0#32
  ![v350.toNat, 0, 0]

def k0_off17 (v295 : BitVec 32) : Fin 3 → Nat :=
  let v360 : Index := Scalar.indexCast v295
  let c0_281 : Index := 0#32
  let c0_282 : Index := 0#32
  ![v360.toNat, 0, 0]
def k0_off18 (v297 : BitVec 32) : Fin 3 → Nat :=
  let v369 : Index := Scalar.indexCast v297
  let c0_286 : Index := 0#32
  let c0_287 : Index := 0#32
  ![v369.toNat, 0, 0]

def k0_chk5 (v297 : BitVec 32) : Prop :=
  (512 ∣ (k0_mult5 v297).toNat) ∧
  (∀ a, (k0_off13 v297) a + S1x512x256.size a ≤ S1x4096x256.size a) ∧
  (∀ a, (k0_off14 v297) a + S512x128.size a ≤ S4096x128.size a) ∧
  (∀ (r : Fin 2), ∀ a, (k0_off15 v297 (BitVec.ofNat 32 r.val)) a + S1x1x1x256.size a ≤ S1x16x1x256.size a) ∧
  (∀ a, (k0_off18 v297) a + S1x256x512.size a ≤ S8x256x512.size a)
theorem k0_mult5_dvd : ∀ (v297 : BitVec 32) (k0_hw5 : k0_chk5 v297), 512 ∣ (k0_mult5 v297).toNat := fun v297 k0_hw5 => k0_hw5.1
theorem k0_off13_inb : ∀ (v297 : BitVec 32) (k0_hw5 : k0_chk5 v297), ∀ a, (k0_off13 v297) a + S1x512x256.size a ≤ S1x4096x256.size a := fun v297 k0_hw5 => k0_hw5.2.1
theorem k0_off14_inb : ∀ (v297 : BitVec 32) (k0_hw5 : k0_chk5 v297), ∀ a, (k0_off14 v297) a + S512x128.size a ≤ S4096x128.size a := fun v297 k0_hw5 => k0_hw5.2.2.1
theorem k0_off15_inb : ∀ (v297 : BitVec 32) (k0_hw5 : k0_chk5 v297), ∀ (r : Fin 2), ∀ a, (k0_off15 v297 (BitVec.ofNat 32 r.val)) a + S1x1x1x256.size a ≤ S1x16x1x256.size a := fun v297 k0_hw5 r => k0_hw5.2.2.2.1 r
theorem k0_off18_inb : ∀ (v297 : BitVec 32) (k0_hw5 : k0_chk5 v297), ∀ a, (k0_off18 v297) a + S1x256x512.size a ≤ S8x256x512.size a := fun v297 k0_hw5 => k0_hw5.2.2.2.2

def k0_off19 (v295 : BitVec 32) : Fin 3 → Nat :=
  let v372 : Index := Scalar.indexCast v295
  let c0_288 : Index := 0#32
  let c0_289 : Index := 0#32
  ![v372.toNat, 0, 0]

def k0_chk6 (v295 : BitVec 32) : Prop :=
  (∀ a, (k0_off16 v295) a + S1x512x128.size a ≤ S8x512x128.size a) ∧
  (∀ a, (k0_off17 v295) a + S1x512x256.size a ≤ S8x512x256.size a) ∧
  (∀ a, (k0_off19 v295) a + S1x256x512.size a ≤ S8x256x512.size a)
theorem k0_off16_inb : ∀ (v295 : BitVec 32) (k0_hw6 : k0_chk6 v295), ∀ a, (k0_off16 v295) a + S1x512x128.size a ≤ S8x512x128.size a := fun v295 k0_hw6 => k0_hw6.1
theorem k0_off17_inb : ∀ (v295 : BitVec 32) (k0_hw6 : k0_chk6 v295), ∀ a, (k0_off17 v295) a + S1x512x256.size a ≤ S8x512x256.size a := fun v295 k0_hw6 => k0_hw6.2.1
theorem k0_off19_inb : ∀ (v295 : BitVec 32) (k0_hw6 : k0_chk6 v295), ∀ a, (k0_off19 v295) a + S1x256x512.size a ≤ S8x256x512.size a := fun v295 k0_hw6 => k0_hw6.2.2

def k0_off20 (k0_t1 : Fin k0_t1_loop.trips) : Fin 2 → Nat :=
  let c2_i32 : BitVec 32 := 2#32
  let c0_i32 : BitVec 32 := 0#32
  let c1_i32 : BitVec 32 := 1#32
  let arg18 : BitVec 32 := Scf.iv c0_i32 c1_i32 k0_t1
  let v264 : BitVec 32 := Scalar.muli c2_i32 arg18
  let c2_i32_293 : BitVec 32 := 2#32
  let v381 : BitVec 32 := Scalar.addi v264 c2_i32_293
  let v382 : Index := Scalar.indexCast v381
  let c0_294 : Index := 0#32
  ![v382.toNat, 0]
def k0_off21 (k0_t1 : Fin k0_t1_loop.trips) : Fin 2 → Nat :=
  let c2_i32 : BitVec 32 := 2#32
  let c0_i32 : BitVec 32 := 0#32
  let c1_i32 : BitVec 32 := 1#32
  let arg18 : BitVec 32 := Scf.iv c0_i32 c1_i32 k0_t1
  let v264 : BitVec 32 := Scalar.muli c2_i32 arg18
  let c2_i32_293 : BitVec 32 := 2#32
  let v381 : BitVec 32 := Scalar.addi v264 c2_i32_293
  let v384 : Index := Scalar.indexCast v381
  let c1_295 : Index := 1#32
  ![v384.toNat, 1]
def k0_mult6 (v383 : BitVec 32) : BitVec 32 :=
  let c512_i32_296 : BitVec 32 := 512#32
  let v386 : BitVec 32 := Scalar.muli v383 c512_i32_296
  v386

def k0_mult7 (v385 : BitVec 32) : BitVec 32 :=
  let c512_i32_297 : BitVec 32 := 512#32
  let v388 : BitVec 32 := Scalar.muli v385 c512_i32_297
  v388

def k0_off22 (v383 : BitVec 32) : Fin 3 → Nat :=
  let c0_298 : Index := 0#32
  let c512_i32_296 : BitVec 32 := 512#32
  let v386 : BitVec 32 := Scalar.muli v383 c512_i32_296
  let v387 : BitVec 32 := v386
  let v390 : Index := Scalar.indexCast v387
  let c0_299 : Index := 0#32
  ![0, v390.toNat, 0]
def k0_off23 (v383 : BitVec 32) : Fin 2 → Nat :=
  let c512_i32_296 : BitVec 32 := 512#32
  let v386 : BitVec 32 := Scalar.muli v383 c512_i32_296
  let v387 : BitVec 32 := v386
  let v393 : Index := Scalar.indexCast v387
  let c0_300 : Index := 0#32
  ![v393.toNat, 0]

def k0_chk7 (v383 : BitVec 32) : Prop :=
  (512 ∣ (k0_mult6 v383).toNat) ∧
  (∀ a, (k0_off22 v383) a + S1x512x256.size a ≤ S1x4096x256.size a) ∧
  (∀ a, (k0_off23 v383) a + S512x128.size a ≤ S4096x128.size a)
theorem k0_mult6_dvd : ∀ (v383 : BitVec 32) (k0_hw7 : k0_chk7 v383), 512 ∣ (k0_mult6 v383).toNat := fun v383 k0_hw7 => k0_hw7.1
theorem k0_off22_inb : ∀ (v383 : BitVec 32) (k0_hw7 : k0_chk7 v383), ∀ a, (k0_off22 v383) a + S1x512x256.size a ≤ S1x4096x256.size a := fun v383 k0_hw7 => k0_hw7.2.1
theorem k0_off23_inb : ∀ (v383 : BitVec 32) (k0_hw7 : k0_chk7 v383), ∀ a, (k0_off23 v383) a + S512x128.size a ≤ S4096x128.size a := fun v383 k0_hw7 => k0_hw7.2.2

def k0_off24 (v385 : BitVec 32) : Fin 3 → Nat :=
  let c0_301 : Index := 0#32
  let c512_i32_297 : BitVec 32 := 512#32
  let v388 : BitVec 32 := Scalar.muli v385 c512_i32_297
  let v389 : BitVec 32 := v388
  let v396 : Index := Scalar.indexCast v389
  let c0_302 : Index := 0#32
  ![0, v396.toNat, 0]
def k0_off25 (v385 : BitVec 32) : Fin 2 → Nat :=
  let c512_i32_297 : BitVec 32 := 512#32
  let v388 : BitVec 32 := Scalar.muli v385 c512_i32_297
  let v389 : BitVec 32 := v388
  let v399 : Index := Scalar.indexCast v389
  let c0_303 : Index := 0#32
  ![v399.toNat, 0]

def k0_chk8 (v385 : BitVec 32) : Prop :=
  (512 ∣ (k0_mult7 v385).toNat) ∧
  (∀ a, (k0_off24 v385) a + S1x512x256.size a ≤ S1x4096x256.size a) ∧
  (∀ a, (k0_off25 v385) a + S512x128.size a ≤ S4096x128.size a)
theorem k0_mult7_dvd : ∀ (v385 : BitVec 32) (k0_hw8 : k0_chk8 v385), 512 ∣ (k0_mult7 v385).toNat := fun v385 k0_hw8 => k0_hw8.1
theorem k0_off24_inb : ∀ (v385 : BitVec 32) (k0_hw8 : k0_chk8 v385), ∀ a, (k0_off24 v385) a + S1x512x256.size a ≤ S1x4096x256.size a := fun v385 k0_hw8 => k0_hw8.2.1
theorem k0_off25_inb : ∀ (v385 : BitVec 32) (k0_hw8 : k0_chk8 v385), ∀ a, (k0_off25 v385) a + S512x128.size a ≤ S4096x128.size a := fun v385 k0_hw8 => k0_hw8.2.2

def k0_off26 (k0_t1 : Fin k0_t1_loop.trips) : Fin 2 → Nat :=
  let c2_i32 : BitVec 32 := 2#32
  let c0_i32 : BitVec 32 := 0#32
  let c1_i32 : BitVec 32 := 1#32
  let arg18 : BitVec 32 := Scf.iv c0_i32 c1_i32 k0_t1
  let v264 : BitVec 32 := Scalar.muli c2_i32 arg18
  let c1_i32_312 : BitVec 32 := 1#32
  let v410 : BitVec 32 := Scalar.addi v264 c1_i32_312
  let v411 : Index := Scalar.indexCast v410
  let c0_313 : Index := 0#32
  ![v411.toNat, 0]
def k0_off27 (k0_t1 : Fin k0_t1_loop.trips) : Fin 2 → Nat :=
  let c2_i32 : BitVec 32 := 2#32
  let c0_i32 : BitVec 32 := 0#32
  let c1_i32 : BitVec 32 := 1#32
  let arg18 : BitVec 32 := Scf.iv c0_i32 c1_i32 k0_t1
  let v264 : BitVec 32 := Scalar.muli c2_i32 arg18
  let c1_i32_312 : BitVec 32 := 1#32
  let v410 : BitVec 32 := Scalar.addi v264 c1_i32_312
  let v413 : Index := Scalar.indexCast v410
  let c1_314 : Index := 1#32
  ![v413.toNat, 1]
def k0_mult8 (v414 : BitVec 32) : BitVec 32 :=
  let c512_i32_315 : BitVec 32 := 512#32
  let v415 : BitVec 32 := Scalar.muli v414 c512_i32_315
  v415

def k0_off28 (v414 : BitVec 32) : Fin 3 → Nat :=
  let c0_316 : Index := 0#32
  let c512_i32_315 : BitVec 32 := 512#32
  let v415 : BitVec 32 := Scalar.muli v414 c512_i32_315
  let v416 : BitVec 32 := v415
  let v417 : Index := Scalar.indexCast v416
  let c0_317 : Index := 0#32
  ![0, v417.toNat, 0]
def k0_off29 (v414 : BitVec 32) : Fin 2 → Nat :=
  let c512_i32_315 : BitVec 32 := 512#32
  let v415 : BitVec 32 := Scalar.muli v414 c512_i32_315
  let v416 : BitVec 32 := v415
  let v420 : Index := Scalar.indexCast v416
  let c0_318 : Index := 0#32
  ![v420.toNat, 0]
def k0_off30 (v414 : BitVec 32) (c0_i32_327 : BitVec 32) : Fin 4 → Nat :=
  let c0_328 : Index := 0#32
  let c2_i32_326 : BitVec 32 := 2#32
  let v432 : BitVec 32 := Scalar.muli c2_i32_326 v414
  let v433 : BitVec 32 := Scalar.addi v432 c0_i32_327
  let v434 : Index := Scalar.indexCast v433
  let c0_329 : Index := 0#32
  let c0_330 : Index := 0#32
  ![0, v434.toNat, 0, 0]
def k0_off31 (v412 : BitVec 32) : Fin 3 → Nat :=
  let v467 : Index := Scalar.indexCast v412
  let c0_351 : Index := 0#32
  let c0_352 : Index := 0#32
  ![v467.toNat, 0, 0]

def k0_off32 (v412 : BitVec 32) : Fin 3 → Nat :=
  let v477 : Index := Scalar.indexCast v412
  let c0_356 : Index := 0#32
  let c0_357 : Index := 0#32
  ![v477.toNat, 0, 0]
def k0_off33 (v414 : BitVec 32) : Fin 3 → Nat :=
  let v486 : Index := Scalar.indexCast v414
  let c0_361 : Index := 0#32
  let c0_362 : Index := 0#32
  ![v486.toNat, 0, 0]

def k0_chk9 (v414 : BitVec 32) : Prop :=
  (512 ∣ (k0_mult8 v414).toNat) ∧
  (∀ a, (k0_off28 v414) a + S1x512x256.size a ≤ S1x4096x256.size a) ∧
  (∀ a, (k0_off29 v414) a + S512x128.size a ≤ S4096x128.size a) ∧
  (∀ (r : Fin 2), ∀ a, (k0_off30 v414 (BitVec.ofNat 32 r.val)) a + S1x1x1x256.size a ≤ S1x16x1x256.size a) ∧
  (∀ a, (k0_off33 v414) a + S1x256x512.size a ≤ S8x256x512.size a)
theorem k0_mult8_dvd : ∀ (v414 : BitVec 32) (k0_hw9 : k0_chk9 v414), 512 ∣ (k0_mult8 v414).toNat := fun v414 k0_hw9 => k0_hw9.1
theorem k0_off28_inb : ∀ (v414 : BitVec 32) (k0_hw9 : k0_chk9 v414), ∀ a, (k0_off28 v414) a + S1x512x256.size a ≤ S1x4096x256.size a := fun v414 k0_hw9 => k0_hw9.2.1
theorem k0_off29_inb : ∀ (v414 : BitVec 32) (k0_hw9 : k0_chk9 v414), ∀ a, (k0_off29 v414) a + S512x128.size a ≤ S4096x128.size a := fun v414 k0_hw9 => k0_hw9.2.2.1
theorem k0_off30_inb : ∀ (v414 : BitVec 32) (k0_hw9 : k0_chk9 v414), ∀ (r : Fin 2), ∀ a, (k0_off30 v414 (BitVec.ofNat 32 r.val)) a + S1x1x1x256.size a ≤ S1x16x1x256.size a := fun v414 k0_hw9 r => k0_hw9.2.2.2.1 r
theorem k0_off33_inb : ∀ (v414 : BitVec 32) (k0_hw9 : k0_chk9 v414), ∀ a, (k0_off33 v414) a + S1x256x512.size a ≤ S8x256x512.size a := fun v414 k0_hw9 => k0_hw9.2.2.2.2

def k0_off34 (v412 : BitVec 32) : Fin 3 → Nat :=
  let v489 : Index := Scalar.indexCast v412
  let c0_363 : Index := 0#32
  let c0_364 : Index := 0#32
  ![v489.toNat, 0, 0]

def k0_chk10 (v412 : BitVec 32) : Prop :=
  (∀ a, (k0_off31 v412) a + S1x512x128.size a ≤ S8x512x128.size a) ∧
  (∀ a, (k0_off32 v412) a + S1x512x256.size a ≤ S8x512x256.size a) ∧
  (∀ a, (k0_off34 v412) a + S1x256x512.size a ≤ S8x256x512.size a)
theorem k0_off31_inb : ∀ (v412 : BitVec 32) (k0_hw10 : k0_chk10 v412), ∀ a, (k0_off31 v412) a + S1x512x128.size a ≤ S8x512x128.size a := fun v412 k0_hw10 => k0_hw10.1
theorem k0_off32_inb : ∀ (v412 : BitVec 32) (k0_hw10 : k0_chk10 v412), ∀ a, (k0_off32 v412) a + S1x512x256.size a ≤ S8x512x256.size a := fun v412 k0_hw10 => k0_hw10.2.1
theorem k0_off34_inb : ∀ (v412 : BitVec 32) (k0_hw10 : k0_chk10 v412), ∀ a, (k0_off34 v412) a + S1x256x512.size a ≤ S8x256x512.size a := fun v412 k0_hw10 => k0_hw10.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "exp2_scale" => some (((Real.sqrt 192)⁻¹ * (Real.log 2)⁻¹ : ℝ) : EReal)
  | "log2e" => some (((Real.log 2)⁻¹ : ℝ) : EReal)
  | "scale" => some (((Real.sqrt 192)⁻¹ : ℝ) : EReal)
  | _ => none
-- ==== ReferenceIdeal.lean ====
abbrev S4096x8x192 : Shape := ⟨3, ![4096, 8, 192]⟩
abbrev S4096x8x256 : Shape := ⟨3, ![4096, 8, 256]⟩
abbrev S4096x64 : Shape := ⟨2, ![4096, 64]⟩
abbrev S4096x8x128 : Shape := ⟨3, ![4096, 8, 128]⟩
abbrev S4096x1x64 : Shape := ⟨3, ![4096, 1, 64]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S8x4096 : Shape := ⟨2, ![8, 4096]⟩
abbrev S8x4096x1 : Shape := ⟨3, ![8, 4096, 1]⟩
abbrev S8x128x4096 : Shape := ⟨3, ![8, 128, 4096]⟩
abbrev S8x4096x64 : Shape := ⟨3, ![8, 4096, 64]⟩
abbrev S8x4096x128 : Shape := ⟨3, ![8, 4096, 128]⟩
abbrev S8x4096x192 : Shape := ⟨3, ![8, 4096, 192]⟩
abbrev S8x4096x256 : Shape := ⟨3, ![8, 4096, 256]⟩
abbrev S4096x2048 : Shape := ⟨2, ![4096, 2048]⟩

abbrev nBuf : Space → Nat
  | .hbm => 122
  | .vmem => 0
  | .smem => 0
  | _ => 0

abbrev bufTy : (tb : Table) → Fin (tcTables nBuf tb) → BufTy
  | .hbm, ⟨0, _⟩ => ⟨S4096x8x192, .f32⟩
  | .hbm, ⟨1, _⟩ => ⟨S4096x8x256, .f32⟩
  | .hbm, ⟨2, _⟩ => ⟨S4096x64, .f32⟩
  | .hbm, ⟨3, _⟩ => ⟨S4096x8x128, .f32⟩
  | .hbm, ⟨4, _⟩ => ⟨S4096x1x64, .f32⟩
  | .hbm, ⟨5, _⟩ => ⟨S4096x8x64, .f32⟩
  | .hbm, ⟨6, _⟩ => ⟨S4096x8x128, .f32⟩
  | .hbm, ⟨7, _⟩ => ⟨S4096x8x128, .f32⟩
  | .hbm, ⟨8, _⟩ => ⟨S8x4096x4096, .f32⟩
  | .hbm, ⟨9, _⟩ => ⟨S4096x8x64, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S1x4096, .i32⟩
  | .hbm, ⟨18, _⟩ => ⟨S4096x1, .i32⟩
  | .hbm, ⟨19, _⟩ => ⟨S4096x4096, .i32⟩
  | .hbm, ⟨20, _⟩ => ⟨S4096x4096, .i32⟩
  | .hbm, ⟨21, _⟩ => ⟨S4096x4096, .i1⟩
  | .hbm, ⟨22, _⟩ => ⟨S1x4096x4096, .i1⟩
  | .hbm, ⟨23, _⟩ => ⟨S_, .f32⟩
  | .hbm, ⟨24, _⟩ => ⟨S_, .f32⟩
  | .hbm, ⟨25, _⟩ => ⟨S8x4096x4096, .i1⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096x4096, .f32⟩
  | .hbm, ⟨30, _⟩ => ⟨S_, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .i1⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S8x4096, .i1⟩
  | .hbm, ⟨44, _⟩ => ⟨S_, .f32⟩
  | .hbm, ⟨45, _⟩ => ⟨S8x4096, .f32⟩
  | .hbm, ⟨46, _⟩ => ⟨S8x4096, .i1⟩
  | .hbm, ⟨47, _⟩ => ⟨S_, .f32⟩
  | .hbm, ⟨48, _⟩ => ⟨S8x4096, .f32⟩
  | .hbm, ⟨49, _⟩ => ⟨S_, .f32⟩
  | .hbm, ⟨50, _⟩ => ⟨S8x4096, .f32⟩
  | .hbm, ⟨51, _⟩ => ⟨S_, .f32⟩
  | .hbm, ⟨52, _⟩ => ⟨S8x4096, .f32⟩
  | .hbm, ⟨53, _⟩ => ⟨S8x4096, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S4096x8x128, .f32⟩
  | .hbm, ⟨69, _⟩ => ⟨S8x128x4096, .f32⟩
  | .hbm, ⟨70, _⟩ => ⟨S4096x8x128, .f32⟩
  | .hbm, ⟨71, _⟩ => ⟨S8x128x4096, .f32⟩
  | .hbm, ⟨72, _⟩ => ⟨S8x4096x4096, .f32⟩
  | .hbm, ⟨73, _⟩ => ⟨S8x128x4096, .f32⟩
  | .hbm, ⟨74, _⟩ => ⟨S4096x8x128, .f32⟩
  | .hbm, ⟨75, _⟩ => ⟨S_, .f32⟩
  | .hbm, ⟨76, _⟩ => ⟨S4096x8x256, .f32⟩
  | .hbm, ⟨77, _⟩ => ⟨S8x4096x4096, .f32⟩
  | .hbm, ⟨78, _⟩ => ⟨S8x4096x4096, .f32⟩
  | .hbm, ⟨79, _⟩ => ⟨S8x4096x4096, .f32⟩
  | .hbm, ⟨80, _⟩ => ⟨S_, .f32⟩
  | .hbm, ⟨81, _⟩ => ⟨S8x4096, .f32⟩
  | .hbm, ⟨82, _⟩ => ⟨S8x4096x1, .f32⟩
  | .hbm, ⟨83, _⟩ => ⟨S8x4096x1, .f32⟩
  | .hbm, ⟨84, _⟩ => ⟨S8x4096x4096, .f32⟩
  | .hbm, ⟨85, _⟩ => ⟨S8x4096x4096, .f32⟩
  | .hbm, ⟨86, _⟩ => ⟨S_, .f32⟩
  | .hbm, ⟨87, _⟩ => ⟨S8x4096, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S_, .f32⟩
  | .hbm, ⟨92, _⟩ => ⟨S8x4096x4096, .f32⟩
  | .hbm, ⟨93, _⟩ => ⟨S8x4096x4096, .f32⟩
  | .hbm, ⟨94, _⟩ => ⟨S8x4096x4096, .f32⟩
  | .hbm, ⟨95, _⟩ => ⟨S8x4096x4096, .f32⟩
  | .hbm, ⟨96, _⟩ => ⟨S8x4096x64, .f32⟩
  | .hbm, ⟨97, _⟩ => ⟨S4096x8x64, .f32⟩
  | .hbm, ⟨98, _⟩ => ⟨S8x4096x64, .f32⟩
  | .hbm, ⟨99, _⟩ => ⟨S4096x8x64, .f32⟩
  | .hbm, ⟨100, _⟩ => ⟨S_, .f32⟩
  | .hbm, ⟨101, _⟩ => ⟨S4096x8x192, .f32⟩
  | .hbm, ⟨102, _⟩ => ⟨S8x4096x128, .f32⟩
  | .hbm, ⟨103, _⟩ => ⟨S4096x8x128, .f32⟩
  | .hbm, ⟨104, _⟩ => ⟨S8x4096x128, .f32⟩
  | .hbm, ⟨105, _⟩ => ⟨S4096x8x128, .f32⟩
  | .hbm, ⟨106, _⟩ => ⟨S_, .f32⟩
  | .hbm, ⟨107, _⟩ => ⟨S4096x8x256, .f32⟩
  | .hbm, ⟨108, _⟩ => ⟨S4096x8x256, .f32⟩
  | .hbm, ⟨109, _⟩ => ⟨S_, .f32⟩
  | .hbm, ⟨110, _⟩ => ⟨S4096x8x192, .f32⟩
  | .hbm, ⟨111, _⟩ => ⟨S4096x8x192, .f32⟩
  | .hbm, ⟨112, _⟩ => ⟨S8x4096x192, .f32⟩
  | .hbm, ⟨113, _⟩ => ⟨S_, .i32⟩
  | .hbm, ⟨114, _⟩ => ⟨S_, .f32⟩
  | .hbm, ⟨115, _⟩ => ⟨S8x4096x256, .f32⟩
  | .hbm, ⟨116, _⟩ => ⟨S4096x2048, .f32⟩
  | .hbm, ⟨117, _⟩ => ⟨S4096x2048, .bf16⟩
  | .hbm, ⟨118, _⟩ => ⟨S8x4096x64, .f32⟩
  | .hbm, ⟨119, _⟩ => ⟨S_, .i32⟩
  | .hbm, ⟨120, _⟩ => ⟨S_, .f32⟩
  | .hbm, ⟨121, _⟩ => ⟨S8x4096x128, .f32⟩
  | _, _ => ⟨S4096x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_v18_1 : Ref sig .tc := ⟨.hbm, 25, rfl⟩
abbrev main_call0_v2 : Ref sig .tc := ⟨.hbm, 26, rfl⟩
abbrev main_v18_0 : Ref sig .tc := ⟨.hbm, 27, rfl⟩
abbrev main_call0_cst : Ref sig .tc := ⟨.hbm, 28, rfl⟩
abbrev main_v18_2 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_call1_cst : Ref sig .tc := ⟨.hbm, 91, rfl⟩
abbrev main_call1_v0 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c : Ref sig .tc := ⟨.hbm, 113, rfl⟩
abbrev main_call2_v0 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_call3_v0 : Ref sig .tc := ⟨.hbm, 120, rfl⟩
abbrev main_v88 : Ref sig .tc := ⟨.hbm, 121, rfl⟩

abbrev nD : Nat := 1
abbrev τ : Topo := Topo.v7x

variable {F : FTy → Type} [FloatOps F]
-- ==== Kernel2.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S4096x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x2048 : Shape := ⟨2, ![4096, 2048]⟩
abbrev S2048x5120 : Shape := ⟨2, ![2048, 5120]⟩
abbrev S4096x5120 : Shape := ⟨2, ![4096, 5120]⟩
abbrev S5120x2048 : Shape := ⟨2, ![5120, 2048]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x5120, .f32⟩
  | .hbm, ⟨3, _⟩ => ⟨S4096x5120, .bf16⟩
  | .hbm, ⟨4, _⟩ => ⟨S4096x2048, .bf16⟩
  | .hbm, ⟨5, _⟩ => ⟨S5120x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x5120 : Shape := ⟨2, ![2048, 5120]⟩
abbrev S4096x5120 : Shape := ⟨2, ![4096, 5120]⟩
abbrev S5120x2048 : Shape := ⟨2, ![5120, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x5120, .f32⟩
  | .hbm, ⟨3, _⟩ => ⟨S4096x5120, .f32⟩
  | .hbm, ⟨4, _⟩ => ⟨S5120x2048, .f32⟩
  | .hbm, ⟨5, _⟩ => ⟨S2048x5120, .f32⟩
  | .hbm, ⟨6, _⟩ => ⟨S4096x2048, .f32⟩
  | .hbm, ⟨7, _⟩ => ⟨S5120x2048, .f32⟩
  | .hbm, ⟨8, _⟩ => ⟨S5120x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S2048x5120 : Shape := ⟨2, ![2048, 5120]⟩
abbrev S4096x5120 : Shape := ⟨2, ![4096, 5120]⟩
abbrev S5120x2048 : Shape := ⟨2, ![5120, 2048]⟩
abbrev S1024x2560 : Shape := ⟨2, ![1024, 2560]⟩
abbrev S2560x1024 : Shape := ⟨2, ![2560, 1024]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x5120, .f32⟩
  | .hbm, ⟨3, _⟩ => ⟨S4096x2048, .f32⟩
  | .hbm, ⟨4, _⟩ => ⟨S4096x5120, .bf16⟩
  | .hbm, ⟨5, _⟩ => ⟨S5120x2048, .f32⟩
  | .hbm, ⟨6, _⟩ => ⟨S5120x2048, .bf16⟩
  | .hbm, ⟨7, _⟩ => ⟨S4096x2048, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S2048x5120 : Shape := ⟨2, ![2048, 5120]⟩
abbrev S4096x5120 : Shape := ⟨2, ![4096, 5120]⟩
abbrev S_ : Shape := ⟨0, ![]⟩
abbrev S5120x2048 : Shape := ⟨2, ![5120, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x5120, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x5120, .f32⟩
  | .hbm, ⟨8, _⟩ => ⟨S5120x2048, .f32⟩
  | .hbm, ⟨9, _⟩ => ⟨S2048x5120, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel6.lean ====
abbrev S4096x2048 : Shape := ⟨2, ![4096, 2048]⟩
abbrev S2048x5120 : Shape := ⟨2, ![2048, 5120]⟩
abbrev S5120x2048 : Shape := ⟨2, ![5120, 2048]⟩
abbrev S4096x5120 : Shape := ⟨2, ![4096, 5120]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x2048, .bf16⟩
  | .hbm, ⟨3, _⟩ => ⟨S5120x2048, .f32⟩
  | .hbm, ⟨4, _⟩ => ⟨S5120x2048, .bf16⟩
  | .hbm, ⟨5, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x5120 : Shape := ⟨2, ![2048, 5120]⟩
abbrev S4096x5120 : Shape := ⟨2, ![4096, 5120]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x5120, .f32⟩
  | .hbm, ⟨2, _⟩ => ⟨S4096x5120, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S4096x2048, .bf16⟩
  | .hbm, ⟨5, _⟩ => ⟨S1x2048, .f32⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel8.lean ====
abbrev S4096x512 : Shape := ⟨2, ![4096, 512]⟩
abbrev S512x1536 : Shape := ⟨2, ![512, 1536]⟩
abbrev S4096x1536 : Shape := ⟨2, ![4096, 1536]⟩
abbrev S2048x512 : Shape := ⟨2, ![2048, 512]⟩
abbrev S2048x768 : Shape := ⟨2, ![2048, 768]⟩
abbrev S512x768 : Shape := ⟨2, ![512, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S4096x1536, .f32⟩
  | .hbm, ⟨3, _⟩ => ⟨S4096x512, .bf16⟩
  | .hbm, ⟨4, _⟩ => ⟨S4096x1536, .bf16⟩
  | .hbm, ⟨5, _⟩ => ⟨S512x1536, .bf16⟩
  | .local _ .vmem, ⟨0, _⟩ => ⟨S2048x512, .bf16⟩
  | .local _ .vmem, ⟨1, _⟩ => ⟨S2048x512, .bf16⟩
  | .local _ .vmem, ⟨2, _⟩ => ⟨S2048x768, .bf16⟩
  | .local _ .vmem, ⟨3, _⟩ => ⟨S2048x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x512 : Shape := ⟨2, ![4096, 512]⟩
abbrev S512x1536 : Shape := ⟨2, ![512, 1536]⟩
abbrev S4096x1536 : Shape := ⟨2, ![4096, 1536]⟩
abbrev S1536x512 : Shape := ⟨2, ![1536, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1536, .f32⟩
  | .hbm, ⟨2, _⟩ => ⟨S4096x1536, .f32⟩
  | .hbm, ⟨3, _⟩ => ⟨S4096x1536, .f32⟩
  | .hbm, ⟨4, _⟩ => ⟨S1536x512, .f32⟩
  | .hbm, ⟨5, _⟩ => ⟨S512x1536, .f32⟩
  | .hbm, ⟨6, _⟩ => ⟨S4096x512, .f32⟩
  | .hbm, ⟨7, _⟩ => ⟨S512x1536, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x256, .bf16⟩
  | .hbm, ⟨4, _⟩ => ⟨S4096x2048, .bf16⟩
  | .hbm, ⟨5, _⟩ => ⟨S256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x256 : Shape := ⟨2, ![4096, 256]⟩
abbrev S256x2048 : Shape := ⟨2, ![256, 2048]⟩
abbrev S4096x2048 : Shape := ⟨2, ![4096, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S4096x2048, .f32⟩
  | .hbm, ⟨3, _⟩ => ⟨S4096x2048, .f32⟩
  | .hbm, ⟨4, _⟩ => ⟨S2048x256, .f32⟩
  | .hbm, ⟨5, _⟩ => ⟨S256x2048, .f32⟩
  | .hbm, ⟨6, _⟩ => ⟨S4096x256, .f32⟩
  | .hbm, ⟨7, _⟩ => ⟨S256x2048, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8x512x192 : Shape := ⟨3, ![8, 512, 192]⟩
abbrev S2x512x192 : Shape := ⟨3, ![2, 512, 192]⟩
abbrev S8x256x192 : Shape := ⟨3, ![8, 256, 192]⟩
abbrev S1x256x192 : Shape := ⟨3, ![1, 256, 192]⟩
abbrev S256x192 : Shape := ⟨2, ![256, 192]⟩

abbrev nBuf : Space → Nat
  | .hbm => 9
  | .vmem => 19
  | .smem => 0
  | _ => 0

abbrev bufTy : (tb : Table) → Fin (tcTables nBuf tb) → BufTy
  | .hbm, ⟨0, _⟩ => ⟨S8x512x192, .bf16⟩
  | .hbm, ⟨1, _⟩ => ⟨S8x512x192, .bf16⟩
  | .hbm, ⟨2, _⟩ => ⟨S2x512x192, .f32⟩
  | .hbm, ⟨3, _⟩ => ⟨S2x512x192, .f32⟩
  | .hbm, ⟨4, _⟩ => ⟨S2x512x192, .f32⟩
  | .hbm, ⟨5, _⟩ => ⟨S2x512x192, .f32⟩
  | .hbm, ⟨6, _⟩ => ⟨S2x512x192, .f32⟩
  | .hbm, ⟨7, _⟩ => ⟨S2x512x192, .f32⟩
  | .hbm, ⟨8, _⟩ => ⟨S2x512x192, .f32⟩
  | .local _ .vmem, ⟨0, _⟩ => ⟨S8x256x192, .bf16⟩
  | .local _ .vmem, ⟨1, _⟩ => ⟨S8x256x192, .bf16⟩
  | .local _ .vmem, ⟨2, _⟩ => ⟨S8x256x192, .bf16⟩
  | .local _ .vmem, ⟨3, _⟩ => ⟨S8x256x192, .bf16⟩
  | .local _ .vmem, ⟨4, _⟩ => ⟨S1x256x192, .f32⟩
  | .local _ .vmem, ⟨5, _⟩ => ⟨S1x256x192, .f32⟩
  | .local _ .vmem, ⟨6, _⟩ => ⟨S1x256x192, .f32⟩
  | .local _ .vmem, ⟨7, _⟩ => ⟨S1x256x192, .f32⟩
  | .local _ .vmem, ⟨8, _⟩ => ⟨S1x256x192, .f32⟩
  | .local _ .vmem, ⟨9, _⟩ => ⟨S1x256x192, .f32⟩
  | .local _ .vmem, ⟨10, _⟩ => ⟨S1x256x192, .f32⟩
  | .local _ .vmem, ⟨11, _⟩ => ⟨S1x256x192, .f32⟩
  | .local _ .vmem, ⟨12, _⟩ => ⟨S1x256x192, .f32⟩
  | .local _ .vmem, ⟨13, _⟩ => ⟨S1x256x192, .f32⟩
  | .local _ .vmem, ⟨14, _⟩ => ⟨S1x256x192, .f32⟩
  | .local _ .vmem, ⟨15, _⟩ => ⟨S1x256x192, .f32⟩
  | .local _ .vmem, ⟨16, _⟩ => ⟨S1x256x192, .f32⟩
  | .local _ .vmem, ⟨17, _⟩ => ⟨S1x256x192, .f32⟩
  | .local _ .vmem, ⟨18, _⟩ => ⟨S256x192, .f32⟩
  | _, _ => ⟨S8x512x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  let c0_i32_16 : BitVec 32 := 0#32
  ![c0_i32_15.toNat, v20.toNat, v30.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c1_i32_1 : BitVec 32 := 1#32
  let v2 : BitVec 32 := Scalar.select v1 c1_i32_1 arg1
  let c0_i32 : BitVec 32 := 0#32
  let v3 : BitVec 32 := Scalar.select v0 c0_i32 v2
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  let c0_i32_16 : BitVec 32 := 0#32
  ![c0_i32_15.toNat, v20.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

abbrev stage0_0 : Fin 2 → Memref sig .tc .vmem S8x256x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S8x512x192 : Shape := ⟨3, ![8, 512, 192]⟩
abbrev S2x512x192 : Shape := ⟨3, ![2, 512, 192]⟩
abbrev S_ : Shape := ⟨0, ![]⟩
abbrev S512x192 : Shape := ⟨2, ![512, 192]⟩
abbrev S1x512x192 : Shape := ⟨3, ![1, 512, 192]⟩

abbrev nBuf : Space → Nat
  | .hbm => 47
  | .vmem => 0
  | .smem => 0
  | _ => 0

abbrev bufTy : (tb : Table) → Fin (tcTables nBuf tb) → BufTy
  | .hbm, ⟨0, _⟩ => ⟨S8x512x192, .bf16⟩
  | .hbm, ⟨1, _⟩ => ⟨S8x512x192, .bf16⟩
  | .hbm, ⟨2, _⟩ => ⟨S2x512x192, .f32⟩
  | .hbm, ⟨3, _⟩ => ⟨S2x512x192, .f32⟩
  | .hbm, ⟨4, _⟩ => ⟨S2x512x192, .f32⟩
  | .hbm, ⟨5, _⟩ => ⟨S8x512x192, .f32⟩
  | .hbm, ⟨6, _⟩ => ⟨S_, .f32⟩
  | .hbm, ⟨7, _⟩ => ⟨S512x192, .f32⟩
  | .hbm, ⟨8, _⟩ => ⟨S8x512x192, .f32⟩
  | .hbm, ⟨9, _⟩ => ⟨S_, .f32⟩
  | .hbm, ⟨10, _⟩ => ⟨S512x192, .f32⟩
  | .hbm, ⟨11, _⟩ => ⟨S1x512x192, .f32⟩
  | .hbm, ⟨12, _⟩ => ⟨S1x512x192, .f32⟩
  | .hbm, ⟨13, _⟩ => ⟨S2x512x192, .f32⟩
  | .hbm, ⟨14, _⟩ => ⟨S_, .f32⟩
  | .hbm, ⟨15, _⟩ => ⟨S2x512x192, .f32⟩
  | .hbm, ⟨16, _⟩ => ⟨S2x512x192, .f32⟩
  | .hbm, ⟨17, _⟩ => ⟨S_, .f32⟩
  | .hbm, ⟨18, _⟩ => ⟨S2x512x192, .f32⟩
  | .hbm, ⟨19, _⟩ => ⟨S2x512x192, .f32⟩
  | .hbm, ⟨20, _⟩ => ⟨S2x512x192, .f32⟩
  | .hbm, ⟨21, _⟩ => ⟨S_, .f32⟩
  | .hbm, ⟨22, _⟩ => ⟨S2x512x192, .f32⟩
  | .hbm, ⟨23, _⟩ => ⟨S2x512x192, .f32⟩
  | .hbm, ⟨24, _⟩ => ⟨S2x512x192, .f32⟩
  | .hbm, ⟨25, _⟩ => ⟨S_, .f32⟩
  | .hbm, ⟨26, _⟩ => ⟨S2x512x192, .f32⟩
  | .hbm, ⟨27, _⟩ => ⟨S2x512x192, .f32⟩
  | .hbm, ⟨28, _⟩ => ⟨S2x512x192, .f32⟩
  | .hbm, ⟨29, _⟩ => ⟨S_, .f32⟩
  | .hbm, ⟨30, _⟩ => ⟨S2x512x192, .f32⟩
  | .hbm, ⟨31, _⟩ => ⟨S2x512x192, .f32⟩
  | .hbm, ⟨32, _⟩ => ⟨S_, .f32⟩
  | .hbm, ⟨33, _⟩ => ⟨S2x512x192, .f32⟩
  | .hbm, ⟨34, _⟩ => ⟨S2x512x192, .f32⟩
  | .hbm, ⟨35, _⟩ => ⟨S2x512x192, .f32⟩
  | .hbm, ⟨36, _⟩ => ⟨S_, .f32⟩
  | .hbm, ⟨37, _⟩ => ⟨S2x512x192, .f32⟩
  | .hbm, ⟨38, _⟩ => ⟨S2x512x192, .f32⟩
  | .hbm, ⟨39, _⟩ => ⟨S2x512x192, .f32⟩
  | .hbm, ⟨40, _⟩ => ⟨S_, .f32⟩
  | .hbm, ⟨41, _⟩ => ⟨S2x512x192, .f32⟩
  | .hbm, ⟨42, _⟩ => ⟨S2x512x192, .f32⟩
  | .hbm, ⟨43, _⟩ => ⟨S2x512x192, .f32⟩
  | .hbm, ⟨44, _⟩ => ⟨S_, .f32⟩
  | .hbm, ⟨45, _⟩ => ⟨S2x512x192, .f32⟩
  | .hbm, ⟨46, _⟩ => ⟨S2x512x192, .f32⟩
  | _, _ => ⟨S8x512x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel11.lean ====
abbrev S8x256x256 : Shape := ⟨3, ![8, 256, 256]⟩
abbrev S2x256x256 : Shape := ⟨3, ![2, 256, 256]⟩
abbrev S1x256x256 : Shape := ⟨3, ![1, 256, 256]⟩
abbrev S256x256 : Shape := ⟨2, ![256, 256]⟩

abbrev nBuf : Space → Nat
  | .hbm => 9
  | .vmem => 19
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S2x256x256, .f32⟩
  | .hbm, ⟨6, _⟩ => ⟨S2x256x256, .f32⟩
  | .hbm, ⟨7, _⟩ => ⟨S2x256x256, .f32⟩
  | .hbm, ⟨8, _⟩ => ⟨S2x256x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S256x256, .f32⟩
  | _, _ => ⟨S8x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c0_i32_1 : BitVec 32 := 0#32
  let v2 : BitVec 32 := Scalar.select v1 c0_i32_1 arg1
  let c0_i32_2 : BitVec 32 := 0#32
  let v3 : BitVec 32 := Scalar.select v0 c0_i32_2 v2
  let c1_i32 : BitVec 32 := 1#32
  let v4 : BitVec 32 := Scalar.divsi v3 c1_i32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32 c0_i32_5
  let v11 : BitVec 32 := Scalar.extui v10
  let c0_i32_6 : BitVec 32 := 0#32
  let v12 : BitVec 1 := Scalar.cmpi .slt c1_i32 c0_i32_6
  let v13 : BitVec 32 := Scalar.extui v12
  let v14 : BitVec 32 := Scalar.subi v11 v13
  let v15 : BitVec 1 := Scalar.cmpi .ne v9 v14
  let v16 : BitVec 32 := Scalar.remsi v3 c1_i32
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  let c0_i32_16 : BitVec 32 := 0#32
  ![c0_i32_15.toNat, v20.toNat, v30.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c0_i32 : BitVec 32 := 0#32
  let v2 : BitVec 32 := Scalar.select v1 c0_i32 arg1
  let c0_i32_1 : BitVec 32 := 0#32
  let v3 : BitVec 32 := Scalar.select v0 c0_i32_1 v2
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  let c0_i32_16 : BitVec 32 := 0#32
  ![c0_i32_15.toNat, v20.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S8x256x256 : Shape := ⟨3, ![8, 256, 256]⟩
abbrev S2x256x256 : Shape := ⟨3, ![2, 256, 256]⟩
abbrev S_ : Shape := ⟨0, ![]⟩
abbrev S256x256 : Shape := ⟨2, ![256, 256]⟩
abbrev S1x256x256 : Shape := ⟨3, ![1, 256, 256]⟩

abbrev nBuf : Space → Nat
  | .hbm => 47
  | .vmem => 0
  | .smem => 0
  | _ => 0

abbrev bufTy : (tb : Table) → Fin (tcTables nBuf tb) → BufTy
  | .hbm, ⟨0, _⟩ => ⟨S8x256x256, .bf16⟩
  | .hbm, ⟨1, _⟩ => ⟨S8x256x256, .bf16⟩
  | .hbm, ⟨2, _⟩ => ⟨S2x256x256, .f32⟩
  | .hbm, ⟨3, _⟩ => ⟨S2x256x256, .f32⟩
  | .hbm, ⟨4, _⟩ => ⟨S2x256x256, .f32⟩
  | .hbm, ⟨5, _⟩ => ⟨S8x256x256, .f32⟩
  | .hbm, ⟨6, _⟩ => ⟨S_, .f32⟩
  | .hbm, ⟨7, _⟩ => ⟨S256x256, .f32⟩
  | .hbm, ⟨8, _⟩ => ⟨S8x256x256, .f32⟩
  | .hbm, ⟨9, _⟩ => ⟨S_, .f32⟩
  | .hbm, ⟨10, _⟩ => ⟨S256x256, .f32⟩
  | .hbm, ⟨11, _⟩ => ⟨S1x256x256, .f32⟩
  | .hbm, ⟨12, _⟩ => ⟨S1x256x256, .f32⟩
  | .hbm, ⟨13, _⟩ => ⟨S2x256x256, .f32⟩
  | .hbm, ⟨14, _⟩ => ⟨S_, .f32⟩
  | .hbm, ⟨15, _⟩ => ⟨S2x256x256, .f32⟩
  | .hbm, ⟨16, _⟩ => ⟨S2x256x256, .f32⟩
  | .hbm, ⟨17, _⟩ => ⟨S_, .f32⟩
  | .hbm, ⟨18, _⟩ => ⟨S2x256x256, .f32⟩
  | .hbm, ⟨19, _⟩ => ⟨S2x256x256, .f32⟩
  | .hbm, ⟨20, _⟩ => ⟨S2x256x256, .f32⟩
  | .hbm, ⟨21, _⟩ => ⟨S_, .f32⟩
  | .hbm, ⟨22, _⟩ => ⟨S2x256x256, .f32⟩
  | .hbm, ⟨23, _⟩ => ⟨S2x256x256, .f32⟩
  | .hbm, ⟨24, _⟩ => ⟨S2x256x256, .f32⟩
  | .hbm, ⟨25, _⟩ => ⟨S_, .f32⟩
  | .hbm, ⟨26, _⟩ => ⟨S2x256x256, .f32⟩
  | .hbm, ⟨27, _⟩ => ⟨S2x256x256, .f32⟩
  | .hbm, ⟨28, _⟩ => ⟨S2x256x256, .f32⟩
  | .hbm, ⟨29, _⟩ => ⟨S_, .f32⟩
  | .hbm, ⟨30, _⟩ => ⟨S2x256x256, .f32⟩
  | .hbm, ⟨31, _⟩ => ⟨S2x256x256, .f32⟩
  | .hbm, ⟨32, _⟩ => ⟨S_, .f32⟩
  | .hbm, ⟨33, _⟩ => ⟨S2x256x256, .f32⟩
  | .hbm, ⟨34, _⟩ => ⟨S2x256x256, .f32⟩
  | .hbm, ⟨35, _⟩ => ⟨S2x256x256, .f32⟩
  | .hbm, ⟨36, _⟩ => ⟨S_, .f32⟩
  | .hbm, ⟨37, _⟩ => ⟨S2x256x256, .f32⟩
  | .hbm, ⟨38, _⟩ => ⟨S2x256x256, .f32⟩
  | .hbm, ⟨39, _⟩ => ⟨S2x256x256, .f32⟩
  | .hbm, ⟨40, _⟩ => ⟨S_, .f32⟩
  | .hbm, ⟨41, _⟩ => ⟨S2x256x256, .f32⟩
  | .hbm, ⟨42, _⟩ => ⟨S2x256x256, .f32⟩
  | .hbm, ⟨43, _⟩ => ⟨S2x256x256, .f32⟩
  | .hbm, ⟨44, _⟩ => ⟨S_, .f32⟩
  | .hbm, ⟨45, _⟩ => ⟨S2x256x256, .f32⟩
  | .hbm, ⟨46, _⟩ => ⟨S2x256x256, .f32⟩
  | _, _ => ⟨S8x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel12.lean ====
abbrev S8x256x2048 : Shape := ⟨3, ![8, 256, 2048]⟩
abbrev S2x256x2048 : Shape := ⟨3, ![2, 256, 2048]⟩
abbrev S8x128x2048 : Shape := ⟨3, ![8, 128, 2048]⟩
abbrev S1x128x2048 : Shape := ⟨3, ![1, 128, 2048]⟩
abbrev S128x2048 : Shape := ⟨2, ![128, 2048]⟩

abbrev nBuf : Space → Nat
  | .hbm => 9
  | .vmem => 19
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S2x256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S8x128x2048, .bf16⟩
  | .local _ .vmem, ⟨3, _⟩ => ⟨S8x128x2048, .bf16⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | .local _ .vmem, ⟨16, _⟩ => ⟨S1x128x2048, .f32⟩
  | .local _ .vmem, ⟨17, _⟩ => ⟨S1x128x2048, .f32⟩
  | .local _ .vmem, ⟨18, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c1_i32 : BitVec 32 := 1#32
  let v2 : BitVec 32 := Scalar.select v1 c1_i32 arg1
  let c0_i32_1 : BitVec 32 := 0#32
  let v3 : BitVec 32 := Scalar.select v0 c0_i32_1 v2
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  let c0_i32_16 : BitVec 32 := 0#32
  ![c0_i32_15.toNat, v20.toNat, v30.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg0 c1_i32
  let c1_i32_0 : BitVec 32 := 1#32
  let v1 : BitVec 1 := Scalar.cmpi .sgt arg0 c1_i32_0
  let c1_i32_1 : BitVec 32 := 1#32
  let v2 : BitVec 32 := Scalar.select v1 c1_i32_1 arg1
  let c0_i32 : BitVec 32 := 0#32
  let v3 : BitVec 32 := Scalar.select v0 c0_i32 v2
  let c1_i32_2 : BitVec 32 := 1#32
  let v4 : BitVec 32 := Scalar.divsi v3 c1_i32_2
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32_2 c0_i32_5
  let v11 : BitVec 32 := Scalar.extui v10
  let c0_i32_6 : BitVec 32 := 0#32
  let v12 : BitVec 1 := Scalar.cmpi .slt c1_i32_2 c0_i32_6
  let v13 : BitVec 32 := Scalar.extui v12
  let v14 : BitVec 32 := Scalar.subi v11 v13
  let v15 : BitVec 1 := Scalar.cmpi .ne v9 v14
  let v16 : BitVec 32 := Scalar.remsi v3 c1_i32_2
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  let c0_i32_16 : BitVec 32 := 0#32
  ![c0_i32_15.toNat, v20.toNat, v30.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S8x256x2048 : Shape := ⟨3, ![8, 256, 2048]⟩
abbrev S2x256x2048 : Shape := ⟨3, ![2, 256, 2048]⟩
abbrev S_ : Shape := ⟨0, ![]⟩
abbrev S256x2048 : Shape := ⟨2, ![256, 2048]⟩
abbrev S1x256x2048 : Shape := ⟨3, ![1, 256, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x2048, .bf16⟩
  | .hbm, ⟨2, _⟩ => ⟨S2x256x2048, .f32⟩
  | .hbm, ⟨3, _⟩ => ⟨S2x256x2048, .f32⟩
  | .hbm, ⟨4, _⟩ => ⟨S2x256x2048, .f32⟩
  | .hbm, ⟨5, _⟩ => ⟨S8x256x2048, .f32⟩
  | .hbm, ⟨6, _⟩ => ⟨S_, .f32⟩
  | .hbm, ⟨7, _⟩ => ⟨S256x2048, .f32⟩
  | .hbm, ⟨8, _⟩ => ⟨S8x256x2048, .f32⟩
  | .hbm, ⟨9, _⟩ => ⟨S_, .f32⟩
  | .hbm, ⟨10, _⟩ => ⟨S256x2048, .f32⟩
  | .hbm, ⟨11, _⟩ => ⟨S1x256x2048, .f32⟩
  | .hbm, ⟨12, _⟩ => ⟨S1x256x2048, .f32⟩
  | .hbm, ⟨13, _⟩ => ⟨S2x256x2048, .f32⟩
  | .hbm, ⟨14, _⟩ => ⟨S_, .f32⟩
  | .hbm, ⟨15, _⟩ => ⟨S2x256x2048, .f32⟩
  | .hbm, ⟨16, _⟩ => ⟨S2x256x2048, .f32⟩
  | .hbm, ⟨17, _⟩ => ⟨S_, .f32⟩
  | .hbm, ⟨18, _⟩ => ⟨S2x256x2048, .f32⟩
  | .hbm, ⟨19, _⟩ => ⟨S2x256x2048, .f32⟩
  | .hbm, ⟨20, _⟩ => ⟨S2x256x2048, .f32⟩
  | .hbm, ⟨21, _⟩ => ⟨S_, .f32⟩
  | .hbm, ⟨22, _⟩ => ⟨S2x256x2048, .f32⟩
  | .hbm, ⟨23, _⟩ => ⟨S2x256x2048, .f32⟩
  | .hbm, ⟨24, _⟩ => ⟨S2x256x2048, .f32⟩
  | .hbm, ⟨25, _⟩ => ⟨S_, .f32⟩
  | .hbm, ⟨26, _⟩ => ⟨S2x256x2048, .f32⟩
  | .hbm, ⟨27, _⟩ => ⟨S2x256x2048, .f32⟩
  | .hbm, ⟨28, _⟩ => ⟨S2x256x2048, .f32⟩
  | .hbm, ⟨29, _⟩ => ⟨S_, .f32⟩
  | .hbm, ⟨30, _⟩ => ⟨S2x256x2048, .f32⟩
  | .hbm, ⟨31, _⟩ => ⟨S2x256x2048, .f32⟩
  | .hbm, ⟨32, _⟩ => ⟨S_, .f32⟩
  | .hbm, ⟨33, _⟩ => ⟨S2x256x2048, .f32⟩
  | .hbm, ⟨34, _⟩ => ⟨S2x256x2048, .f32⟩
  | .hbm, ⟨35, _⟩ => ⟨S2x256x2048, .f32⟩
  | .hbm, ⟨36, _⟩ => ⟨S_, .f32⟩
  | .hbm, ⟨37, _⟩ => ⟨S2x256x2048, .f32⟩
  | .hbm, ⟨38, _⟩ => ⟨S2x256x2048, .f32⟩
  | .hbm, ⟨39, _⟩ => ⟨S2x256x2048, .f32⟩
  | .hbm, ⟨40, _⟩ => ⟨S_, .f32⟩
  | .hbm, ⟨41, _⟩ => ⟨S2x256x2048, .f32⟩
  | .hbm, ⟨42, _⟩ => ⟨S2x256x2048, .f32⟩
  | .hbm, ⟨43, _⟩ => ⟨S2x256x2048, .f32⟩
  | .hbm, ⟨44, _⟩ => ⟨S_, .f32⟩
  | .hbm, ⟨45, _⟩ => ⟨S2x256x2048, .f32⟩
  | .hbm, ⟨46, _⟩ => ⟨S2x256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel13.lean ====
abbrev S8x1176x128 : Shape := ⟨3, ![8, 1176, 128]⟩
abbrev S1176x128 : Shape := ⟨2, ![1176, 128]⟩
abbrev S1x1176x128 : Shape := ⟨3, ![1, 1176, 128]⟩
abbrev S8x392x128 : Shape := ⟨3, ![8, 392, 128]⟩
abbrev S1x392x128 : Shape := ⟨3, ![1, 392, 128]⟩
abbrev S392x128 : Shape := ⟨2, ![392, 128]⟩

abbrev nBuf : Space → Nat
  | .hbm => 11
  | .vmem => 17
  | .smem => 0
  | _ => 0

abbrev bufTy : (tb : Table) → Fin (tcTables nBuf tb) → BufTy
  | .hbm, ⟨0, _⟩ => ⟨S8x1176x128, .f32⟩
  | .hbm, ⟨1, _⟩ => ⟨S1176x128, .f32⟩
  | .hbm, ⟨2, _⟩ => ⟨S1176x128, .f32⟩
  | .hbm, ⟨3, _⟩ => ⟨S1176x128, .f32⟩
  | .hbm, ⟨4, _⟩ => ⟨S1x1176x128, .f32⟩
  | .hbm, ⟨5, _⟩ => ⟨S1x1176x128, .f32⟩
  | .hbm, ⟨6, _⟩ => ⟨S1x1176x128, .f32⟩
  | .hbm, ⟨7, _⟩ => ⟨S1x1176x128, .f32⟩
  | .hbm, ⟨8, _⟩ => ⟨S1x1176x128, .f32⟩
  | .hbm, ⟨9, _⟩ => ⟨S1x1176x128, .f32⟩
  | .hbm, ⟨10, _⟩ => ⟨S1x1176x128, .f32⟩
  | .local _ .vmem, ⟨0, _⟩ => ⟨S8x392x128, .f32⟩
  | .local _ .vmem, ⟨1, _⟩ => ⟨S8x392x128, .f32⟩
  | .local _ .vmem, ⟨2, _⟩ => ⟨S1x392x128, .f32⟩
  | .local _ .vmem, ⟨3, _⟩ => ⟨S1x392x128, .f32⟩
  | .local _ .vmem, ⟨4, _⟩ => ⟨S1x392x128, .f32⟩
  | .local _ .vmem, ⟨5, _⟩ => ⟨S1x392x128, .f32⟩
  | .local _ .vmem, ⟨6, _⟩ => ⟨S1x392x128, .f32⟩
  | .local _ .vmem, ⟨7, _⟩ => ⟨S1x392x128, .f32⟩
  | .local _ .vmem, ⟨8, _⟩ => ⟨S1x392x128, .f32⟩
  | .local _ .vmem, ⟨9, _⟩ => ⟨S1x392x128, .f32⟩
  | .local _ .vmem, ⟨10, _⟩ => ⟨S1x392x128, .f32⟩
  | .local _ .vmem, ⟨11, _⟩ => ⟨S1x392x128, .f32⟩
  | .local _ .vmem, ⟨12, _⟩ => ⟨S1x392x128, .f32⟩
  | .local _ .vmem, ⟨13, _⟩ => ⟨S1x392x128, .f32⟩
  | .local _ .vmem, ⟨14, _⟩ => ⟨S1x392x128, .f32⟩
  | .local _ .vmem, ⟨15, _⟩ => ⟨S1x392x128, .f32⟩
  | .local _ .vmem, ⟨16, _⟩ => ⟨S392x128, .f32⟩
  | _, _ => ⟨S8x1176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c2_i32 : BitVec 32 := 2#32
  let v2 : BitVec 32 := Scalar.select v1 c2_i32 arg1
  let c0_i32_1 : BitVec 32 := 0#32
  let v3 : BitVec 32 := Scalar.select v0 c0_i32_1 v2
  let c1_i32 : BitVec 32 := 1#32
  let v4 : BitVec 32 := Scalar.divsi v3 c1_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c1_i32 c0_i32_4
  let v11 : BitVec 32 := Scalar.extui v10
  let c0_i32_5 : BitVec 32 := 0#32
  let v12 : BitVec 1 := Scalar.cmpi .slt c1_i32 c0_i32_5
  let v13 : BitVec 32 := Scalar.extui v12
  let v14 : BitVec 32 := Scalar.subi v11 v13
  let v15 : BitVec 1 := Scalar.cmpi .ne v9 v14
  let v16 : BitVec 32 := Scalar.remsi v3 c1_i32
  let c0_i32_6 : BitVec 32 := 0#32
  let v17 : BitVec 1 := Scalar.cmpi .ne v16 c0_i32_6
  let v18 : BitVec 1 := Scalar.andi v15 v17
  let c1_i32_7 : BitVec 32 := 1#32
  let v19 : BitVec 32 := Scalar.subi v4 c1_i32_7
  let v20 : BitVec 32 := Scalar.select v18 v19 v4
  let c1_i32_8 : BitVec 32 := 1#32
  let c0_i32_9 : BitVec 32 := 0#32
  let v21 : BitVec 1 := Scalar.cmpi .eq c1_i32_8 c0_i32_9
  let c1_i32_10 : BitVec 32 := 1#32
  let v22 : BitVec 32 := Scalar.select v21 c1_i32_10 c1_i32_8
  let v23 : BitVec 32 := Scalar.remsi v3 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![c0_i32_14.toNat, v20.toNat, v30.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

abbrev stage0_0 : Fin 2 → Memref sig .tc .vmem S8x392x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x392x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x392x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x392x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x392x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x392x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x392x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x392x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S8x1176x128 : Shape := ⟨3, ![8, 1176, 128]⟩
abbrev S1176x128 : Shape := ⟨2, ![1176, 128]⟩
abbrev S_ : Shape := ⟨0, ![]⟩
abbrev S1x1176x128 : Shape := ⟨3, ![1, 1176, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x1176x128, .f32⟩
  | .hbm, ⟨1, _⟩ => ⟨S1176x128, .f32⟩
  | .hbm, ⟨2, _⟩ => ⟨S1176x128, .f32⟩
  | .hbm, ⟨3, _⟩ => ⟨S1176x128, .f32⟩
  | .hbm, ⟨4, _⟩ => ⟨S_, .f32⟩
  | .hbm, ⟨5, _⟩ => ⟨S1176x128, .f32⟩
  | .hbm, ⟨6, _⟩ => ⟨S_, .f32⟩
  | .hbm, ⟨7, _⟩ => ⟨S1176x128, .f32⟩
  | .hbm, ⟨8, _⟩ => ⟨S1176x128, .f32⟩
  | .hbm, ⟨9, _⟩ => ⟨S_, .f32⟩
  | .hbm, ⟨10, _⟩ => ⟨S1176x128, .f32⟩
  | .hbm, ⟨11, _⟩ => ⟨S1176x128, .f32⟩
  | .hbm, ⟨12, _⟩ => ⟨S1176x128, .f32⟩
  | .hbm, ⟨13, _⟩ => ⟨S_, .f32⟩
  | .hbm, ⟨14, _⟩ => ⟨S1176x128, .f32⟩
  | .hbm, ⟨15, _⟩ => ⟨S1176x128, .f32⟩
  | .hbm, ⟨16, _⟩ => ⟨S1176x128, .f32⟩
  | .hbm, ⟨17, _⟩ => ⟨S_, .f32⟩
  | .hbm, ⟨18, _⟩ => ⟨S1176x128, .f32⟩
  | .hbm, ⟨19, _⟩ => ⟨S1176x128, .f32⟩
  | .hbm, ⟨20, _⟩ => ⟨S1176x128, .f32⟩
  | .hbm, ⟨21, _⟩ => ⟨S_, .f32⟩
  | .hbm, ⟨22, _⟩ => ⟨S1176x128, .f32⟩
  | .hbm, ⟨23, _⟩ => ⟨S1176x128, .f32⟩
  | .hbm, ⟨24, _⟩ => ⟨S_, .f32⟩
  | .hbm, ⟨25, _⟩ => ⟨S1176x128, .f32⟩
  | .hbm, ⟨26, _⟩ => ⟨S1176x128, .f32⟩
  | .hbm, ⟨27, _⟩ => ⟨S1176x128, .f32⟩
  | .hbm, ⟨28, _⟩ => ⟨S_, .f32⟩
  | .hbm, ⟨29, _⟩ => ⟨S1176x128, .f32⟩
  | .hbm, ⟨30, _⟩ => ⟨S1176x128, .f32⟩
  | .hbm, ⟨31, _⟩ => ⟨S1176x128, .f32⟩
  | .hbm, ⟨32, _⟩ => ⟨S_, .f32⟩
  | .hbm, ⟨33, _⟩ => ⟨S1176x128, .f32⟩
  | .hbm, ⟨34, _⟩ => ⟨S1176x128, .f32⟩
  | .hbm, ⟨35, _⟩ => ⟨S1176x128, .f32⟩
  | .hbm, ⟨36, _⟩ => ⟨S_, .f32⟩
  | .hbm, ⟨37, _⟩ => ⟨S1176x128, .f32⟩
  | .hbm, ⟨38, _⟩ => ⟨S1176x128, .f32⟩
  | .hbm, ⟨39, _⟩ => ⟨S1x1176x128, .f32⟩
  | .hbm, ⟨40, _⟩ => ⟨S1x1176x128, .f32⟩
  | .hbm, ⟨41, _⟩ => ⟨S1x1176x128, .f32⟩
  | .hbm, ⟨42, _⟩ => ⟨S1x1176x128, .f32⟩
  | _, _ => ⟨S8x1176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel14.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 11
  | .vmem => 9
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S1x8x128, .f32⟩
  | .hbm, ⟨5, _⟩ => ⟨S1x8x128, .f32⟩
  | .hbm, ⟨6, _⟩ => ⟨S1x8x128, .f32⟩
  | .hbm, ⟨7, _⟩ => ⟨S1x8x128, .f32⟩
  | .hbm, ⟨8, _⟩ => ⟨S1x8x128, .f32⟩
  | .hbm, ⟨9, _⟩ => ⟨S1x8x128, .f32⟩
  | .hbm, ⟨10, _⟩ => ⟨S1x8x128, .f32⟩
  | .local _ .vmem, ⟨0, _⟩ => ⟨S8x8x128, .f32⟩
  | .local _ .vmem, ⟨1, _⟩ => ⟨S1x8x128, .f32⟩
  | .local _ .vmem, ⟨2, _⟩ => ⟨S1x8x128, .f32⟩
  | .local _ .vmem, ⟨3, _⟩ => ⟨S1x8x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c0_i32_1 : BitVec 32 := 0#32
  let v2 : BitVec 32 := Scalar.select v1 c0_i32_1 arg1
  let c0_i32_2 : BitVec 32 := 0#32
  let v3 : BitVec 32 := Scalar.select v0 c0_i32_2 v2
  let c1_i32 : BitVec 32 := 1#32
  let v4 : BitVec 32 := Scalar.divsi v3 c1_i32
  let c0_i32_3 : BitVec 32 := 0#32
  let v5 : BitVec 1 := Scalar.cmpi .sgt v3 c0_i32_3
  let v6 : BitVec 32 := Scalar.extui v5
  let c0_i32_4 : BitVec 32 := 0#32
  let v7 : BitVec 1 := Scalar.cmpi .slt v3 c0_i32_4
  let v8 : BitVec 32 := Scalar.extui v7
  let v9 : BitVec 32 := Scalar.subi v6 v8
  let c0_i32_5 : BitVec 32 := 0#32
  let v10 : BitVec 1 := Scalar.cmpi .sgt c1_i32 c0_i32_5
  let v11 : BitVec 32 := Scalar.extui v10
  let c0_i32_6 : BitVec 32 := 0#32
  let v12 : BitVec 1 := Scalar.cmpi .slt c1_i32 c0_i32_6
  let v13 : BitVec 32 := Scalar.extui v12
  let v14 : BitVec 32 := Scalar.subi v11 v13
  let v15 : BitVec 1 := Scalar.cmpi .ne v9 v14
  let v16 : BitVec 32 := Scalar.remsi v3 c1_i32
  let c0_i32_7 : BitVec 32 := 0#32
  let v17 : BitVec 1 := Scalar.cmpi .ne v16 c0_i32_7
  let v18 : BitVec 1 := Scalar.andi v15 v17
  let c1_i32_8 : BitVec 32 := 1#32
  let v19 : BitVec 32 := Scalar.subi v4 c1_i32_8
  let v20 : BitVec 32 := Scalar.select v18 v19 v4
  let c1_i32_9 : BitVec 32 := 1#32
  let c0_i32_10 : BitVec 32 := 0#32
  let v21 : BitVec 1 := Scalar.cmpi .eq c1_i32_9 c0_i32_10
  let c1_i32_11 : BitVec 32 := 1#32
  let v22 : BitVec 32 := Scalar.select v21 c1_i32_11 c1_i32_9
  let v23 : BitVec 32 := Scalar.remsi v3 v22
  let c0_i32_12 : BitVec 32 := 0#32
  let v24 : BitVec 1 := Scalar.cmpi .ne v23 c0_i32_12
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let v28 : BitVec 1 := Scalar.andi v27 v24
  let v29 : BitVec 32 := Scalar.addi v23 v22
  let v30 : BitVec 32 := Scalar.select v28 v29 v23
  let c0_i32_15 : BitVec 32 := 0#32
  let c0_i32_16 : BitVec 32 := 0#32
  ![c0_i32_15.toNat, v20.toNat, v30.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg1 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c0_i32_12 : BitVec 32 := 0#32
  ![v0.toNat, v17.toNat, v27.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference14Ideal.lean ====
abbrev S8x8x128 : Shape := ⟨3, ![8, 8, 128]⟩
abbrev S8x128 : Shape := ⟨2, ![8, 128]⟩
abbrev S_ : Shape := ⟨0, ![]⟩
abbrev S1x8x128 : Shape := ⟨3, ![1, 8, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | .hbm, ⟨39, _⟩ => ⟨S1x8x128, .f32⟩
  | .hbm, ⟨40, _⟩ => ⟨S1x8x128, .f32⟩
  | .hbm, ⟨41, _⟩ => ⟨S1x8x128, .f32⟩
  | .hbm, ⟨42, _⟩ => ⟨S1x8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel15.lean ====
abbrev S8x616x2048 : Shape := ⟨3, ![8, 616, 2048]⟩
abbrev S2x2048x616 : Shape := ⟨3, ![2, 2048, 616]⟩
abbrev S2x616x2048 : Shape := ⟨3, ![2, 616, 2048]⟩
abbrev S8x616x512 : Shape := ⟨3, ![8, 616, 512]⟩
abbrev S1x616x512 : Shape := ⟨3, ![1, 616, 512]⟩
abbrev S616x512 : Shape := ⟨2, ![616, 512]⟩

abbrev nBuf : Space → Nat
  | .hbm => 15
  | .vmem => 17
  | .smem => 0
  | _ => 0

abbrev bufTy : (tb : Table) → Fin (tcTables nBuf tb) → BufTy
  | .hbm, ⟨0, _⟩ => ⟨S8x616x2048, .bf16⟩
  | .hbm, ⟨1, _⟩ => ⟨S2x2048x616, .f32⟩
  | .hbm, ⟨2, _⟩ => ⟨S2x2048x616, .f32⟩
  | .hbm, ⟨3, _⟩ => ⟨S2x2048x616, .f32⟩
  | .hbm, ⟨4, _⟩ => ⟨S2x616x2048, .f32⟩
  | .hbm, ⟨5, _⟩ => ⟨S2x616x2048, .f32⟩
  | .hbm, ⟨6, _⟩ => ⟨S2x616x2048, .f32⟩
  | .hbm, ⟨7, _⟩ => ⟨S2x616x2048, .f32⟩
  | .hbm, ⟨8, _⟩ => ⟨S2x616x2048, .f32⟩
  | .hbm, ⟨9, _⟩ => ⟨S2x616x2048, .f32⟩
  | .hbm, ⟨10, _⟩ => ⟨S2x616x2048, .f32⟩
  | .hbm, ⟨11, _⟩ => ⟨S2x616x2048, .f32⟩
  | .hbm, ⟨12, _⟩ => ⟨S2x616x2048, .f32⟩
  | .hbm, ⟨13, _⟩ => ⟨S2x616x2048, .f32⟩
  | .hbm, ⟨14, _⟩ => ⟨S2x616x2048, .f32⟩
  | .local _ .vmem, ⟨0, _⟩ => ⟨S8x616x512, .bf16⟩
  | .local _ .vmem, ⟨1, _⟩ => ⟨S8x616x512, .bf16⟩
  | .local _ .vmem, ⟨2, _⟩ => ⟨S1x616x512, .f32⟩
  | .local _ .vmem, ⟨3, _⟩ => ⟨S1x616x512, .f32⟩
  | .local _ .vmem, ⟨4, _⟩ => ⟨S1x616x512, .f32⟩
  | .local _ .vmem, ⟨5, _⟩ => ⟨S1x616x512, .f32⟩
  | .local _ .vmem, ⟨6, _⟩ => ⟨S1x616x512, .f32⟩
  | .local _ .vmem, ⟨7, _⟩ => ⟨S1x616x512, .f32⟩
  | .local _ .vmem, ⟨8, _⟩ => ⟨S1x616x512, .f32⟩
  | .local _ .vmem, ⟨9, _⟩ => ⟨S1x616x512, .f32⟩
  | .local _ .vmem, ⟨10, _⟩ => ⟨S1x616x512, .f32⟩
  | .local _ .vmem, ⟨11, _⟩ => ⟨S1x616x512, .f32⟩
  | .local _ .vmem, ⟨12, _⟩ => ⟨S1x616x512, .f32⟩
  | .local _ .vmem, ⟨13, _⟩ => ⟨S1x616x512, .f32⟩
  | .local _ .vmem, ⟨14, _⟩ => ⟨S1x616x512, .f32⟩
  | .local _ .vmem, ⟨15, _⟩ => ⟨S1x616x512, .f32⟩
  | .local _ .vmem, ⟨16, _⟩ => ⟨S616x512, .f32⟩
  | _, _ => ⟨S8x616x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c3_i32 : BitVec 32 := 3#32
  let v2 : BitVec 32 := Scalar.select v1 c3_i32 arg1
  let c0_i32_1 : BitVec 32 := 0#32
  let v3 : BitVec 32 := Scalar.select v0 c0_i32_1 v2
  let c4_i32 : BitVec 32 := 4#32
  let v4 : BitVec 32 := Scalar.divsi v3 c4_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi v3 c4_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v3 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![c0_i32_13.toNat, v20.toNat, v30.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.divsi arg1 c4_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi arg1 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.divsi arg1 c4_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi arg1 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.divsi arg1 c4_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi arg1 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.divsi arg1 c4_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi arg1 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.divsi arg1 c4_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi arg1 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.divsi arg1 c4_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi arg1 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.divsi arg1 c4_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c4_i32 c0_i32_2
  let v8 : BitVec 32 := Scalar.extui v7
  let c0_i32_3 : BitVec 32 := 0#32
  let v9 : BitVec 1 := Scalar.cmpi .slt c4_i32 c0_i32_3
  let v10 : BitVec 32 := Scalar.extui v9
  let v11 : BitVec 32 := Scalar.subi v8 v10
  let v12 : BitVec 1 := Scalar.cmpi .ne v6 v11
  let v13 : BitVec 32 := Scalar.remsi arg1 c4_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

abbrev stage0_0 : Fin 2 → Memref sig .tc .vmem S8x616x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x616x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x616x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x616x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x616x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x616x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x616x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x616x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference15Ideal.lean ====
abbrev S8x616x2048 : Shape := ⟨3, ![8, 616, 2048]⟩
abbrev S2x2048x616 : Shape := ⟨3, ![2, 2048, 616]⟩
abbrev S2x616x2048 : Shape := ⟨3, ![2, 616, 2048]⟩
abbrev S_ : Shape := ⟨0, ![]⟩
abbrev S616x2048 : Shape := ⟨2, ![616, 2048]⟩
abbrev S2048x616 : Shape := ⟨2, ![2048, 616]⟩
abbrev S1x2048x616 : Shape := ⟨3, ![1, 2048, 616]⟩
abbrev S1x616x2048 : Shape := ⟨3, ![1, 616, 2048]⟩

abbrev nBuf : Space → Nat
  | .hbm => 75
  | .vmem => 0
  | .smem => 0
  | _ => 0

abbrev bufTy : (tb : Table) → Fin (tcTables nBuf tb) → BufTy
  | .hbm, ⟨0, _⟩ => ⟨S8x616x2048, .bf16⟩
  | .hbm, ⟨1, _⟩ => ⟨S2x2048x616, .f32⟩
  | .hbm, ⟨2, _⟩ => ⟨S2x2048x616, .f32⟩
  | .hbm, ⟨3, _⟩ => ⟨S2x2048x616, .f32⟩
  | .hbm, ⟨4, _⟩ => ⟨S2x616x2048, .f32⟩
  | .hbm, ⟨5, _⟩ => ⟨S2x616x2048, .f32⟩
  | .hbm, ⟨6, _⟩ => ⟨S2x616x2048, .f32⟩
  | .hbm, ⟨7, _⟩ => ⟨S2x616x2048, .f32⟩
  | .hbm, ⟨8, _⟩ => ⟨S8x616x2048, .f32⟩
  | .hbm, ⟨9, _⟩ => ⟨S_, .f32⟩
  | .hbm, ⟨10, _⟩ => ⟨S616x2048, .f32⟩
  | .hbm, ⟨11, _⟩ => ⟨S2048x616, .f32⟩
  | .hbm, ⟨12, _⟩ => ⟨S1x2048x616, .f32⟩
  | .hbm, ⟨13, _⟩ => ⟨S2048x616, .f32⟩
  | .hbm, ⟨14, _⟩ => ⟨S1x2048x616, .f32⟩
  | .hbm, ⟨15, _⟩ => ⟨S2048x616, .f32⟩
  | .hbm, ⟨16, _⟩ => ⟨S1x2048x616, .f32⟩
  | .hbm, ⟨17, _⟩ => ⟨S2048x616, .f32⟩
  | .hbm, ⟨18, _⟩ => ⟨S_, .f32⟩
  | .hbm, ⟨19, _⟩ => ⟨S2048x616, .f32⟩
  | .hbm, ⟨20, _⟩ => ⟨S2048x616, .f32⟩
  | .hbm, ⟨21, _⟩ => ⟨S_, .f32⟩
  | .hbm, ⟨22, _⟩ => ⟨S2048x616, .f32⟩
  | .hbm, ⟨23, _⟩ => ⟨S2048x616, .f32⟩
  | .hbm, ⟨24, _⟩ => ⟨S2048x616, .f32⟩
  | .hbm, ⟨25, _⟩ => ⟨S_, .f32⟩
  | .hbm, ⟨26, _⟩ => ⟨S2048x616, .f32⟩
  | .hbm, ⟨27, _⟩ => ⟨S2048x616, .f32⟩
  | .hbm, ⟨28, _⟩ => ⟨S2048x616, .f32⟩
  | .hbm, ⟨29, _⟩ => ⟨S_, .f32⟩
  | .hbm, ⟨30, _⟩ => ⟨S2048x616, .f32⟩
  | .hbm, ⟨31, _⟩ => ⟨S2048x616, .f32⟩
  | .hbm, ⟨32, _⟩ => ⟨S2048x616, .f32⟩
  | .hbm, ⟨33, _⟩ => ⟨S_, .f32⟩
  | .hbm, ⟨34, _⟩ => ⟨S2048x616, .f32⟩
  | .hbm, ⟨35, _⟩ => ⟨S2048x616, .f32⟩
  | .hbm, ⟨36, _⟩ => ⟨S_, .f32⟩
  | .hbm, ⟨37, _⟩ => ⟨S2048x616, .f32⟩
  | .hbm, ⟨38, _⟩ => ⟨S2048x616, .f32⟩
  | .hbm, ⟨39, _⟩ => ⟨S2048x616, .f32⟩
  | .hbm, ⟨40, _⟩ => ⟨S_, .f32⟩
  | .hbm, ⟨41, _⟩ => ⟨S2048x616, .f32⟩
  | .hbm, ⟨42, _⟩ => ⟨S2048x616, .f32⟩
  | .hbm, ⟨43, _⟩ => ⟨S2048x616, .f32⟩
  | .hbm, ⟨44, _⟩ => ⟨S_, .f32⟩
  | .hbm, ⟨45, _⟩ => ⟨S2048x616, .f32⟩
  | .hbm, ⟨46, _⟩ => ⟨S2048x616, .f32⟩
  | .hbm, ⟨47, _⟩ => ⟨S2048x616, .f32⟩
  | .hbm, ⟨48, _⟩ => ⟨S_, .f32⟩
  | .hbm, ⟨49, _⟩ => ⟨S2048x616, .f32⟩
  | .hbm, ⟨50, _⟩ => ⟨S2048x616, .f32⟩
  | .hbm, ⟨51, _⟩ => ⟨S616x2048, .f32⟩
  | .hbm, ⟨52, _⟩ => ⟨S1x616x2048, .f32⟩
  | .hbm, ⟨53, _⟩ => ⟨S616x2048, .f32⟩
  | .hbm, ⟨54, _⟩ => ⟨S1x616x2048, .f32⟩
  | .hbm, ⟨55, _⟩ => ⟨S1x616x2048, .f32⟩
  | .hbm, ⟨56, _⟩ => ⟨S2x616x2048, .f32⟩
  | .hbm, ⟨57, _⟩ => ⟨S616x2048, .f32⟩
  | .hbm, ⟨58, _⟩ => ⟨S1x616x2048, .f32⟩
  | .hbm, ⟨59, _⟩ => ⟨S616x2048, .f32⟩
  | .hbm, ⟨60, _⟩ => ⟨S1x616x2048, .f32⟩
  | .hbm, ⟨61, _⟩ => ⟨S1x616x2048, .f32⟩
  | .hbm, ⟨62, _⟩ => ⟨S2x616x2048, .f32⟩
  | .hbm, ⟨63, _⟩ => ⟨S616x2048, .f32⟩
  | .hbm, ⟨64, _⟩ => ⟨S1x616x2048, .f32⟩
  | .hbm, ⟨65, _⟩ => ⟨S616x2048, .f32⟩
  | .hbm, ⟨66, _⟩ => ⟨S1x616x2048, .f32⟩
  | .hbm, ⟨67, _⟩ => ⟨S1x616x2048, .f32⟩
  | .hbm, ⟨68, _⟩ => ⟨S2x616x2048, .f32⟩
  | .hbm, ⟨69, _⟩ => ⟨S616x2048, .f32⟩
  | .hbm, ⟨70, _⟩ => ⟨S1x616x2048, .f32⟩
  | .hbm, ⟨71, _⟩ => ⟨S616x2048, .f32⟩
  | .hbm, ⟨72, _⟩ => ⟨S1x616x2048, .f32⟩
  | .hbm, ⟨73, _⟩ => ⟨S1x616x2048, .f32⟩
  | .hbm, ⟨74, _⟩ => ⟨S2x616x2048, .f32⟩
  | _, _ => ⟨S8x616x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩

abbrev nD : Nat := 1
abbrev τ : Topo := Topo.v7x

variable {F : FTy → Type} [FloatOps F]
-- ==== Kernel16.lean ====
abbrev S8x616x2048 : Shape := ⟨3, ![8, 616, 2048]⟩
abbrev S2x2048x616 : Shape := ⟨3, ![2, 2048, 616]⟩
abbrev S2x616x2048 : Shape := ⟨3, ![2, 616, 2048]⟩
abbrev S8x616x512 : Shape := ⟨3, ![8, 616, 512]⟩
abbrev S1x616x512 : Shape := ⟨3, ![1, 616, 512]⟩
abbrev S616x512 : Shape := ⟨2, ![616, 512]⟩
abbrev S1x616x2048 : Shape := ⟨3, ![1, 616, 2048]⟩

abbrev nBuf : Space → Nat
  | .hbm => 15
  | .vmem => 17
  | .smem => 0
  | _ => 0

abbrev bufTy : (tb : Table) → Fin (tcTables nBuf tb) → BufTy
  | .hbm, ⟨0, _⟩ => ⟨S8x616x2048, .bf16⟩
  | .hbm, ⟨1, _⟩ => ⟨S2x2048x616, .f32⟩
  | .hbm, ⟨2, _⟩ => ⟨S2x2048x616, .f32⟩
  | .hbm, ⟨3, _⟩ => ⟨S2x2048x616, .f32⟩
  | .hbm, ⟨4, _⟩ => ⟨S2x616x2048, .f32⟩
  | .hbm, ⟨5, _⟩ => ⟨S2x616x2048, .f32⟩
  | .hbm, ⟨6, _⟩ => ⟨S2x616x2048, .f32⟩
  | .hbm, ⟨7, _⟩ => ⟨S2x616x2048, .f32⟩
  | .hbm, ⟨8, _⟩ => ⟨S2x616x2048, .f32⟩
  | .hbm, ⟨9, _⟩ => ⟨S2x616x2048, .f32⟩
  | .hbm, ⟨10, _⟩ => ⟨S2x616x2048, .f32⟩
  | .hbm, ⟨11, _⟩ => ⟨S1x616x2048, .f32⟩
  | .hbm, ⟨12, _⟩ => ⟨S1x616x2048, .f32⟩
  | .hbm, ⟨13, _⟩ => ⟨S1x616x2048, .f32⟩
  | .hbm, ⟨14, _⟩ => ⟨S1x616x2048, .f32⟩
  | .local _ .vmem, ⟨0, _⟩ => ⟨S8x616x512, .bf16⟩
  | .local _ .vmem, ⟨1, _⟩ => ⟨S8x616x512, .bf16⟩
  | .local _ .vmem, ⟨2, _⟩ => ⟨S1x616x512, .f32⟩
  | .local _ .vmem, ⟨3, _⟩ => ⟨S1x616x512, .f32⟩
  | .local _ .vmem, ⟨4, _⟩ => ⟨S1x616x512, .f32⟩
  | .local _ .vmem, ⟨5, _⟩ => ⟨S1x616x512, .f32⟩
  | .local _ .vmem, ⟨6, _⟩ => ⟨S1x616x512, .f32⟩
  | .local _ .vmem, ⟨7, _⟩ => ⟨S1x616x512, .f32⟩
  | .local _ .vmem, ⟨8, _⟩ => ⟨S1x616x512, .f32⟩
  | .local _ .vmem, ⟨9, _⟩ => ⟨S1x616x512, .f32⟩
  | .local _ .vmem, ⟨10, _⟩ => ⟨S1x616x512, .f32⟩
  | .local _ .vmem, ⟨11, _⟩ => ⟨S1x616x512, .f32⟩
  | .local _ .vmem, ⟨12, _⟩ => ⟨S1x616x512, .f32⟩
  | .local _ .vmem, ⟨13, _⟩ => ⟨S1x616x512, .f32⟩
  | .local _ .vmem, ⟨14, _⟩ => ⟨S1x616x512, .f32⟩
  | .local _ .vmem, ⟨15, _⟩ => ⟨S1x616x512, .f32⟩
  | .local _ .vmem, ⟨16, _⟩ => ⟨S616x512, .f32⟩
  | _, _ => ⟨S8x616x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .slt arg0 c0_i32
  let c0_i32_0 : BitVec 32 := 0#32
  let v1 : BitVec 1 := Scalar.cmpi .sgt arg0 c0_i32_0
  let c3_i32 : BitVec 32 := 3#32
  let v2 : BitVec 32 := Scalar.select v1 c3_i32 arg1
  let c0_i32_1 : BitVec 32 := 0#32
  let v3 : BitVec 32 := Scalar.select v0 c0_i32_1 v2
  let c4_i32 : BitVec 32 := 4#32
  let v4 : BitVec 32 := Scalar.divsi v3 c4_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c0_i32_4 : BitVec 32 := 0#32
  let v10 : BitVec 1 := Scalar.cmpi .sgt c4_i32 c0_i32_4
  let v11 : BitVec 32 := Scalar.extui v10
  let c0_i32_5 : BitVec 32 := 0#32
  let v12 : BitVec 1 := Scalar.cmpi .slt c4_i32 c0_i32_5
  let v13 : BitVec 32 := Scalar.extui v12
  let v14 : BitVec 32 := Scalar.subi v11 v13
  let v15 : BitVec 1 := Scalar.cmpi .ne v9 v14
  let v16 : BitVec 32 := Scalar.remsi v3 c4_i32
  let c0_i32_6 : BitVec 32 := 0#32
  let v17 : BitVec 1 := Scalar.cmpi .ne v16 c0_i32_6
  let v18 : BitVec 1 := Scalar.andi v15 v17
  let c1_i32 : BitVec 32 := 1#32
  let v19 : BitVec 32 := Scalar.subi v4 c1_i32
  let v20 : BitVec 32 := Scalar.select v18 v19 v4
  let c4_i32_7 : BitVec 32 := 4#32
  let c0_i32_8 : BitVec 32 := 0#32
  let v21 : BitVec 1 := Scalar.cmpi .eq c4_i32_7 c0_i32_8
  let c1_i32_9 : BitVec 32 := 1#32
  let v22 : BitVec 32 := Scalar.select v21 c1_i32_9 c4_i32_7
  let v23 : BitVec 32 := Scalar.remsi v3 v22
  let c0_i32_10 : BitVec 32 := 0#32
  let v24 : BitVec 1 := Scalar.cmpi .ne v23 c0_i32_10
  let c0_i32_11 : BitVec 32 := 0#32
  let v25 : BitVec 1 := Scalar.cmpi .slt v23 c0_i32_11
  let c0_i32_12 : BitVec 32 := 0#32
  let v26 : BitVec 1 := Scalar.cmpi .slt v22 c0_i32_12
  let v27 : BitVec 1 := Scalar.xori v25 v26
  let v28 : BitVec 1 := Scalar.andi v27 v24
  let v29 : BitVec 32 := Scalar.addi v23 v22
  let v30 : BitVec 32 := Scalar.select v28 v29 v23
  let c0_i32_13 : BitVec 32 := 0#32
  let c0_i32_14 : BitVec 32 := 0#32
  ![c0_i32_13.toNat, v20.toNat, v30.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c4_i32 : BitVec 32 := 4#32
  let v1 : BitVec 32 := Scalar.divsi arg1 c4_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg1 c4_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg1 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v0.toNat, v17.toNat, v27.toNat]

abbrev stage0_0 : Fin 2 → Memref sig .tc .vmem S8x616x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x616x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x616x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x616x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x616x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x616x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x616x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x616x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S8x616x2048 : Shape := ⟨3, ![8, 616, 2048]⟩
abbrev S2x2048x616 : Shape := ⟨3, ![2, 2048, 616]⟩
abbrev S_ : Shape := ⟨0, ![]⟩
abbrev S616x2048 : Shape := ⟨2, ![616, 2048]⟩
abbrev S2048x616 : Shape := ⟨2, ![2048, 616]⟩
abbrev S1x2048x616 : Shape := ⟨3, ![1, 2048, 616]⟩
abbrev S1x616x2048 : Shape := ⟨3, ![1, 616, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x616x2048, .bf16⟩
  | .hbm, ⟨1, _⟩ => ⟨S2x2048x616, .f32⟩
  | .hbm, ⟨2, _⟩ => ⟨S2x2048x616, .f32⟩
  | .hbm, ⟨3, _⟩ => ⟨S2x2048x616, .f32⟩
  | .hbm, ⟨4, _⟩ => ⟨S8x616x2048, .f32⟩
  | .hbm, ⟨5, _⟩ => ⟨S_, .f32⟩
  | .hbm, ⟨6, _⟩ => ⟨S616x2048, .f32⟩
  | .hbm, ⟨7, _⟩ => ⟨S2048x616, .f32⟩
  | .hbm, ⟨8, _⟩ => ⟨S1x2048x616, .f32⟩
  | .hbm, ⟨9, _⟩ => ⟨S2048x616, .f32⟩
  | .hbm, ⟨10, _⟩ => ⟨S1x2048x616, .f32⟩
  | .hbm, ⟨11, _⟩ => ⟨S2048x616, .f32⟩
  | .hbm, ⟨12, _⟩ => ⟨S1x2048x616, .f32⟩
  | .hbm, ⟨13, _⟩ => ⟨S2048x616, .f32⟩
  | .hbm, ⟨14, _⟩ => ⟨S_, .f32⟩
  | .hbm, ⟨15, _⟩ => ⟨S2048x616, .f32⟩
  | .hbm, ⟨16, _⟩ => ⟨S2048x616, .f32⟩
  | .hbm, ⟨17, _⟩ => ⟨S_, .f32⟩
  | .hbm, ⟨18, _⟩ => ⟨S2048x616, .f32⟩
  | .hbm, ⟨19, _⟩ => ⟨S2048x616, .f32⟩
  | .hbm, ⟨20, _⟩ => ⟨S2048x616, .f32⟩
  | .hbm, ⟨21, _⟩ => ⟨S_, .f32⟩
  | .hbm, ⟨22, _⟩ => ⟨S2048x616, .f32⟩
  | .hbm, ⟨23, _⟩ => ⟨S2048x616, .f32⟩
  | .hbm, ⟨24, _⟩ => ⟨S2048x616, .f32⟩
  | .hbm, ⟨25, _⟩ => ⟨S_, .f32⟩
  | .hbm, ⟨26, _⟩ => ⟨S2048x616, .f32⟩
  | .hbm, ⟨27, _⟩ => ⟨S2048x616, .f32⟩
  | .hbm, ⟨28, _⟩ => ⟨S2048x616, .f32⟩
  | .hbm, ⟨29, _⟩ => ⟨S_, .f32⟩
  | .hbm, ⟨30, _⟩ => ⟨S2048x616, .f32⟩
  | .hbm, ⟨31, _⟩ => ⟨S2048x616, .f32⟩
  | .hbm, ⟨32, _⟩ => ⟨S_, .f32⟩
  | .hbm, ⟨33, _⟩ => ⟨S2048x616, .f32⟩
  | .hbm, ⟨34, _⟩ => ⟨S2048x616, .f32⟩
  | .hbm, ⟨35, _⟩ => ⟨S2048x616, .f32⟩
  | .hbm, ⟨36, _⟩ => ⟨S_, .f32⟩
  | .hbm, ⟨37, _⟩ => ⟨S2048x616, .f32⟩
  | .hbm, ⟨38, _⟩ => ⟨S2048x616, .f32⟩
  | .hbm, ⟨39, _⟩ => ⟨S2048x616, .f32⟩
  | .hbm, ⟨40, _⟩ => ⟨S_, .f32⟩
  | .hbm, ⟨41, _⟩ => ⟨S2048x616, .f32⟩
  | .hbm, ⟨42, _⟩ => ⟨S2048x616, .f32⟩
  | .hbm, ⟨43, _⟩ => ⟨S2048x616, .f32⟩
  | .hbm, ⟨44, _⟩ => ⟨S_, .f32⟩
  | .hbm, ⟨45, _⟩ => ⟨S2048x616, .f32⟩
  | .hbm, ⟨46, _⟩ => ⟨S2048x616, .f32⟩
  | .hbm, ⟨47, _⟩ => ⟨S616x2048, .f32⟩
  | .hbm, ⟨48, _⟩ => ⟨S1x616x2048, .f32⟩
  | .hbm, ⟨49, _⟩ => ⟨S616x2048, .f32⟩
  | .hbm, ⟨50, _⟩ => ⟨S1x616x2048, .f32⟩
  | .hbm, ⟨51, _⟩ => ⟨S616x2048, .f32⟩
  | .hbm, ⟨52, _⟩ => ⟨S1x616x2048, .f32⟩
  | .hbm, ⟨53, _⟩ => ⟨S616x2048, .f32⟩
  | .hbm, ⟨54, _⟩ => ⟨S1x616x2048, .f32⟩
  | _, _ => ⟨S8x616x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.FlashTable.lean ====
module

public import proofs.«01_k».proof.Proof.Gen.KernelIdeal.Skeleton
public import Idealize.ShloMosaic.Lib.Exec
public import Idealize.ShloMosaic.Lib.Tactic
public import Idealize.ShloMosaic.Lib.Pipeline.Kit

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The table of tile pairs: row `p` holds the key tile and the query tile of pair `p`. -/
abbrev flashTbl : S37x2.Idx → BitVec 32 := fun i => lit0 (S37x2.rowMajor i)

/-- The word of the key tile of pair `p`. -/
def keyWord (p : Fin 37) : BitVec 32 := lit0 ⟨2 * p.val, by omega⟩

/-- The word of the query tile of pair `p`. -/
def qryWord (p : Fin 37) : BitVec 32 := lit0 ⟨2 * p.val + 1, by omega⟩

theorem keyWord_lt : ∀ p, (keyWord p).toNat < 8 := by decide

theorem qryWord_lt : ∀ p, (qryWord p).toNat < 8 := by decide

/-- The key tile of pair `p`. -/
def keyTile (p : Fin 37) : Fin 8 := ⟨(keyWord p).toNat, keyWord_lt p⟩

/-- The query tile of pair `p`. -/
def qryTile (p : Fin 37) : Fin 8 := ⟨(qryWord p).toNat, qryWord_lt p⟩

theorem flash_trips : k0_t1_loop.trips = 18 := by decide

/-- A word read from the table at row `p`, column 0, is the pair's key word. -/
theorem word_key (arg1 : Memref sig .tc .smem S37x2 .i32) (X : BufTy.Contents (Elt F) arg1.view.ty)
    (hX : arg1.view.read (Elt F) X = flashTbl) (off : Fin 2 → ℕ) (p : Fin 37) (ho : off = ![p.val, 0])
    (inb : ∀ a, off a + S1x1.size a ≤ S37x2.size a) (x : S1x1.Idx) :
    arg1.view.readAt (Elt F) (Rect.unit (s := S37x2) off S1x1.size inb).toLoadRect X x = keyWord p := by
  subst ho
  rw [View.readAt_apply, hX]
  have hx0 : (x 0).val = 0 := by have := (x 0).isLt; simpa using this
  have hx1 : (x 1).val = 0 := by have := (x 1).isLt; simpa using this
  show lit0 (S37x2.rowMajor _) = lit0 _
  refine congrArg lit0 (Fin.ext ?_)
  refine (Shape.rowMajor_val_two _).trans ?_
  simp [LoadRect.idx, Rect.unit, hx0, hx1, mul_comm]

/-- A word read from the table at row `p`, column 1, is the pair's query word. -/
theorem word_qry (arg1 : Memref sig .tc .smem S37x2 .i32) (X : BufTy.Contents (Elt F) arg1.view.ty)
    (hX : arg1.view.read (Elt F) X = flashTbl) (off : Fin 2 → ℕ) (p : Fin 37) (ho : off = ![p.val, 1])
    (inb : ∀ a, off a + S1x1.size a ≤ S37x2.size a) (x : S1x1.Idx) :
    arg1.view.readAt (Elt F) (Rect.unit (s := S37x2) off S1x1.size inb).toLoadRect X x = qryWord p := by
  subst ho
  rw [View.readAt_apply, hX]
  have hx0 : (x 0).val = 0 := by have := (x 0).isLt; simpa using this
  have hx1 : (x 1).val = 0 := by have := (x 1).isLt; simpa using this
  show lit0 (S37x2.rowMajor _) = lit0 _
  refine congrArg lit0 (Fin.ext ?_)
  refine (Shape.rowMajor_val_two _).trans ?_
  simp [LoadRect.idx, Rect.unit, hx0, hx1, mul_comm]

end Cert.KernelIdeal.Gen

end
-- ==== Proof.FlashStep.lean ====
module

public import proofs.«01_k».proof.Proof.Gen.KernelIdeal.Skeleton
public import proofs.«01_k».proof.Proof.FlashTable
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pipeline.Value

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The words of every pair satisfy what the kernel assumes of them where it reads them. -/
theorem chk3_key : ∀ p, k0_chk3 (keyWord p) := by decide

/-- The words of every pair satisfy what the kernel assumes of them where it reads them. -/
theorem chk4_qry : ∀ p, k0_chk4 (qryWord p) := by decide

/-- The words of every pair satisfy what the kernel assumes of them where it reads them. -/
theorem chk5_qry : ∀ p, k0_chk5 (qryWord p) := by decide

/-- The words of every pair satisfy what the kernel assumes of them where it reads them. -/
theorem chk6_key : ∀ p, k0_chk6 (keyWord p) := by decide

/-- The words of every pair satisfy what the kernel assumes of them where it reads them. -/
theorem chk7_key : ∀ p, k0_chk7 (keyWord p) := by decide

/-- The words of every pair satisfy what the kernel assumes of them where it reads them. -/
theorem chk8_qry : ∀ p, k0_chk8 (qryWord p) := by decide

/-- The words of every pair satisfy what the kernel assumes of them where it reads them. -/
theorem chk9_qry : ∀ p, k0_chk9 (qryWord p) := by decide

/-- The words of every pair satisfy what the kernel assumes of them where it reads them. -/
theorem chk10_key : ∀ p, k0_chk10 (keyWord p) := by decide

theorem off5_eq (k : Fin k0_t1_loop.trips) : k0_off5 k = ![2 * k.val + 1, 0] := by
  revert k; decide

theorem off6_eq (k : Fin k0_t1_loop.trips) : k0_off6 k = ![2 * k.val + 1, 1] := by
  revert k; decide

theorem off11_eq (k : Fin k0_t1_loop.trips) : k0_off11 k = ![2 * k.val, 0] := by
  revert k; decide

theorem off12_eq (k : Fin k0_t1_loop.trips) : k0_off12 k = ![2 * k.val, 1] := by
  revert k; decide

theorem off20_eq (k : Fin k0_t1_loop.trips) : k0_off20 k = ![2 * k.val + 2, 0] := by
  revert k; decide

theorem off21_eq (k : Fin k0_t1_loop.trips) : k0_off21 k = ![2 * k.val + 2, 1] := by
  revert k; decide

theorem off26_eq (k : Fin k0_t1_loop.trips) : k0_off26 k = ![2 * k.val + 1, 0] := by
  revert k; decide

theorem off27_eq (k : Fin k0_t1_loop.trips) : k0_off27 k = ![2 * k.val + 1, 1] := by
  revert k; decide

/-- The contents of a view after one more store: the earlier contents with the stored block laid over them. -/
theorem read_writes_overlay {sig' : RefSig} {κ : Kind} {sp : Space} {s : Shape} {e : EltTy} {Val : EltTy → Type}
    (v : View sig' κ sp s e) (f : v.ty.Contents Val) (p : View.Piece Val s e) (L : List (View.Piece Val s e)) :
    v.read Val (v.writes Val f (p :: L)) = p.1.overlay (v.read Val (v.writes Val f L)) p.2 := by
  obtain ⟨r, w⟩ := p
  funext y
  by_cases hy : y ∈ r.set
  · obtain ⟨x, rfl⟩ := r.exists_idx_of_mem hy
    show _ = Rect.overlay r _ _ (r.emb x)
    rw [Rect.overlay_emb]
    exact View.read_writes_cons_emb v f r w L x
  · rw [Rect.overlay_of_not_mem _ _ _ hy]
    exact View.read_slice_write_of_not_mem r _ _ _ (by rw [Rect.map_emb_univ]; exact hy)

/-- The three accumulators of one head. -/
structure FlashAcc (F : FTy → Type) where
  dq : Vec F S8x256x512 .f32
  dk : Vec F S8x512x256 .f32
  dv : Vec F S8x512x128 .f32

/-- The inputs of one head: queries, keys, values, the result's cotangent, the rows' log-sum-exp, the rows' correction, the
transposed keys, the additive mask of a diagonal tile; the first pair's scores and
products, and what the accumulators hold before any pair. -/
structure FlashIn (F : FTy → Type) where
  xq : Vec F S1x4096x256 .bf16
  xk : Vec F S1x4096x256 .bf16
  xv : Vec F S4096x128 .bf16
  xo : Vec F S4096x128 .bf16
  xl : Vec F S1x16x1x256 .f32
  xd : Vec F S1x16x1x256 .f32
  kt : Vec F S8x256x512 .bf16
  bias : Vec F S512x512 .f32
  s0 : Vec F S1x512x512 .f32
  d0 : Vec F S1x512x512 .f32
  a0 : FlashAcc F

namespace FlashIn

variable (X : FlashIn F) (p : Fin 37)

/-- The scores of pair `p`, as products of its rows. -/
def scoreOf : Vec F S1x512x512 .f32 :=
  k0_pay2 (View.ld (Val := Elt F) (e' := .bf16) X.xk (Rect.unit (s := S1x4096x256) (k0_off7 (keyWord p)) S1x512x256.size (k0_off7_inb _ (chk3_key p))))
    (View.ld (Val := Elt F) (e' := .bf16) X.xq (Rect.unit (s := S1x4096x256) (k0_off9 (qryWord p)) S1x512x256.size (k0_off9_inb _ (chk4_qry p))))

/-- The products of values and cotangents of pair `p`, of its rows. -/
def prodOf : Vec F S1x512x512 .f32 :=
  k0_pay3 (View.ld (Val := Elt F) (e' := .bf16) X.xv (Rect.unit (s := S4096x128) (k0_off8 (keyWord p)) S512x128.size (k0_off8_inb _ (chk3_key p))))
    (View.ld (Val := Elt F) (e' := .bf16) X.xo (Rect.unit (s := S4096x128) (k0_off10 (qryWord p)) S512x128.size (k0_off10_inb _ (chk4_qry p))))

/-- The scores of pair `p`: the first pair's are given. -/
def score : Vec F S1x512x512 .f32 := if p.val = 0 then X.s0 else X.scoreOf p

/-- The products of pair `p`: the first pair's are given. -/
def prod : Vec F S1x512x512 .f32 := if p.val = 0 then X.d0 else X.prodOf p

theorem score_pos (h : p.val ≠ 0) : X.score p = X.scoreOf p := if_neg h

theorem prod_pos (h : p.val ≠ 0) : X.prod p = X.prodOf p := if_neg h

/-- Half `r` of the log-sum-exp of the query tile. -/
def lse (r : Fin 2) : Vec F S1x1x1x256 .f32 :=
  View.ld (Val := Elt F) (e' := .f32) X.xl (Rect.unit (s := S1x16x1x256) (k0_off15 (qryWord p) (BitVec.ofNat 32 r.val)) S1x1x1x256.size (k0_off15_inb _ (chk5_qry p) r))

/-- Half `r` of the correction of the query tile. -/
def corr (r : Fin 2) : Vec F S1x1x1x256 .f32 :=
  View.ld (Val := Elt F) (e' := .f32) X.xd (Rect.unit (s := S1x16x1x256) (k0_off15 (qryWord p) (BitVec.ofNat 32 r.val)) S1x1x1x256.size (k0_off15_inb _ (chk5_qry p) r))

/-- The probabilities of pair `p`, of its scores `s`. -/
def prob (s : Vec F S1x512x512 .f32) : FVec F S512x512 .f32 :=
  k0_pay6 (keyWord p) (qryWord p) s X.bias (X.lse p 0) (X.lse p 1)

/-- The query rows of pair `p`. -/
def qRows : Vec F S1x512x256 .bf16 :=
  View.ld (Val := Elt F) (e' := .bf16) X.xq (Rect.unit (s := S1x4096x256) (k0_off13 (qryWord p)) S1x512x256.size (k0_off13_inb _ (chk5_qry p)))

/-- The cotangent rows of pair `p`. -/
def oRows : Vec F S512x128 .bf16 :=
  View.ld (Val := Elt F) (e' := .bf16) X.xo (Rect.unit (s := S4096x128) (k0_off14 (qryWord p)) S512x128.size (k0_off14_inb _ (chk5_qry p)))

/-- The accumulators after pair `p` of scores `s` and products `d`, from those before it. -/
def step (s d : Vec F S1x512x512 .f32) (a : FlashAcc F) : FlashAcc F where
  dv := (Rect.unit (s := S8x512x128) (k0_off16 (keyWord p)) S1x512x128.size (k0_off16_inb _ (chk6_key p))).overlay a.dv
    (k0_pay8 (k0_pay5 (X.oRows p)) (X.prob p s)
      (View.ld (Val := Elt F) (e' := .f32) a.dv (Rect.unit (s := S8x512x128) (k0_off16 (keyWord p)) S1x512x128.size (k0_off16_inb _ (chk6_key p)))))
  dk := (Rect.unit (s := S8x512x256) (k0_off17 (keyWord p)) S1x512x256.size (k0_off17_inb _ (chk6_key p))).overlay a.dk
    (k0_pay10 (k0_pay9 (k0_pay4 (X.qRows p)) (X.prob p s) d (X.corr p 0) (X.corr p 1)
      (View.ld (Val := Elt F) (e' := .f32) a.dk (Rect.unit (s := S8x512x256) (k0_off17 (keyWord p)) S1x512x256.size (k0_off17_inb _ (chk6_key p))))))
  dq := (Rect.unit (s := S8x256x512) (k0_off18 (qryWord p)) S1x256x512.size (k0_off18_inb _ (chk5_qry p))).overlay a.dq
    (k0_pay11 (k0_pay7 (X.prob p s) d (X.corr p 0) (X.corr p 1))
      (View.ld (Val := Elt F) (e' := .f32) a.dq (Rect.unit (s := S8x256x512) (k0_off18 (qryWord p)) S1x256x512.size (k0_off18_inb _ (chk5_qry p))))
      (View.ld (Val := Elt F) (e' := .bf16) X.kt (Rect.unit (s := S8x256x512) (k0_off19 (keyWord p)) S1x256x512.size (k0_off19_inb _ (chk6_key p)))))

/-- The accumulators after the first `n` pairs. -/
def acc : ℕ → FlashAcc F
  | 0 => X.a0
  | n + 1 => if h : n < 37 then X.step ⟨n, h⟩ (X.score ⟨n, h⟩) (X.prod ⟨n, h⟩) (acc n) else acc n

theorem acc_succ (n : ℕ) (h : n < 37) : X.acc (n + 1) = X.step ⟨n, h⟩ (X.score ⟨n, h⟩) (X.prod ⟨n, h⟩) (X.acc n) := dif_pos h

end FlashIn

/-- The block a double buffer of tiles holds in its slot 0. -/
abbrev slot0 (Y : Vec F S2x512x512 .f32) : Vec F S1x512x512 .f32 :=
  View.ld (Val := Elt F) (e' := .f32) Y (Rect.unit (s := S2x512x512) ![0, 0, 0] S1x512x512.size inb_S2x512x512_S1x512x512_0_0_0)

/-- Slot 1 of a double buffer, read after slot 0 was stored over it, is what was stored there. -/
theorem slot1_readCov {κ : Kind} {sp : Space} (v : View sig κ sp S2x512x512 .f32) (h1) (a b : Vec F S1x512x512 .f32) :
    v.readCov (Val := Elt F) [⟨Rect.unit ![0, 0, 0] S1x512x512.size inb_S2x512x512_S1x512x512_0_0_0, a⟩,
      ⟨Rect.unit ![1, 0, 0] S1x512x512.size h1, b⟩] (Rect.unit (s := S2x512x512) ![1, 0, 0] S1x512x512.size inb_S2x512x512_S1x512x512_1_0_0).toLoadRect = b := by
  rw [View.readCov_cons_of_disjoint]
  · exact View.readCov_cons_toLoadRect v (Rect.unit (s := S2x512x512) ![1, 0, 0] S1x512x512.size h1) b []
  · exact Rect.unit_disjoint (s := S2x512x512) (inb := inb_S2x512x512_S1x512x512_0_0_0) (0 : Fin 3) (Or.inl (by decide))

/-- A load of the whole mask is the mask. -/
theorem whole_ld (Y : Vec F S512x512 .f32) :
    View.ld (Val := Elt F) (e' := .f32) Y (Rect.unit (s := S512x512) ![0, 0] S512x512.size inb_S512x512_S512x512_0_0) = Y :=
  View.ld_unit_zero (S := S512x512) (by decide) _ Y

/-- Slot 0 of a double buffer, read after slot 0 was stored over it, is what was stored. -/
theorem slot0_overlay (Y : Vec F S2x512x512 .f32) (h0) (a : Vec F S1x512x512 .f32) :
    slot0 (Rect.overlay (α := Elt F .f32) (Rect.unit (s := S2x512x512) ![0, 0, 0] S1x512x512.size h0) Y a) = a := by
  funext x
  exact Rect.overlay_emb (Rect.unit (s := S2x512x512) ![0, 0, 0] S1x512x512.size h0) Y a x

end Cert.KernelIdeal.Gen

end
-- ==== Proof.FlashTrip.lean ====
module

public import proofs.«01_k».proof.Proof.Gen.KernelIdeal.Skeleton
public import proofs.«01_k».proof.Proof.FlashStep
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pipeline.Value

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- One trip of the loop over pairs: it adds pairs `2 k` and `2 k + 1` and prepares the scores of pair `2 k + 2`. -/
theorem flash_trip (𝒱 : Variants) (c : Dev nD) (bd : Option 𝒱.V) (E : Set ℕ) (i : grid0.Coords) (arg1 : Memref sig .tc .smem S37x2 .i32) (harg1 : arg1.IsWhole) (arg2 : Memref sig .tc .vmem S1x4096x256 .bf16) (harg2 : arg2.IsWhole) (arg3 : Memref sig .tc .vmem S1x4096x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x16x1x256 .f32) (harg6 : arg6.IsWhole) (arg7 : Memref sig .tc .vmem S1x16x1x256 .f32) (harg7 : arg7.IsWhole) (arg8 : Memref sig .tc .vmem S1x4096x256 .f32) (harg8 : arg8.IsWhole) (arg9 : Memref sig .tc .vmem S4096x256 .bf16) (harg9 : arg9.IsWhole) (arg10 : Memref sig .tc .vmem S1x4096x128 .f32) (harg10 : arg10.IsWhole) (arg11 : Memref sig .tc .vmem S8x256x512 .f32) (harg11 : arg11.IsWhole) (arg12 : Memref sig .tc .vmem S8x512x256 .f32) (harg12 : arg12.IsWhole) (arg13 : Memref sig .tc .vmem S8x512x128 .f32) (harg13 : arg13.IsWhole) (arg14 : Memref sig .tc .vmem S2x512x512 .f32) (harg14 : arg14.IsWhole) (arg15 : Memref sig .tc .vmem S2x512x512 .f32) (harg15 : arg15.IsWhole) (arg16 : Memref sig .tc .vmem S8x256x512 .bf16) (harg16 : arg16.IsWhole) (arg17 : Memref sig .tc .vmem S512x512 .f32) (harg17 : arg17.IsWhole) (v91 : FVec F S256x512 .bf16)
    (X : FlashIn F) (X1 : BufTy.Contents (Elt F) arg1.view.ty) (h1 : arg1.view.read (Elt F) X1 = flashTbl) (k : Fin k0_t1_loop.trips)
    (f14 : BufTy.Contents (Elt F) arg14.view.ty) (f15 : BufTy.Contents (Elt F) arg15.view.ty)
    (h14 : slot0 (arg14.view.read (Elt F) f14) = X.score ⟨2 * k.val, by have := Nat.lt_of_lt_of_le k.isLt k0_t1_abs.2.1; omega⟩)
    (h15 : slot0 (arg15.view.read (Elt F) f15) = X.prod ⟨2 * k.val, by have := Nat.lt_of_lt_of_le k.isLt k0_t1_abs.2.1; omega⟩) :
    iprop((arg1.view.loc (c : Thread nD τ) ↦[arg1.view.set]{fullShare.right} X1) ∗ (arg2.view.loc (c : Thread nD τ) ↦[arg2.view.set]{fullShare} (harg2.unread X.xq)) ∗ (arg3.view.loc (c : Thread nD τ) ↦[arg3.view.set]{fullShare} (harg3.unread X.xk)) ∗ (arg4.view.loc (c : Thread nD τ) ↦[arg4.view.set]{fullShare} (harg4.unread X.xv)) ∗ (arg5.view.loc (c : Thread nD τ) ↦[arg5.view.set]{fullShare} (harg5.unread X.xo)) ∗ (arg6.view.loc (c : Thread nD τ) ↦[arg6.view.set]{fullShare} (harg6.unread X.xl)) ∗ (arg7.view.loc (c : Thread nD τ) ↦[arg7.view.set]{fullShare} (harg7.unread X.xd)) ∗ (arg16.view.loc (c : Thread nD τ) ↦[arg16.view.set]{fullShare} (harg16.unread X.kt)) ∗ (arg17.view.loc (c : Thread nD τ) ↦[arg17.view.set]{fullShare} (harg17.unread X.bias)) ∗ (arg11.view.loc (c : Thread nD τ) ↦[arg11.view.set]{fullShare} (harg11.unread (X.acc (2 * k.val)).dq)) ∗ (arg12.view.loc (c : Thread nD τ) ↦[arg12.view.set]{fullShare} (harg12.unread (X.acc (2 * k.val)).dk)) ∗ (arg13.view.loc (c : Thread nD τ) ↦[arg13.view.set]{fullShare} (harg13.unread (X.acc (2 * k.val)).dv)) ∗ (arg14.view.loc (c : Thread nD τ) ↦[arg14.view.set]{fullShare} f14) ∗ (arg15.view.loc (c : Thread nD τ) ↦[arg15.view.set]{fullShare} f15))
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v91 k PUnit.unit)
        (fun _ => (iprop((arg1.view.loc (c : Thread nD τ) ↦[arg1.view.set]{fullShare.right} X1) ∗ (arg2.view.loc (c : Thread nD τ) ↦[arg2.view.set]{fullShare} (harg2.unread X.xq)) ∗ (arg3.view.loc (c : Thread nD τ) ↦[arg3.view.set]{fullShare} (harg3.unread X.xk)) ∗ (arg4.view.loc (c : Thread nD τ) ↦[arg4.view.set]{fullShare} (harg4.unread X.xv)) ∗ (arg5.view.loc (c : Thread nD τ) ↦[arg5.view.set]{fullShare} (harg5.unread X.xo)) ∗ (arg6.view.loc (c : Thread nD τ) ↦[arg6.view.set]{fullShare} (harg6.unread X.xl)) ∗ (arg7.view.loc (c : Thread nD τ) ↦[arg7.view.set]{fullShare} (harg7.unread X.xd)) ∗ (arg16.view.loc (c : Thread nD τ) ↦[arg16.view.set]{fullShare} (harg16.unread X.kt)) ∗ (arg17.view.loc (c : Thread nD τ) ↦[arg17.view.set]{fullShare} (harg17.unread X.bias)) ∗ (∃ f, (arg11.view.loc (c : Thread nD τ) ↦[arg11.view.set]{fullShare} f) ∗ ⌜arg11.view.read (Elt F) f = (X.acc (2 * k.val + 2)).dq⌝) ∗ (∃ f, (arg12.view.loc (c : Thread nD τ) ↦[arg12.view.set]{fullShare} f) ∗ ⌜arg12.view.read (Elt F) f = (X.acc (2 * k.val + 2)).dk⌝) ∗ (∃ f, (arg13.view.loc (c : Thread nD τ) ↦[arg13.view.set]{fullShare} f) ∗ ⌜arg13.view.read (Elt F) f = (X.acc (2 * k.val + 2)).dv⌝) ∗ (∃ f, (arg14.view.loc (c : Thread nD τ) ↦[arg14.view.set]{fullShare} f) ∗ ⌜slot0 (arg14.view.read (Elt F) f) = X.score ⟨2 * k.val + 2, by have := Nat.lt_of_lt_of_le k.isLt k0_t1_abs.2.1; omega⟩⌝) ∗ (∃ f, (arg15.view.loc (c : Thread nD τ) ↦[arg15.view.set]{fullShare} f) ∗ ⌜slot0 (arg15.view.read (Elt F) f) = X.prod ⟨2 * k.val + 2, by have := Nat.lt_of_lt_of_le k.isLt k0_t1_abs.2.1; omega⟩⌝)) : sProp 𝕄G)) := by
  have hk : k.val < 18 := Nat.lt_of_lt_of_le k.isLt k0_t1_abs.2.1
  have k0_hw3 := chk3_key ⟨2 * k.val + 1, by omega⟩
  have e3 := word_key (F := F) arg1 X1 h1 (k0_off5 k) ⟨2 * k.val + 1, by omega⟩ (off5_eq k) (k0_off5_inb k) (Shape.Idx.first (numel1_S1x1.symm ▸ Nat.one_pos))
  rw [← e3] at k0_hw3
  have k0_hw4 := chk4_qry ⟨2 * k.val + 1, by omega⟩
  have e4 := word_qry (F := F) arg1 X1 h1 (k0_off6 k) ⟨2 * k.val + 1, by omega⟩ (off6_eq k) (k0_off6_inb k) (Shape.Idx.first (numel1_S1x1.symm ▸ Nat.one_pos))
  rw [← e4] at k0_hw4
  have k0_hw6 := chk6_key ⟨2 * k.val, by omega⟩
  have e6 := word_key (F := F) arg1 X1 h1 (k0_off11 k) ⟨2 * k.val, by omega⟩ (off11_eq k) (k0_off11_inb k) (Shape.Idx.first (numel1_S1x1.symm ▸ Nat.one_pos))
  rw [← e6] at k0_hw6
  have k0_hw5 := chk5_qry ⟨2 * k.val, by omega⟩
  have e5 := word_qry (F := F) arg1 X1 h1 (k0_off12 k) ⟨2 * k.val, by omega⟩ (off12_eq k) (k0_off12_inb k) (Shape.Idx.first (numel1_S1x1.symm ▸ Nat.one_pos))
  rw [← e5] at k0_hw5
  have k0_hw7 := chk7_key ⟨2 * k.val + 2, by omega⟩
  have e7 := word_key (F := F) arg1 X1 h1 (k0_off20 k) ⟨2 * k.val + 2, by omega⟩ (off20_eq k) (k0_off20_inb k) (Shape.Idx.first (numel1_S1x1.symm ▸ Nat.one_pos))
  rw [← e7] at k0_hw7
  have k0_hw8 := chk8_qry ⟨2 * k.val + 2, by omega⟩
  have e8 := word_qry (F := F) arg1 X1 h1 (k0_off21 k) ⟨2 * k.val + 2, by omega⟩ (off21_eq k) (k0_off21_inb k) (Shape.Idx.first (numel1_S1x1.symm ▸ Nat.one_pos))
  rw [← e8] at k0_hw8
  have k0_hw10 := chk10_key ⟨2 * k.val + 1, by omega⟩
  have e10 := word_key (F := F) arg1 X1 h1 (k0_off26 k) ⟨2 * k.val + 1, by omega⟩ (off26_eq k) (k0_off26_inb k) (Shape.Idx.first (numel1_S1x1.symm ▸ Nat.one_pos))
  rw [← e10] at k0_hw10
  have k0_hw9 := chk9_qry ⟨2 * k.val + 1, by omega⟩
  have e9 := word_qry (F := F) arg1 X1 h1 (k0_off27 k) ⟨2 * k.val + 1, by omega⟩ (off27_eq k) (k0_off27_inb k) (Shape.Idx.first (numel1_S1x1.symm ▸ Nat.one_pos))
  rw [← e9] at k0_hw9
  unfold k0_t1_body
  iintro ⟨H1, H2, H3, H4, H5, H6, H7, H16, H17, H11, H12, H13, H14, H15⟩
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H16]; · iexact H16
  isplitl [H17]; · iexact H17
  sl_unfold_run_names
  isplitl [H11]
  · iexists _
    isplitl [H11]
    · iexact H11
    ipureintro
    generalize View.readAt (Elt F) arg1.view (Rect.unit (s := S37x2) (k0_off5 k) S1x1.size (k0_off5_inb k)).toLoadRect X1 (Shape.Idx.first (numel1_S1x1.symm ▸ Nat.one_pos)) = w3 at k0_hw3 e3 ⊢
    subst e3
    generalize View.readAt (Elt F) arg1.view (Rect.unit (s := S37x2) (k0_off6 k) S1x1.size (k0_off6_inb k)).toLoadRect X1 (Shape.Idx.first (numel1_S1x1.symm ▸ Nat.one_pos)) = w4 at k0_hw4 e4 ⊢
    subst e4
    generalize View.readAt (Elt F) arg1.view (Rect.unit (s := S37x2) (k0_off11 k) S1x1.size (k0_off11_inb k)).toLoadRect X1 (Shape.Idx.first (numel1_S1x1.symm ▸ Nat.one_pos)) = w6 at k0_hw6 e6 ⊢
    subst e6
    generalize View.readAt (Elt F) arg1.view (Rect.unit (s := S37x2) (k0_off12 k) S1x1.size (k0_off12_inb k)).toLoadRect X1 (Shape.Idx.first (numel1_S1x1.symm ▸ Nat.one_pos)) = w5 at k0_hw5 e5 ⊢
    subst e5
    generalize View.readAt (Elt F) arg1.view (Rect.unit (s := S37x2) (k0_off20 k) S1x1.size (k0_off20_inb k)).toLoadRect X1 (Shape.Idx.first (numel1_S1x1.symm ▸ Nat.one_pos)) = w7 at k0_hw7 e7 ⊢
    subst e7
    generalize View.readAt (Elt F) arg1.view (Rect.unit (s := S37x2) (k0_off21 k) S1x1.size (k0_off21_inb k)).toLoadRect X1 (Shape.Idx.first (numel1_S1x1.symm ▸ Nat.one_pos)) = w8 at k0_hw8 e8 ⊢
    subst e8
    generalize View.readAt (Elt F) arg1.view (Rect.unit (s := S37x2) (k0_off26 k) S1x1.size (k0_off26_inb k)).toLoadRect X1 (Shape.Idx.first (numel1_S1x1.symm ▸ Nat.one_pos)) = w10 at k0_hw10 e10 ⊢
    subst e10
    generalize View.readAt (Elt F) arg1.view (Rect.unit (s := S37x2) (k0_off27 k) S1x1.size (k0_off27_inb k)).toLoadRect X1 (Shape.Idx.first (numel1_S1x1.symm ▸ Nat.one_pos)) = w9 at k0_hw9 e9 ⊢
    subst e9
    simp only [read_writes_overlay, View.writes_nil, Memref.IsWhole.read_unread, View.readAt_eq_ld]
    rw [X.acc_succ (2 * k.val + 1) (by omega), X.acc_succ (2 * k.val) (by omega), X.score_pos ⟨2 * k.val + 1, _⟩ (Nat.succ_ne_zero _), X.prod_pos ⟨2 * k.val + 1, _⟩ (Nat.succ_ne_zero _)]
    rw [slot1_readCov, slot1_readCov, whole_ld]
    dsimp only [FlashIn.step, FlashIn.prob, FlashIn.scoreOf, FlashIn.prodOf, FlashIn.lse, FlashIn.corr, FlashIn.qRows, FlashIn.oRows,
      k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay40, k0_pay41, k0_pay42,
      k0_off7, k0_off8, k0_off9, k0_off10, k0_off13, k0_off14, k0_off15, k0_off16, k0_off17, k0_off18, k0_off19, k0_off22, k0_off23, k0_off24, k0_off25, k0_off28, k0_off29, k0_off30, k0_off31, k0_off32, k0_off33, k0_off34]
    rfl
  isplitl [H12]
  · iexists _
    isplitl [H12]
    · iexact H12
    ipureintro
    generalize View.readAt (Elt F) arg1.view (Rect.unit (s := S37x2) (k0_off5 k) S1x1.size (k0_off5_inb k)).toLoadRect X1 (Shape.Idx.first (numel1_S1x1.symm ▸ Nat.one_pos)) = w3 at k0_hw3 e3 ⊢
    subst e3
    generalize View.readAt (Elt F) arg1.view (Rect.unit (s := S37x2) (k0_off6 k) S1x1.size (k0_off6_inb k)).toLoadRect X1 (Shape.Idx.first (numel1_S1x1.symm ▸ Nat.one_pos)) = w4 at k0_hw4 e4 ⊢
    subst e4
    generalize View.readAt (Elt F) arg1.view (Rect.unit (s := S37x2) (k0_off11 k) S1x1.size (k0_off11_inb k)).toLoadRect X1 (Shape.Idx.first (numel1_S1x1.symm ▸ Nat.one_pos)) = w6 at k0_hw6 e6 ⊢
    subst e6
    generalize View.readAt (Elt F) arg1.view (Rect.unit (s := S37x2) (k0_off12 k) S1x1.size (k0_off12_inb k)).toLoadRect X1 (Shape.Idx.first (numel1_S1x1.symm ▸ Nat.one_pos)) = w5 at k0_hw5 e5 ⊢
    subst e5
    generalize View.readAt (Elt F) arg1.view (Rect.unit (s := S37x2) (k0_off20 k) S1x1.size (k0_off20_inb k)).toLoadRect X1 (Shape.Idx.first (numel1_S1x1.symm ▸ Nat.one_pos)) = w7 at k0_hw7 e7 ⊢
    subst e7
    generalize View.readAt (Elt F) arg1.view (Rect.unit (s := S37x2) (k0_off21 k) S1x1.size (k0_off21_inb k)).toLoadRect X1 (Shape.Idx.first (numel1_S1x1.symm ▸ Nat.one_pos)) = w8 at k0_hw8 e8 ⊢
    subst e8
    generalize View.readAt (Elt F) arg1.view (Rect.unit (s := S37x2) (k0_off26 k) S1x1.size (k0_off26_inb k)).toLoadRect X1 (Shape.Idx.first (numel1_S1x1.symm ▸ Nat.one_pos)) = w10 at k0_hw10 e10 ⊢
    subst e10
    generalize View.readAt (Elt F) arg1.view (Rect.unit (s := S37x2) (k0_off27 k) S1x1.size (k0_off27_inb k)).toLoadRect X1 (Shape.Idx.first (numel1_S1x1.symm ▸ Nat.one_pos)) = w9 at k0_hw9 e9 ⊢
    subst e9
    simp only [read_writes_overlay, View.writes_nil, Memref.IsWhole.read_unread, View.readAt_eq_ld]
    rw [X.acc_succ (2 * k.val + 1) (by omega), X.acc_succ (2 * k.val) (by omega), X.score_pos ⟨2 * k.val + 1, _⟩ (Nat.succ_ne_zero _), X.prod_pos ⟨2 * k.val + 1, _⟩ (Nat.succ_ne_zero _)]
    rw [slot1_readCov, slot1_readCov, whole_ld]
    dsimp only [FlashIn.step, FlashIn.prob, FlashIn.scoreOf, FlashIn.prodOf, FlashIn.lse, FlashIn.corr, FlashIn.qRows, FlashIn.oRows,
      k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay40, k0_pay41, k0_pay42,
      k0_off7, k0_off8, k0_off9, k0_off10, k0_off13, k0_off14, k0_off15, k0_off16, k0_off17, k0_off18, k0_off19, k0_off22, k0_off23, k0_off24, k0_off25, k0_off28, k0_off29, k0_off30, k0_off31, k0_off32, k0_off33, k0_off34]
    rfl
  isplitl [H13]
  · iexists _
    isplitl [H13]
    · iexact H13
    ipureintro
    generalize View.readAt (Elt F) arg1.view (Rect.unit (s := S37x2) (k0_off5 k) S1x1.size (k0_off5_inb k)).toLoadRect X1 (Shape.Idx.first (numel1_S1x1.symm ▸ Nat.one_pos)) = w3 at k0_hw3 e3 ⊢
    subst e3
    generalize View.readAt (Elt F) arg1.view (Rect.unit (s := S37x2) (k0_off6 k) S1x1.size (k0_off6_inb k)).toLoadRect X1 (Shape.Idx.first (numel1_S1x1.symm ▸ Nat.one_pos)) = w4 at k0_hw4 e4 ⊢
    subst e4
    generalize View.readAt (Elt F) arg1.view (Rect.unit (s := S37x2) (k0_off11 k) S1x1.size (k0_off11_inb k)).toLoadRect X1 (Shape.Idx.first (numel1_S1x1.symm ▸ Nat.one_pos)) = w6 at k0_hw6 e6 ⊢
    subst e6
    generalize View.readAt (Elt F) arg1.view (Rect.unit (s := S37x2) (k0_off12 k) S1x1.size (k0_off12_inb k)).toLoadRect X1 (Shape.Idx.first (numel1_S1x1.symm ▸ Nat.one_pos)) = w5 at k0_hw5 e5 ⊢
    subst e5
    generalize View.readAt (Elt F) arg1.view (Rect.unit (s := S37x2) (k0_off20 k) S1x1.size (k0_off20_inb k)).toLoadRect X1 (Shape.Idx.first (numel1_S1x1.symm ▸ Nat.one_pos)) = w7 at k0_hw7 e7 ⊢
    subst e7
    generalize View.readAt (Elt F) arg1.view (Rect.unit (s := S37x2) (k0_off21 k) S1x1.size (k0_off21_inb k)).toLoadRect X1 (Shape.Idx.first (numel1_S1x1.symm ▸ Nat.one_pos)) = w8 at k0_hw8 e8 ⊢
    subst e8
    generalize View.readAt (Elt F) arg1.view (Rect.unit (s := S37x2) (k0_off26 k) S1x1.size (k0_off26_inb k)).toLoadRect X1 (Shape.Idx.first (numel1_S1x1.symm ▸ Nat.one_pos)) = w10 at k0_hw10 e10 ⊢
    subst e10
    generalize View.readAt (Elt F) arg1.view (Rect.unit (s := S37x2) (k0_off27 k) S1x1.size (k0_off27_inb k)).toLoadRect X1 (Shape.Idx.first (numel1_S1x1.symm ▸ Nat.one_pos)) = w9 at k0_hw9 e9 ⊢
    subst e9
    simp only [read_writes_overlay, View.writes_nil, Memref.IsWhole.read_unread, View.readAt_eq_ld]
    rw [X.acc_succ (2 * k.val + 1) (by omega), X.acc_succ (2 * k.val) (by omega), X.score_pos ⟨2 * k.val + 1, _⟩ (Nat.succ_ne_zero _), X.prod_pos ⟨2 * k.val + 1, _⟩ (Nat.succ_ne_zero _)]
    rw [slot1_readCov, whole_ld]
    dsimp only [FlashIn.step, FlashIn.prob, FlashIn.scoreOf, FlashIn.prodOf, FlashIn.lse, FlashIn.corr, FlashIn.qRows, FlashIn.oRows,
      k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay40, k0_pay41, k0_pay42,
      k0_off7, k0_off8, k0_off9, k0_off10, k0_off13, k0_off14, k0_off15, k0_off16, k0_off17, k0_off18, k0_off19, k0_off22, k0_off23, k0_off24, k0_off25, k0_off28, k0_off29, k0_off30, k0_off31, k0_off32, k0_off33, k0_off34]
    rfl
  isplitl [H14]
  · iexists _
    isplitl [H14]
    · iexact H14
    ipureintro
    generalize View.readAt (Elt F) arg1.view (Rect.unit (s := S37x2) (k0_off5 k) S1x1.size (k0_off5_inb k)).toLoadRect X1 (Shape.Idx.first (numel1_S1x1.symm ▸ Nat.one_pos)) = w3 at k0_hw3 e3 ⊢
    subst e3
    generalize View.readAt (Elt F) arg1.view (Rect.unit (s := S37x2) (k0_off6 k) S1x1.size (k0_off6_inb k)).toLoadRect X1 (Shape.Idx.first (numel1_S1x1.symm ▸ Nat.one_pos)) = w4 at k0_hw4 e4 ⊢
    subst e4
    generalize View.readAt (Elt F) arg1.view (Rect.unit (s := S37x2) (k0_off11 k) S1x1.size (k0_off11_inb k)).toLoadRect X1 (Shape.Idx.first (numel1_S1x1.symm ▸ Nat.one_pos)) = w6 at k0_hw6 e6 ⊢
    subst e6
    generalize View.readAt (Elt F) arg1.view (Rect.unit (s := S37x2) (k0_off12 k) S1x1.size (k0_off12_inb k)).toLoadRect X1 (Shape.Idx.first (numel1_S1x1.symm ▸ Nat.one_pos)) = w5 at k0_hw5 e5 ⊢
    subst e5
    generalize View.readAt (Elt F) arg1.view (Rect.unit (s := S37x2) (k0_off20 k) S1x1.size (k0_off20_inb k)).toLoadRect X1 (Shape.Idx.first (numel1_S1x1.symm ▸ Nat.one_pos)) = w7 at k0_hw7 e7 ⊢
    subst e7
    generalize View.readAt (Elt F) arg1.view (Rect.unit (s := S37x2) (k0_off21 k) S1x1.size (k0_off21_inb k)).toLoadRect X1 (Shape.Idx.first (numel1_S1x1.symm ▸ Nat.one_pos)) = w8 at k0_hw8 e8 ⊢
    subst e8
    generalize View.readAt (Elt F) arg1.view (Rect.unit (s := S37x2) (k0_off26 k) S1x1.size (k0_off26_inb k)).toLoadRect X1 (Shape.Idx.first (numel1_S1x1.symm ▸ Nat.one_pos)) = w10 at k0_hw10 e10 ⊢
    subst e10
    generalize View.readAt (Elt F) arg1.view (Rect.unit (s := S37x2) (k0_off27 k) S1x1.size (k0_off27_inb k)).toLoadRect X1 (Shape.Idx.first (numel1_S1x1.symm ▸ Nat.one_pos)) = w9 at k0_hw9 e9 ⊢
    subst e9
    simp only [read_writes_overlay, View.writes_nil, Memref.IsWhole.read_unread, View.readAt_eq_ld]
    rw [slot0_overlay, X.score_pos _ (Nat.succ_ne_zero _)]
    dsimp only [FlashIn.step, FlashIn.prob, FlashIn.scoreOf, FlashIn.prodOf, FlashIn.lse, FlashIn.corr, FlashIn.qRows, FlashIn.oRows,
      k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay40, k0_pay41, k0_pay42,
      k0_off7, k0_off8, k0_off9, k0_off10, k0_off13, k0_off14, k0_off15, k0_off16, k0_off17, k0_off18, k0_off19, k0_off22, k0_off23, k0_off24, k0_off25, k0_off28, k0_off29, k0_off30, k0_off31, k0_off32, k0_off33, k0_off34]
  iexists _
  isplitl [H15]
  · iexact H15
  ipureintro
  generalize View.readAt (Elt F) arg1.view (Rect.unit (s := S37x2) (k0_off5 k) S1x1.size (k0_off5_inb k)).toLoadRect X1 (Shape.Idx.first (numel1_S1x1.symm ▸ Nat.one_pos)) = w3 at k0_hw3 e3 ⊢
  subst e3
  generalize View.readAt (Elt F) arg1.view (Rect.unit (s := S37x2) (k0_off6 k) S1x1.size (k0_off6_inb k)).toLoadRect X1 (Shape.Idx.first (numel1_S1x1.symm ▸ Nat.one_pos)) = w4 at k0_hw4 e4 ⊢
  subst e4
  generalize View.readAt (Elt F) arg1.view (Rect.unit (s := S37x2) (k0_off11 k) S1x1.size (k0_off11_inb k)).toLoadRect X1 (Shape.Idx.first (numel1_S1x1.symm ▸ Nat.one_pos)) = w6 at k0_hw6 e6 ⊢
  subst e6
  generalize View.readAt (Elt F) arg1.view (Rect.unit (s := S37x2) (k0_off12 k) S1x1.size (k0_off12_inb k)).toLoadRect X1 (Shape.Idx.first (numel1_S1x1.symm ▸ Nat.one_pos)) = w5 at k0_hw5 e5 ⊢
  subst e5
  generalize View.readAt (Elt F) arg1.view (Rect.unit (s := S37x2) (k0_off20 k) S1x1.size (k0_off20_inb k)).toLoadRect X1 (Shape.Idx.first (numel1_S1x1.symm ▸ Nat.one_pos)) = w7 at k0_hw7 e7 ⊢
  subst e7
  generalize View.readAt (Elt F) arg1.view (Rect.unit (s := S37x2) (k0_off21 k) S1x1.size (k0_off21_inb k)).toLoadRect X1 (Shape.Idx.first (numel1_S1x1.symm ▸ Nat.one_pos)) = w8 at k0_hw8 e8 ⊢
  subst e8
  generalize View.readAt (Elt F) arg1.view (Rect.unit (s := S37x2) (k0_off26 k) S1x1.size (k0_off26_inb k)).toLoadRect X1 (Shape.Idx.first (numel1_S1x1.symm ▸ Nat.one_pos)) = w10 at k0_hw10 e10 ⊢
  subst e10
  generalize View.readAt (Elt F) arg1.view (Rect.unit (s := S37x2) (k0_off27 k) S1x1.size (k0_off27_inb k)).toLoadRect X1 (Shape.Idx.first (numel1_S1x1.symm ▸ Nat.one_pos)) = w9 at k0_hw9 e9 ⊢
  subst e9
  simp only [read_writes_overlay, View.writes_nil, Memref.IsWhole.read_unread, View.readAt_eq_ld]
  rw [slot0_overlay, X.prod_pos _ (Nat.succ_ne_zero _)]
  dsimp only [FlashIn.step, FlashIn.prob, FlashIn.scoreOf, FlashIn.prodOf, FlashIn.lse, FlashIn.corr, FlashIn.qRows, FlashIn.oRows,
    k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay40, k0_pay41, k0_pay42,
    k0_off7, k0_off8, k0_off9, k0_off10, k0_off13, k0_off14, k0_off15, k0_off16, k0_off17, k0_off18, k0_off19, k0_off22, k0_off23, k0_off24, k0_off25, k0_off28, k0_off29, k0_off30, k0_off31, k0_off32, k0_off33, k0_off34]

end Cert.KernelIdeal.Gen

end
-- ==== Proof.FlashLoop.lean ====
module

public import proofs.«01_k».proof.Proof.Gen.KernelIdeal.Skeleton
public import proofs.«01_k».proof.Proof.FlashTrip
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pipeline.Value

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The scores of the pair numbered `n` (those of the first for a number past the table). -/
def FlashIn.scoreAt (X : FlashIn F) (n : ℕ) : Vec F S1x512x512 .f32 := if h : n < 37 then X.score ⟨n, h⟩ else X.s0

/-- The products of the pair numbered `n`. -/
def FlashIn.prodAt (X : FlashIn F) (n : ℕ) : Vec F S1x512x512 .f32 := if h : n < 37 then X.prod ⟨n, h⟩ else X.d0

theorem FlashIn.scoreAt_of (X : FlashIn F) (n : ℕ) (h : n < 37) : X.scoreAt n = X.score ⟨n, h⟩ := dif_pos h

theorem FlashIn.prodAt_of (X : FlashIn F) (n : ℕ) (h : n < 37) : X.prodAt n = X.prod ⟨n, h⟩ := dif_pos h

set_option warn.classDefReducibility false in
set_option maxHeartbeats 4000000 in
/-- The loop over pairs by its invariant: before trip `k` the accumulators hold the first `2 k` pairs, the double buffers'
slot 0 the scores and products of pair `2 k`. -/
def flashLoop (𝒱 : Variants) (c : Dev nD) (bd : Option 𝒱.V) (E : Set ℕ) (i : grid0.Coords) (arg1 : Memref sig .tc .smem S37x2 .i32) (harg1 : arg1.IsWhole) (arg2 : Memref sig .tc .vmem S1x4096x256 .bf16) (harg2 : arg2.IsWhole) (arg3 : Memref sig .tc .vmem S1x4096x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x16x1x256 .f32) (harg6 : arg6.IsWhole) (arg7 : Memref sig .tc .vmem S1x16x1x256 .f32) (harg7 : arg7.IsWhole) (arg8 : Memref sig .tc .vmem S1x4096x256 .f32) (harg8 : arg8.IsWhole) (arg9 : Memref sig .tc .vmem S4096x256 .bf16) (harg9 : arg9.IsWhole) (arg10 : Memref sig .tc .vmem S1x4096x128 .f32) (harg10 : arg10.IsWhole) (arg11 : Memref sig .tc .vmem S8x256x512 .f32) (harg11 : arg11.IsWhole) (arg12 : Memref sig .tc .vmem S8x512x256 .f32) (harg12 : arg12.IsWhole) (arg13 : Memref sig .tc .vmem S8x512x128 .f32) (harg13 : arg13.IsWhole) (arg14 : Memref sig .tc .vmem S2x512x512 .f32) (harg14 : arg14.IsWhole) (arg15 : Memref sig .tc .vmem S2x512x512 .f32) (harg15 : arg15.IsWhole) (arg16 : Memref sig .tc .vmem S8x256x512 .bf16) (harg16 : arg16.IsWhole) (arg17 : Memref sig .tc .vmem S512x512 .f32) (harg17 : arg17.IsWhole) (v91 : FVec F S256x512 .bf16)
    (X : FlashIn F) (X1 : BufTy.Contents (Elt F) arg1.view.ty) (h1 : arg1.view.read (Elt F) X1 = flashTbl) :
    LoopInv (M := 𝕄G) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v91) where
  inv k _ := iprop((arg1.view.loc (c : Thread nD τ) ↦[arg1.view.set]{fullShare.right} X1) ∗ (arg2.view.loc (c : Thread nD τ) ↦[arg2.view.set]{fullShare} (harg2.unread X.xq)) ∗ (arg3.view.loc (c : Thread nD τ) ↦[arg3.view.set]{fullShare} (harg3.unread X.xk)) ∗ (arg4.view.loc (c : Thread nD τ) ↦[arg4.view.set]{fullShare} (harg4.unread X.xv)) ∗ (arg5.view.loc (c : Thread nD τ) ↦[arg5.view.set]{fullShare} (harg5.unread X.xo)) ∗ (arg6.view.loc (c : Thread nD τ) ↦[arg6.view.set]{fullShare} (harg6.unread X.xl)) ∗ (arg7.view.loc (c : Thread nD τ) ↦[arg7.view.set]{fullShare} (harg7.unread X.xd)) ∗ (arg16.view.loc (c : Thread nD τ) ↦[arg16.view.set]{fullShare} (harg16.unread X.kt)) ∗ (arg17.view.loc (c : Thread nD τ) ↦[arg17.view.set]{fullShare} (harg17.unread X.bias)) ∗ (∃ f, (arg11.view.loc (c : Thread nD τ) ↦[arg11.view.set]{fullShare} f) ∗ ⌜f = harg11.unread (X.acc (2 * k)).dq⌝) ∗ (∃ f, (arg12.view.loc (c : Thread nD τ) ↦[arg12.view.set]{fullShare} f) ∗ ⌜f = harg12.unread (X.acc (2 * k)).dk⌝) ∗ (∃ f, (arg13.view.loc (c : Thread nD τ) ↦[arg13.view.set]{fullShare} f) ∗ ⌜f = harg13.unread (X.acc (2 * k)).dv⌝) ∗ (∃ f, (arg14.view.loc (c : Thread nD τ) ↦[arg14.view.set]{fullShare} f) ∗ ⌜slot0 (arg14.view.read (Elt F) f) = X.scoreAt (2 * k)⌝) ∗ (∃ f, (arg15.view.loc (c : Thread nD τ) ↦[arg15.view.set]{fullShare} f) ∗ ⌜slot0 (arg15.view.read (Elt F) f) = X.prodAt (2 * k)⌝))
  step k acc := by
    have hk : k.val < 18 := Nat.lt_of_lt_of_le k.isLt k0_t1_abs.2.1
    have hlt : 2 * (k.val + 1) < 37 := by omega
    iintro ⟨H1, H2, H3, H4, H5, H6, H7, H16, H17, ⟨%f11, H11, %h11⟩, ⟨%f12, H12, %h12⟩, ⟨%f13, H13, %h13⟩, ⟨%f14, H14, %h14⟩, ⟨%f15, H15, %h15⟩⟩
    rw [X.scoreAt_of _ (by omega)] at h14
    rw [X.prodAt_of _ (by omega)] at h15
    subst h11 h12 h13
    iapply (wp_wand_r Idealize.ShloMosaic.frame (wpE (defs₀ (F := F)) 𝒱 (c : Thread nD τ) bd) E)
    isplitl [H1 H2 H3 H4 H5 H6 H7 H16 H17 H11 H12 H13 H14 H15]
    · iapply (flash_trip (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v91 X X1 h1 k f14 f15 h14 h15)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H16]; · iexact H16
      isplitl [H17]; · iexact H17
      isplitl [H11]; · iexact H11
      isplitl [H12]; · iexact H12
      isplitl [H13]; · iexact H13
      isplitl [H14]; · iexact H14
      iexact H15
    · iintro %_ ⟨H1, H2, H3, H4, H5, H6, H7, H16, H17, ⟨%g11, H11, %e11⟩, ⟨%g12, H12, %e12⟩, ⟨%g13, H13, %e13⟩, ⟨%g14, H14, %e14⟩, ⟨%g15, H15, %e15⟩⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H16]; · iexact H16
      isplitl [H17]; · iexact H17
      isplitl [H11]
      · iexists g11; isplitl [H11]; · iexact H11
        ipureintro; exact harg11.eq_unread e11
      isplitl [H12]
      · iexists g12; isplitl [H12]; · iexact H12
        ipureintro; exact harg12.eq_unread e12
      isplitl [H13]
      · iexists g13; isplitl [H13]; · iexact H13
        ipureintro; exact harg13.eq_unread e13
      isplitl [H14]
      · iexists g14; isplitl [H14]; · iexact H14
        ipureintro; exact e14.trans (X.scoreAt_of _ hlt).symm
      iexists g15; isplitl [H15]; · iexact H15
      ipureintro; exact e15.trans (X.prodAt_of _ hlt).symm

end Cert.KernelIdeal.Gen

end
-- ==== Proof.FlashHead.lean ====
module

public import proofs.«01_k».proof.Proof.Gen.KernelIdeal.Skeleton
public import proofs.«01_k».proof.Proof.FlashLoop
public import Idealize.ShloMosaic.Lib.PointwiseCore
public import Idealize.ShloMosaic.Lib.Ring
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pipeline.Value

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

theorem chk1_key : k0_chk1 (keyWord 0) := by decide
theorem chk2_qry : k0_chk2 (qryWord 0) := by decide

/-- The keys transposed tile by tile: tile `y 0`, feature `y 1`, row `y 2` of the tile. -/
def keysT (xk : Vec F S1x4096x256 .bf16) : Vec F S8x256x512 .bf16 :=
  fun y => FloatOps.truncf .bf16 bitsLt_bf16_f32 (FloatOps.extf .f32 bitsLt_bf16_f32
    (xk (ix3 0 ⟨512 * (y 0).val + (y 2).val, by have := (y 0).isLt; have := (y 2).isLt; simp only [S8x256x512, Shape.size, Matrix.cons_val] at *; omega⟩ (y 1))))

/-- What a head's blocks give the loop over pairs. -/
def flashHead (xq xk : Vec F S1x4096x256 .bf16) (xv xo : Vec F S4096x128 .bf16) (xl xd : Vec F S1x16x1x256 .f32) : FlashIn F where
  xq := xq
  xk := xk
  xv := xv
  xo := xo
  xl := xl
  xd := xd
  kt := keysT xk
  bias := k0_pay29
  s0 := k0_pay24 (View.ld (Val := Elt F) (e' := .bf16) xk (Rect.unit (s := S1x4096x256) (k0_off1 (keyWord 0)) S1x512x256.size (k0_off1_inb _ chk1_key)))
    (View.ld (Val := Elt F) (e' := .bf16) xq (Rect.unit (s := S1x4096x256) (k0_off3 (qryWord 0)) S1x512x256.size (k0_off3_inb _ chk2_qry)))
  d0 := k0_pay25 (View.ld (Val := Elt F) (e' := .bf16) xv (Rect.unit (s := S4096x128) (k0_off2 (keyWord 0)) S512x128.size (k0_off2_inb _ chk1_key)))
    (View.ld (Val := Elt F) (e' := .bf16) xo (Rect.unit (s := S4096x128) (k0_off4 (qryWord 0)) S512x128.size (k0_off4_inb _ chk2_qry)))
  a0 := ⟨k0_pay26, k0_pay27, k0_pay28⟩

/-- The gradient of the queries, of the accumulators: tile by tile, transposed. -/
def outDq (A : FlashAcc F) : Vec F S1x4096x256 .f32 :=
  fun y => A.dq (ix3 ⟨(y 1).val / 512, by have := (y 1).isLt; simp only [S1x4096x256, Shape.size, Matrix.cons_val] at *; omega⟩ (y 2) ⟨(y 1).val % 512, Nat.mod_lt _ (by omega)⟩)

/-- The gradient of the keys and values side by side, rounded. -/
def outDkv (A : FlashAcc F) : Vec F S4096x256 .bf16 :=
  fun y => FloatOps.truncf .bf16 bitsLt_bf16_f32
    (if h : (y 1).val < 128 then
      A.dk (ix3 ⟨(y 0).val / 512, by have := (y 0).isLt; simp only [S4096x256, Shape.size, Matrix.cons_val] at *; omega⟩ ⟨(y 0).val % 512, Nat.mod_lt _ (by omega)⟩ ⟨(y 1).val, by omega⟩)
    else
      A.dv (ix3 ⟨(y 0).val / 512, by have := (y 0).isLt; simp only [S4096x256, Shape.size, Matrix.cons_val] at *; omega⟩ ⟨(y 0).val % 512, Nat.mod_lt _ (by omega)⟩ ⟨(y 1).val - 128, by have := (y 1).isLt; simp only [S4096x256, Shape.size, Matrix.cons_val] at *; omega⟩))

/-- The gradient of the rotated part of the keys. -/
def outDkr (A : FlashAcc F) : Vec F S1x4096x128 .f32 :=
  fun y => A.dk (ix3 ⟨(y 1).val / 512, by have := (y 1).isLt; simp only [S1x4096x128, Shape.size, Matrix.cons_val] at *; omega⟩ ⟨(y 1).val % 512, Nat.mod_lt _ (by omega)⟩ ⟨128 + (y 2).val, by have := (y 2).isLt; simp only [S1x4096x128, Shape.size, Matrix.cons_val] at *; omega⟩)

theorem ix3_congr {a b c : ℕ} {x x' : Fin a} {y y' : Fin b} {z z' : Fin c} (hx : x.val = x'.val) (hy : y.val = y'.val) (hz : z.val = z'.val) :
    ix3 x y z = ix3 x' y' z' := by
  obtain rfl := Fin.ext hx
  obtain rfl := Fin.ext hy
  obtain rfl := Fin.ext hz
  rfl

/-- A buffer read after stores that agree with `g` wherever they land: at a stored place it holds `g`. -/
theorem read_writes_of_agree {sig' : RefSig} {κ : Kind} {sp : Space} {s : Shape} {e : EltTy} {Val : EltTy → Type}
    (v : View sig' κ sp s e) (f : v.ty.Contents Val) (g : s.Idx → Val e) (L : List (View.Piece Val s e))
    (hg : ∀ p ∈ L, p.2 = View.ld (Val := Val) g p.1) (y : s.Idx) (hy : ∃ p ∈ L, y ∈ p.1.set) : v.read Val (v.writes Val f L) y = g y := by
  induction L with
  | nil => obtain ⟨p, hp, _⟩ := hy; cases hp
  | cons p L ih =>
    rw [read_writes_overlay]
    by_cases h : y ∈ p.1.set
    · obtain ⟨x, rfl⟩ := p.1.exists_idx_of_mem h
      show Rect.overlay p.1 _ _ (p.1.emb x) = g (p.1.emb x)
      rw [Rect.overlay_emb]
      exact congrFun (hg p List.mem_cons_self) x
    · rw [Rect.overlay_of_not_mem _ _ _ h]
      refine ih (fun q hq => hg q (List.mem_cons_of_mem _ hq)) ?_
      obtain ⟨q, hq, hyq⟩ := hy
      rcases List.mem_cons.mp hq with rfl | hq
      · exact absurd hyq h
      · exact ⟨q, hq, hyq⟩

/-- The same, for stores that cover the shape. -/
theorem read_writes_eq {sig' : RefSig} {κ : Kind} {sp : Space} {s : Shape} {e : EltTy} {Val : EltTy → Type}
    (v : View sig' κ sp s e) (f : v.ty.Contents Val) (g : s.Idx → Val e) (L : List (View.Piece Val s e))
    (hg : ∀ p ∈ L, p.2 = View.ld (Val := Val) g p.1) (hy : ∀ y : s.Idx, ∃ p ∈ L, y ∈ p.1.set) : v.read Val (v.writes Val f L) = g :=
  funext fun y => read_writes_of_agree v f g L hg y (hy y)

/-- One store of the whole shape. -/
theorem read_writes_whole {sig' : RefSig} {κ : Kind} {sp : Space} {s : Shape} {e : EltTy} {Val : EltTy → Type}
    (v : View sig' κ sp s e) (f : v.ty.Contents Val) (off : Fin s.rank → ℕ) (ho : ∀ a, off a = 0) {inb} (w : s.Idx → Val e) :
    v.read Val (v.writes Val f [⟨Rect.unit (s := s) off s.size inb, w⟩]) = w := by
  obtain rfl : off = fun _ => 0 := funext ho
  refine read_writes_eq v f w _ ?_ fun y => ⟨⟨Rect.unit (s := s) (fun _ => 0) s.size inb, w⟩, List.mem_singleton_self _, (Rect.mem_set_unit (s := s) (off := fun _ => 0) (size := s.size) (inb := inb)).mpr fun a => ⟨Nat.zero_le _, by rw [Nat.zero_add]; exact (y a).isLt⟩⟩
  simp only [List.forall_mem_cons, List.not_mem_nil, false_implies, implies_true, and_true]
  exact (View.ld_unit_zero rfl inb w).symm

end Cert.KernelIdeal.Gen

end
-- ==== Proof.FlashBody.lean ====
module

public import proofs.«01_k».proof.Proof.Gen.KernelIdeal.Skeleton
public import proofs.«01_k».proof.Proof.FlashLoop
public import proofs.«01_k».proof.Proof.FlashHead
public import Idealize.ShloMosaic.Lib.PointwiseCore
public import Idealize.ShloMosaic.Lib.Ring
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pipeline.Value

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

set_option maxHeartbeats 4000000 in
/-- One grid point of the kernel: from the table, the head's six input blocks and any buffers, it leaves the three
outputs at what the accumulators hold after all pairs. -/
theorem flash_body (𝒱 : Variants) (c : Dev nD) (bd : Option 𝒱.V) (E : Set ℕ) (i : grid0.Coords) (arg1 : Memref sig .tc .smem S37x2 .i32) (harg1 : arg1.IsWhole) (arg2 : Memref sig .tc .vmem S1x4096x256 .bf16) (harg2 : arg2.IsWhole) (arg3 : Memref sig .tc .vmem S1x4096x256 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S1x16x1x256 .f32) (harg6 : arg6.IsWhole) (arg7 : Memref sig .tc .vmem S1x16x1x256 .f32) (harg7 : arg7.IsWhole) (arg8 : Memref sig .tc .vmem S1x4096x256 .f32) (harg8 : arg8.IsWhole) (arg9 : Memref sig .tc .vmem S4096x256 .bf16) (harg9 : arg9.IsWhole) (arg10 : Memref sig .tc .vmem S1x4096x128 .f32) (harg10 : arg10.IsWhole) (arg11 : Memref sig .tc .vmem S8x256x512 .f32) (harg11 : arg11.IsWhole) (arg12 : Memref sig .tc .vmem S8x512x256 .f32) (harg12 : arg12.IsWhole) (arg13 : Memref sig .tc .vmem S8x512x128 .f32) (harg13 : arg13.IsWhole) (arg14 : Memref sig .tc .vmem S2x512x512 .f32) (harg14 : arg14.IsWhole) (arg15 : Memref sig .tc .vmem S2x512x512 .f32) (harg15 : arg15.IsWhole) (arg16 : Memref sig .tc .vmem S8x256x512 .bf16) (harg16 : arg16.IsWhole) (arg17 : Memref sig .tc .vmem S512x512 .f32) (harg17 : arg17.IsWhole)
    (X1 : BufTy.Contents (Elt F) arg1.view.ty) (h1 : arg1.view.read (Elt F) X1 = flashTbl)
    (xq : Vec F S1x4096x256 .bf16) (xk : Vec F S1x4096x256 .bf16) (xv : Vec F S4096x128 .bf16) (xo : Vec F S4096x128 .bf16) (xl : Vec F S1x16x1x256 .f32) (xd : Vec F S1x16x1x256 .f32) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    iprop((arg1.view.loc (c : Thread nD τ) ↦[arg1.view.set]{fullShare.right} X1) ∗ (arg2.view.loc (c : Thread nD τ) ↦[arg2.view.set]{fullShare} (harg2.unread xq)) ∗ (arg3.view.loc (c : Thread nD τ) ↦[arg3.view.set]{fullShare} (harg3.unread xk)) ∗ (arg4.view.loc (c : Thread nD τ) ↦[arg4.view.set]{fullShare} (harg4.unread xv)) ∗ (arg5.view.loc (c : Thread nD τ) ↦[arg5.view.set]{fullShare} (harg5.unread xo)) ∗ (arg6.view.loc (c : Thread nD τ) ↦[arg6.view.set]{fullShare} (harg6.unread xl)) ∗ (arg7.view.loc (c : Thread nD τ) ↦[arg7.view.set]{fullShare} (harg7.unread xd)) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))
      ⊢ wp frame (wpE (defs₀ (F := F)) 𝒱 (c : Thread nD τ) bd) E (cc0_flash_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
        (fun _ => (iprop((arg1.view.loc (c : Thread nD τ) ↦[arg1.view.set]{fullShare.right} X1) ∗ (arg2.view.loc (c : Thread nD τ) ↦[arg2.view.set]{fullShare} (harg2.unread xq)) ∗ (arg3.view.loc (c : Thread nD τ) ↦[arg3.view.set]{fullShare} (harg3.unread xk)) ∗ (arg4.view.loc (c : Thread nD τ) ↦[arg4.view.set]{fullShare} (harg4.unread xv)) ∗ (arg5.view.loc (c : Thread nD τ) ↦[arg5.view.set]{fullShare} (harg5.unread xo)) ∗ (arg6.view.loc (c : Thread nD τ) ↦[arg6.view.set]{fullShare} (harg6.unread xl)) ∗ (arg7.view.loc (c : Thread nD τ) ↦[arg7.view.set]{fullShare} (harg7.unread xd)) ∗ (∃ f, (arg8.view.loc (c : Thread nD τ) ↦[arg8.view.set]{fullShare} f) ∗ ⌜arg8.view.read (Elt F) f = outDq ((flashHead xq xk xv xo xl xd).acc 36)⌝) ∗ (∃ f, (arg9.view.loc (c : Thread nD τ) ↦[arg9.view.set]{fullShare} f) ∗ ⌜arg9.view.read (Elt F) f = outDkv ((flashHead xq xk xv xo xl xd).acc 36)⌝) ∗ (∃ f, (arg10.view.loc (c : Thread nD τ) ↦[arg10.view.set]{fullShare} f) ∗ ⌜arg10.view.read (Elt F) f = outDkr ((flashHead xq xk xv xo xl xd).acc 36)⌝) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f))) : sProp 𝕄G)) := by
  have k0_hw1 := chk1_key
  have e1 := word_key (F := F) arg1 X1 h1 ![0, 0] 0 rfl inb_S37x2_S1x1_0_0 (Shape.Idx.first (numel1_S1x1.symm ▸ Nat.one_pos))
  rw [← e1] at k0_hw1
  have k0_hw2 := chk2_qry
  have e2 := word_qry (F := F) arg1 X1 h1 ![0, 1] 0 rfl inb_S37x2_S1x1_0_1 (Shape.Idx.first (numel1_S1x1.symm ▸ Nat.one_pos))
  rw [← e2] at k0_hw2
  simp only [cc0_flash_bwd_eq_skeleton]; unfold cc0_flash_bwd_skel
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  iintro ⟨H1, H2, H3, H4, H5, H6, H7, H8, H9, H10, H11, H12, H13, H14, H15, H16, H17⟩
  sl_exec
  ihave ⟨%g11, H11, %h11⟩ : (∃ f, (arg11.view.loc (c : Thread nD τ) ↦[arg11.view.set]{fullShare} f) ∗ ⌜arg11.view.read (Elt F) f = k0_pay26⌝) $$ [H11]
  · iexists _
    isplitl [H11]
    · iexact H11
    ipureintro
    sl_unfold_run_names
    exact read_writes_whole _ _ _ (by intro a; fin_cases a <;> rfl) _
  obtain rfl := harg11.eq_unread h11
  ihave ⟨%g12, H12, %h12⟩ : (∃ f, (arg12.view.loc (c : Thread nD τ) ↦[arg12.view.set]{fullShare} f) ∗ ⌜arg12.view.read (Elt F) f = k0_pay27⌝) $$ [H12]
  · iexists _
    isplitl [H12]
    · iexact H12
    ipureintro
    sl_unfold_run_names
    exact read_writes_whole _ _ _ (by intro a; fin_cases a <;> rfl) _
  obtain rfl := harg12.eq_unread h12
  ihave ⟨%g13, H13, %h13⟩ : (∃ f, (arg13.view.loc (c : Thread nD τ) ↦[arg13.view.set]{fullShare} f) ∗ ⌜arg13.view.read (Elt F) f = k0_pay28⌝) $$ [H13]
  · iexists _
    isplitl [H13]
    · iexact H13
    ipureintro
    sl_unfold_run_names
    exact read_writes_whole _ _ _ (by intro a; fin_cases a <;> rfl) _
  obtain rfl := harg13.eq_unread h13
  ihave ⟨%g16, H16, %h16⟩ : (∃ f, (arg16.view.loc (c : Thread nD τ) ↦[arg16.view.set]{fullShare} f) ∗ ⌜arg16.view.read (Elt F) f = keysT xk⌝) $$ [H16]
  · iexists _
    isplitl [H16]
    · iexact H16
    ipureintro
    sl_unfold_run_names
    refine read_writes_eq _ _ _ _ ?_ (View.cover_of_tiledL _ ![1, 256, 512] (by sl_kernel_rfl))
    simp only [List.forall_mem_cons, List.not_mem_nil, false_implies, implies_true, and_true, View.readAt_eq_ld, Memref.IsWhole.read_unread]
    refine ⟨?_, ?_, ?_, ?_, ?_, ?_, ?_, ?_⟩ <;> funext x <;>
      pointwise [keysT, k0_pay30, k0_pay31, k0_pay32, k0_pay33, k0_pay34, k0_pay35, k0_pay36, k0_pay37, k0_pay38, k0_pay39]
  obtain rfl := harg16.eq_unread h16
  ihave ⟨%g17, H17, %h17⟩ : (∃ f, (arg17.view.loc (c : Thread nD τ) ↦[arg17.view.set]{fullShare} f) ∗ ⌜arg17.view.read (Elt F) f = k0_pay29⌝) $$ [H17]
  · iexists _
    isplitl [H17]
    · iexact H17
    ipureintro
    sl_unfold_run_names
    exact read_writes_whole _ _ _ (by intro a; fin_cases a <;> rfl) _
  obtain rfl := harg17.eq_unread h17
  ihave ⟨%g14, H14, %h14⟩ : (∃ f, (arg14.view.loc (c : Thread nD τ) ↦[arg14.view.set]{fullShare} f) ∗ ⌜slot0 (arg14.view.read (Elt F) f) = (flashHead xq xk xv xo xl xd).scoreAt (2 * 0)⌝) $$ [H14]
  · iexists _
    isplitl [H14]
    · iexact H14
    ipureintro
    sl_unfold_run_names
    generalize View.readAt (Elt F) arg1.view (Rect.unit (s := S37x2) ![0, 0] S1x1.size inb_S37x2_S1x1_0_0).toLoadRect X1 (Shape.Idx.first (numel1_S1x1.symm ▸ Nat.one_pos)) = w1 at k0_hw1 e1 ⊢
    subst e1
    generalize View.readAt (Elt F) arg1.view (Rect.unit (s := S37x2) ![0, 1] S1x1.size inb_S37x2_S1x1_0_1).toLoadRect X1 (Shape.Idx.first (numel1_S1x1.symm ▸ Nat.one_pos)) = w2 at k0_hw2 e2 ⊢
    subst e2
    simp only [read_writes_overlay, View.writes_nil, Memref.IsWhole.read_unread, View.readAt_eq_ld]
    rw [slot0_overlay]
    exact (((flashHead xq xk xv xo xl xd).scoreAt_of 0 (by omega)).trans (if_pos rfl)).symm
  ihave ⟨%g15, H15, %h15⟩ : (∃ f, (arg15.view.loc (c : Thread nD τ) ↦[arg15.view.set]{fullShare} f) ∗ ⌜slot0 (arg15.view.read (Elt F) f) = (flashHead xq xk xv xo xl xd).prodAt (2 * 0)⌝) $$ [H15]
  · iexists _
    isplitl [H15]
    · iexact H15
    ipureintro
    sl_unfold_run_names
    generalize View.readAt (Elt F) arg1.view (Rect.unit (s := S37x2) ![0, 0] S1x1.size inb_S37x2_S1x1_0_0).toLoadRect X1 (Shape.Idx.first (numel1_S1x1.symm ▸ Nat.one_pos)) = w1 at k0_hw1 e1 ⊢
    subst e1
    generalize View.readAt (Elt F) arg1.view (Rect.unit (s := S37x2) ![0, 1] S1x1.size inb_S37x2_S1x1_0_1).toLoadRect X1 (Shape.Idx.first (numel1_S1x1.symm ▸ Nat.one_pos)) = w2 at k0_hw2 e2 ⊢
    subst e2
    simp only [read_writes_overlay, View.writes_nil, Memref.IsWhole.read_unread, View.readAt_eq_ld]
    rw [slot0_overlay]
    exact (((flashHead xq xk xv xo xl xd).prodAt_of 0 (by omega)).trans (if_pos rfl)).symm
  let L := fun v => flashLoop (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v (flashHead xq xk xv xo xl xd) X1 h1
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _
    isplitl [H8]
    · iexact H8
    ipureintro
    sl_unfold_run_names
    refine read_writes_eq _ _ _ _ ?_ (View.cover_of_tiledL _ ![1, 512, 256] (by sl_kernel_rfl))
    simp only [List.forall_mem_cons, List.not_mem_nil, false_implies, implies_true, View.readAt_eq_ld]
    simp only [Memref.IsWhole.read_unread]
    generalize hA : FlashIn.acc (flashHead xq xk xv xo xl xd) _ = A
    obtain rfl : _ = A := (show (flashHead xq xk xv xo xl xd).acc 36 = A from hA)
    clear hA
    generalize (flashHead xq xk xv xo xl xd).acc 36 = A
    clear * - A
    refine ⟨?_, ?_, ?_, ?_, ?_, ?_, ?_, ?_, trivial⟩ <;> funext x <;> pointwise [outDq, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay1]
    all_goals exact congrArg A.dq (ix3_congr (by have := (x 1).isLt; simp only [S1x512x256, Shape.size, Matrix.cons_val] at this; simp; omega) rfl (by have := (x 1).isLt; simp only [S1x512x256, Shape.size, Matrix.cons_val] at this; simp; omega))
  isplitl [H9]
  · iexists _
    isplitl [H9]
    · iexact H9
    ipureintro
    sl_unfold_run_names
    refine read_writes_eq _ _ _ _ ?_ (View.cover_of_tiledL _ ![512, 128] (by sl_kernel_rfl))
    simp only [List.forall_mem_cons, List.not_mem_nil, false_implies, implies_true, View.readAt_eq_ld]
    simp only [Memref.IsWhole.read_unread]
    generalize hA : FlashIn.acc (flashHead xq xk xv xo xl xd) _ = A
    obtain rfl : _ = A := (show (flashHead xq xk xv xo xl xd).acc 36 = A from hA)
    clear hA
    generalize (flashHead xq xk xv xo xl xd).acc 36 = A
    clear * - A
    refine ⟨?_, ?_, ?_, ?_, ?_, ?_, ?_, ?_, ?_, ?_, ?_, ?_, ?_, ?_, ?_, ?_, trivial⟩ <;> funext x <;> pointwise [outDkv, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay1]
    all_goals first | exact congrArg _ (congrArg A.dk (ix3_congr (by have := (x 0).isLt; simp only [S512x128, Shape.size, Matrix.cons_val] at this; simp; omega) (by have := (x 0).isLt; simp only [S512x128, Shape.size, Matrix.cons_val] at this; simp; omega) rfl)) | exact congrArg _ (congrArg A.dv (ix3_congr (by have := (x 0).isLt; simp only [S512x128, Shape.size, Matrix.cons_val] at this; simp; omega) (by have := (x 0).isLt; simp only [S512x128, Shape.size, Matrix.cons_val] at this; simp; omega) rfl))
  isplitl [H10]
  · iexists _
    isplitl [H10]
    · iexact H10
    ipureintro
    sl_unfold_run_names
    refine read_writes_eq _ _ _ _ ?_ (View.cover_of_tiledL _ ![1, 512, 128] (by sl_kernel_rfl))
    simp only [List.forall_mem_cons, List.not_mem_nil, false_implies, implies_true, View.readAt_eq_ld]
    simp only [Memref.IsWhole.read_unread]
    generalize hA : FlashIn.acc (flashHead xq xk xv xo xl xd) _ = A
    obtain rfl : _ = A := (show (flashHead xq xk xv xo xl xd).acc 36 = A from hA)
    clear hA
    generalize (flashHead xq xk xv xo xl xd).acc 36 = A
    clear * - A
    refine ⟨?_, ?_, ?_, ?_, ?_, ?_, ?_, ?_, trivial⟩ <;> funext x <;> pointwise [outDkr, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay1]
    all_goals exact congrArg A.dk (ix3_congr (by have := (x 1).isLt; simp only [S1x512x128, Shape.size, Matrix.cons_val] at this; simp; omega) (by have := (x 1).isLt; simp only [S1x512x128, Shape.size, Matrix.cons_val] at this; simp; omega) rfl)
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  iexists _; iexact H17

end Cert.KernelIdeal.Gen

end
-- ==== Proof.FlashSetup.lean ====
module

public import proofs.«01_k».proof.Proof.Gen.KernelIdeal.Skeleton
public import proofs.«01_k».proof.Proof.Gen.KernelIdeal.Launch
public import proofs.«01_k».proof.Proof.FlashBody
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- Every buffer when the launch is reached: the host's operations applied to the launch memory. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- The program up to the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- Argument 0 is not written on the host. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 1 is not written on the host. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 2 is not written on the host. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- Argument 3 is not written on the host. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-- The pairs' table is the printed literal. -/
theorem V_main_c (c : Dev nD) : V m c main_c = flashTbl := by
  unfold V
  rw [show List.flatten [hostOps0, hostOps0_1, hostOps0_2] = (hostOps0 (F := F)).head (by simp [hostOps0]) :: ((hostOps0 (F := F)).tail ++ (hostOps0_1 ++ hostOps0_2)) from rfl, StableHlo.after_cons]
  rw [StableHlo.after_of_forall_not_mem (b := Proc.devRef .tc main_c) _ _ (List.forall_iff_forall_mem.mp (by
    simp only [hostOps0, hostOps0_1, hostOps0_2, List.tail_cons, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))]
  simp only [hostOps0, List.head_cons]
  exact StableHlo.nullary_result' _ _ _

/-- The table's contents at the launch. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
theorem tbl_eq : tbl m 0 = flashTbl := V_main_c m 0
abbrev adm : (pcfg0 (F := F)).Adm := ⟨tbl m, trivial⟩
abbrev cfgM : Pipeline.Cfg sig Λ₀ := cfg0 (adm m)

theorem PhiT0_eq (c : Dev nD) : (Pipeline.ΦT pre0 (tbl m) c : sProp 𝕄) = iprop((Memref.whole main_c : Memref sig .tc .smem S37x2 .i32).view.loc (c : Thread nD τ) ↦{fullShare.right} tbl m 0) := by
  unfold Pipeline.ΦT Pipeline.prefHeld
  rw [show (Finset.univ : Finset (Fin 1)) = {(0 : Fin 1)} from by decide, bigSep_singleton]
  rfl

/-- Window `w`'s block at point `t`, of its array at the launch. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- What the three outputs hold after the body at point `t`. -/
def accAt (c : Dev nD) (t : Fin (cfgM m).N) : FlashAcc F :=
  (flashHead (iblk m c 0 t) (iblk m c 1 t) (iblk m c 2 t) (iblk m c 3 t) (iblk m c 4 t) (iblk m c 5 t)).acc 36

/-- The launch's proof data: inputs stay, outputs hold the accumulators' closed forms. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outDq (accAt m c t)
    | ⟨7, _⟩ => outDkv (accAt m c t)
    | ⟨8, _⟩ => outDkr (accAt m c t)
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = iblk m c 4 t := by dsimp only [dats]; try rfl
theorem after0_5 (c : Dev nD) (t : Fin (cfgM m).N) : (dats m 0 c).after 5 t = iblk m c 5 t := by dsimp only [dats]; try rfl
theorem after0_6 (c : Dev nD) (t : Fin (cfgM m).N) : (dats m 0 c).after 6 t = outDq (accAt m c t) := by dsimp only [dats]; try rfl
theorem after0_7 (c : Dev nD) (t : Fin (cfgM m).N) : (dats m 0 c).after 7 t = outDkv (accAt m c t) := by dsimp only [dats]; try rfl
theorem after0_8 (c : Dev nD) (t : Fin (cfgM m).N) : (dats m 0 c).after 8 t = outDkr (accAt m c t) := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d
theorem before0_4 (c : Dev nD) (t : Fin (cfgM m).N) (d) : (dats m 0 c).before 4 t d = iblk m c 4 t :=
  before0_4_of m (dats m 0 c) (A_eq m c 4) (after0_4 m c) t d
theorem before0_5 (c : Dev nD) (t : Fin (cfgM m).N) (d) : (dats m 0 c).before 5 t d = iblk m c 5 t :=
  before0_5_of m (dats m 0 c) (A_eq m c 5) (after0_5 m c) t d

end Cert.KernelIdeal.Gen

end
-- ==== Proof.FlashFrame.lean ====
module

public import proofs.«01_k».proof.Proof.Gen.KernelIdeal.Skeleton
public import proofs.«01_k».proof.Proof.FlashSetup
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WritesUnit
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

abbrev ms0 (t : Fin (cfgM m).N) : Memref sig .tc .vmem S1x4096x256 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x4096x256 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S4096x128 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S4096x128 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x16x1x256 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x16x1x256 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x4096x256 .f32 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S4096x256 .bf16 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S1x4096x128 .f32 := spec0_8.stage ((cfgM m).slots t 8)
abbrev hs8 (t : Fin (cfgM m).N) : (ms8 m t).IsWhole := hstage0_8 (((cfgM m).slots t 8).cast nbuf0_8)
abbrev sc0 : Memref sig .tc .vmem S8x256x512 .f32 := Memref.whole cc0_scratch0
abbrev sc1 : Memref sig .tc .vmem S8x512x256 .f32 := Memref.whole cc0_scratch1
abbrev sc2 : Memref sig .tc .vmem S8x512x128 .f32 := Memref.whole cc0_scratch2
abbrev sc3 : Memref sig .tc .vmem S2x512x512 .f32 := Memref.whole cc0_scratch3
abbrev sc4 : Memref sig .tc .vmem S2x512x512 .f32 := Memref.whole cc0_scratch4
abbrev sc5 : Memref sig .tc .vmem S8x256x512 .bf16 := Memref.whole cc0_scratch5
abbrev sc6 : Memref sig .tc .vmem S512x512 .f32 := Memref.whole cc0_scratch6

theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

/-- The kernel's body at point `t`, on the buffers the launch hands it. -/
abbrev bodyAt0 (t : Fin (cfgM m).N) : Prog (TpuEff nD τ sig (Elt F) Λ₀ .tc) PUnit :=
  cc0_flash_bwd (grid0.coords t) (Memref.whole main_c) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _)

/-- What the body is called with at point `t`. -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d))
    ∗ (∃ d, owns (c : Thread nD τ) (ms7 m t) fullShare ((dats m 0 c).before 7 t d))
    ∗ (∃ d, owns (c : Thread nD τ) (ms8 m t) fullShare ((dats m 0 c).before 8 t d)))

/-- What it gives back. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t)
    ∗ owns (c : Thread nD τ) (ms4 m t) fullShare ((dats m 0 c).after 4 t)
    ∗ owns (c : Thread nD τ) (ms5 m t) fullShare ((dats m 0 c).after 5 t)
    ∗ owns (c : Thread nD τ) (ms6 m t) fullShare ((dats m 0 c).after 6 t)
    ∗ owns (c : Thread nD τ) (ms7 m t) fullShare ((dats m 0 c).after 7 t)
    ∗ owns (c : Thread nD τ) (ms8 m t) fullShare ((dats m 0 c).after 8 t))

set_option maxHeartbeats 1600000 in
/-- The body at any point takes what the launch hands it to what the proof data says. -/
theorem sound_body (c : Dev nD) (t : Fin (cfgM m).N) :
    bodyPre m c t ⊢ wp frame (wpE (defs₀ (F := F)) Variants.none c none) Set.univ (bodyAt0 m t) (fun _ => bodyPost m c t) := by
  unfold bodyPre bodyPost
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = iprop(Pipeline.ΦA spec0 c ∗ Pipeline.ΦT pre0 (tbl m) c) from rfl, PhiT0_eq, PhiA0_eq]
  unfold accAt
  unfold owns
  iintro ⟨⟨⟨⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩⟩, Hg⟩, HT⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩, ⟨%d7, %f7, -, H7⟩, ⟨%d8, %f8, -, H8⟩⟩
  obtain rfl := (hs0 m t).eq_unread hf0; obtain rfl := (hs1 m t).eq_unread hf1; obtain rfl := (hs2 m t).eq_unread hf2; obtain rfl := (hs3 m t).eq_unread hf3; obtain rfl := (hs4 m t).eq_unread hf4; obtain rfl := (hs5 m t).eq_unread hf5
  iapply wp_wand_r
  isplitl [HT H0 H1 H2 H3 H4 H5 H6 H7 H8 HS0 HS1 HS2 HS3 HS4 HS5 HS6]
  · iapply (flash_body Variants.none c none Set.univ (grid0.coords t) (Memref.whole main_c) (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) (tbl m 0) (tbl_eq m) (iblk m c 0 t) (iblk m c 1 t) (iblk m c 2 t) (iblk m c 3 t) (iblk m c 4 t) (iblk m c 5 t) f6 f7 f8 fs0 fs1 fs2 fs3 fs4 fs5 fs6)
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    isplitl [HS4]; · iexact HS4
    isplitl [HS5]; · iexact HS5
    iexact HS6
  iintro %_ ⟨HT, H0, H1, H2, H3, H4, H5, ⟨%e6, H6, %h6⟩, ⟨%e7, H7, %h7⟩, ⟨%e8, H8, %h8⟩, ⟨%gs0, HS0⟩, ⟨%gs1, HS1⟩, ⟨%gs2, HS2⟩, ⟨%gs3, HS3⟩, ⟨%gs4, HS4⟩, ⟨%gs5, HS5⟩, ⟨%gs6, HS6⟩⟩
  isplitl [HS0 HS1 HS2 HS3 HS4 HS5 HS6 Hg HT]
  · isplitl [HS0 HS1 HS2 HS3 HS4 HS5 HS6 Hg]
    · isplitl [HS0 HS1 HS2 HS3 HS4 HS5 HS6]
      · isplitl [HS0]
        · iexists _, _
          isplitr
          swap
          · iexact HS0
          ipureintro; rfl
        isplitl [HS1]
        · iexists _, _
          isplitr
          swap
          · iexact HS1
          ipureintro; rfl
        isplitl [HS2]
        · iexists _, _
          isplitr
          swap
          · iexact HS2
          ipureintro; rfl
        isplitl [HS3]
        · iexists _, _
          isplitr
          swap
          · iexact HS3
          ipureintro; rfl
        isplitl [HS4]
        · iexists _, _
          isplitr
          swap
          · iexact HS4
          ipureintro; rfl
        isplitl [HS5]
        · iexists _, _
          isplitr
          swap
          · iexact HS5
          ipureintro; rfl
        iexists _, _
        isplitr
        swap
        · iexact HS6
        ipureintro; rfl
      iexact Hg
    iexact HT
  isplitl [Ho]; · iexact Ho
  isplitl [H0]
  · iexists _
    isplitr
    · ipureintro; exact (hs0 m t).read_unread _
    iexact H0
  isplitl [H1]
  · iexists _
    isplitr
    · ipureintro; exact (hs1 m t).read_unread _
    iexact H1
  isplitl [H2]
  · iexists _
    isplitr
    · ipureintro; exact (hs2 m t).read_unread _
    iexact H2
  isplitl [H3]
  · iexists _
    isplitr
    · ipureintro; exact (hs3 m t).read_unread _
    iexact H3
  isplitl [H4]
  · iexists _
    isplitr
    · ipureintro; exact (hs4 m t).read_unread _
    iexact H4
  isplitl [H5]
  · iexists _
    isplitr
    · ipureintro; exact (hs5 m t).read_unread _
    iexact H5
  isplitl [H6]
  · iexists _
    isplitr
    · ipureintro; exact h6
    iexact H6
  isplitl [H7]
  · iexists _
    isplitr
    · ipureintro; exact h7
    iexact H7
  iexists _
  isplitr
  · ipureintro; exact h8
  iexact H8

theorem defs₀_row (t : Fin (cfgM m).N) :
    defs₀ (F := F) .tc (cfgM m).body ((cfgM m).bodyArgs t ((cfgM m).slots t)) = bodyAt0 m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

set_option backward.isDefEq.respectTransparency.types false in
/-- The run: every array of the launch ends at what the proof data computes, and no semaphore is left raised. -/
theorem run_main_quiescent : θ_run defs (onTc (τ := τ) (main (F := F))) (s₀ m ρ) (fun r => (Pipeline.FramePost (Pipeline.pin pcfgs fun _ => adm m) (dats m) 0 (V m)) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m)
    (hΦ := fun _ _ => rfl)

/-- The arguments end unchanged and every semaphore at zero. -/
theorem frame_flash : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (by decide : main_arg0 ∈ Pipeline.restRefs sig spec0)).trans (V_main_arg0 m c),
    ((h.1 c).2 main_arg1 (by decide : main_arg1 ∈ Pipeline.restRefs sig spec0)).trans (V_main_arg1 m c),
    ((h.1 c).2 main_arg2 (by decide : main_arg2 ∈ Pipeline.restRefs sig spec0)).trans (V_main_arg2 m c),
    ((h.1 c).2 main_arg3 (by decide : main_arg3 ∈ Pipeline.restRefs sig spec0)).trans (V_main_arg3 m c)⟩, h.2⟩) (run_main_quiescent m ρ)

end Cert.KernelIdeal.Gen

end
-- ==== Proof.OutBwdX.lean ====
module

public import proofs.«01_k».proof.Proof.Gen.Kernel2Ideal.Frame
public import proofs.«01_k».proof.Proof.Gen.Reference2Ideal
public import Idealize.ShloMosaic.Lib.Pipeline.ValueKit
public import Idealize.ShloMosaic.Lib.Claim
public import Idealize.ShloMosaic.PureOps.Ideal

@[expose] public section

/-! The gradient of the mixed branches: the output projection's cotangent against the weights. -/

set_option maxRecDepth 16384

noncomputable section

open Idealize.ShloMosaic Idealize.ShloMosaic.TcCoe Idealize.SL.Sem
open Idealize.ShloMosaic.Pipeline (Dat)

namespace Cert.Kernel2Ideal.Product

open Cert.Kernel2Ideal Cert.Kernel2Ideal.Gen

variable (m : (ℓ : Loc nD τ sig) → Buf (Elt Ideal) ℓ)

/-- What the reference computes of its arguments. -/
abbrev wanted (w : FVec Ideal Cert.Reference2Ideal.S2048x2048 .f32) (dz : FVec Ideal Cert.Reference2Ideal.S4096x2048 .f32) : FVec Ideal Cert.Reference2Ideal.S4096x2048 .f32 :=
  Host.dotGeneral Cert.Reference2Ideal.dot_S4096x2048_S2048x2048_S4096x2048_1_1_0_0_n_n none dz w

/-- The block of every window at a grid point. -/
theorem blocks : ∀ t : Fin cfg0.N, win0_0.index t = ![t.val / 2, 0]
    ∧ win0_1.index t = ![t.val % 2, 0]
    ∧ win0_2.index t = ![t.val / 2, t.val % 2] :=
  (by decide +kernel : ∀ t : Fin grid0.N, _)

/-- What a point stores is its block of the reference's result. -/
theorem stored (c : Dev nD) (t : Fin cfg0.N) (y) :
    k0_pay1 (iblk m c 0 t) (iblk m c 1 t) y = wanted (m ((c : Thread nD τ).loc main_arg1)) (m ((c : Thread nD τ).loc main_arg2)) (((cfg0.win 2).blk t).view.emb y) := by
  pointwise [k0_pay1, wanted]
  blk_point [iblk, V, blocks t]

/-- The result array is the reference's result. -/
theorem result (c : Dev nD) : (dats m 0 c).arrAt 2 (cfgs 0).N = wanted (m ((c : Thread nD τ).loc main_arg1)) (m ((c : Thread nD τ).loc main_arg2)) := by
  refine (dats m 0 c).arrAt_eq_of_covers 2 _ (by decide +kernel) fun t _ y => ?_
  blk_simp
  rw [after0_2]
  frame_out
  exact stored m c t y

end Cert.Kernel2Ideal.Product

end
-- ==== Proof.OutBwdW.lean ====
module

public import proofs.«01_k».proof.Proof.Gen.Kernel3Ideal.Frame
public import proofs.«01_k».proof.Proof.Gen.Reference3Ideal
public import Idealize.ShloMosaic.Lib.Pipeline.ValueKit
public import Idealize.ShloMosaic.Lib.Claim
public import Idealize.ShloMosaic.PureOps.Ideal

@[expose] public section

/-! The gradient of the output projection's weights. -/

set_option maxRecDepth 16384

noncomputable section

open Idealize.ShloMosaic Idealize.ShloMosaic.TcCoe Idealize.SL.Sem
open Idealize.ShloMosaic.Pipeline (Dat)

namespace Cert.Kernel3Ideal.Product

open Cert.Kernel3Ideal Cert.Kernel3Ideal.Gen

variable (m : (ℓ : Loc nD τ sig) → Buf (Elt Ideal) ℓ)

/-- What the reference computes of its arguments. -/
abbrev wanted (mix dz : FVec Ideal Cert.Reference3Ideal.S4096x2048 .f32) : FVec Ideal Cert.Reference3Ideal.S2048x2048 .bf16 :=
  truncf .bf16 (transpose Cert.Reference3Ideal.S2048x2048 [1, 0] (Host.dotGeneral Cert.Reference3Ideal.dot_S4096x2048_S4096x2048_S2048x2048_0_0_1_1_n_n none dz mix)
    Cert.Reference3Ideal.Gen.transposes_S2048x2048_S2048x2048_1_0) Cert.Reference3Ideal.Gen.bitsLt_bf16_f32

/-- The block of every window at a grid point. -/
theorem blocks : ∀ t : Fin cfg0.N, win0_0.index t = ![0, t.val / 2]
    ∧ win0_1.index t = ![0, t.val % 2]
    ∧ win0_2.index t = ![t.val / 2, t.val % 2] :=
  (by decide +kernel : ∀ t : Fin grid0.N, _)

/-- What a point stores is its block of the reference's result. -/
theorem stored (c : Dev nD) (t : Fin cfg0.N) (y) :
    k0_pay1 (iblk m c 0 t) (iblk m c 1 t) y = wanted (m ((c : Thread nD τ).loc main_arg0)) (m ((c : Thread nD τ).loc main_arg2)) (((cfg0.win 2).blk t).view.emb y) := by
  pointwise [k0_pay1, wanted]
  refine (Finset.sum_congr rfl fun k _ => mul_comm _ _).trans ?_
  blk_point [iblk, V, blocks t]

/-- The result array is the reference's result. -/
theorem result (c : Dev nD) : (dats m 0 c).arrAt 2 (cfgs 0).N = wanted (m ((c : Thread nD τ).loc main_arg0)) (m ((c : Thread nD τ).loc main_arg2)) := by
  refine (dats m 0 c).arrAt_eq_of_covers 2 _ (by decide +kernel) fun t _ y => ?_
  blk_simp
  rw [after0_2]
  frame_out
  exact stored m c t y

end Cert.Kernel3Ideal.Product

end
-- ==== Proof.ProjBwdW.lean ====
module

public import proofs.«01_k».proof.Proof.Gen.Kernel4Ideal.Frame
public import proofs.«01_k».proof.Proof.Gen.Reference4Ideal
public import Idealize.ShloMosaic.Lib.Pipeline.ValueKit
public import Idealize.ShloMosaic.Lib.Claim
public import Idealize.ShloMosaic.PureOps.Ideal

@[expose] public section

/-! The gradient of the input projection's weights, stored transposed. -/

set_option maxRecDepth 16384

noncomputable section

open Idealize.ShloMosaic Idealize.ShloMosaic.TcCoe Idealize.SL.Sem
open Idealize.ShloMosaic.Pipeline (Dat)

namespace Cert.Kernel4Ideal.Product

open Cert.Kernel4Ideal Cert.Kernel4Ideal.Gen

variable (m : (ℓ : Loc nD τ sig) → Buf (Elt Ideal) ℓ)

/-- What the reference computes of its arguments. -/
abbrev wanted (h : FVec Ideal Cert.Reference4Ideal.S4096x2048 .f32) (dproj : FVec Ideal Cert.Reference4Ideal.S4096x5120 .f32) : FVec Ideal Cert.Reference4Ideal.S5120x2048 .bf16 :=
  truncf .bf16 (transpose Cert.Reference4Ideal.S5120x2048 [1, 0] (transpose Cert.Reference4Ideal.S2048x5120 [1, 0]
    (Host.dotGeneral Cert.Reference4Ideal.dot_S4096x5120_S4096x2048_S5120x2048_0_0_1_1_n_n none dproj h)
    Cert.Reference4Ideal.Gen.transposes_S5120x2048_S2048x5120_1_0) Cert.Reference4Ideal.Gen.transposes_S2048x5120_S5120x2048_1_0)
    Cert.Reference4Ideal.Gen.bitsLt_bf16_f32

/-- The block of every window at a grid point. -/
theorem blocks : ∀ t : Fin cfg0.N, win0_0.index t = ![0, t.val / 2]
    ∧ win0_1.index t = ![0, t.val % 2]
    ∧ win0_2.index t = ![t.val / 2, t.val % 2] :=
  (by decide +kernel : ∀ t : Fin grid0.N, _)

/-- What a point stores is its block of the reference's result. -/
theorem stored (c : Dev nD) (t : Fin cfg0.N) (y) :
    k0_pay1 (iblk m c 0 t) (iblk m c 1 t) y = wanted (m ((c : Thread nD τ).loc main_arg0)) (m ((c : Thread nD τ).loc main_arg2)) (((cfg0.win 2).blk t).view.emb y) := by
  pointwise [k0_pay1, wanted]
  blk_point [iblk, V, blocks t]

/-- The result array is the reference's result. -/
theorem result (c : Dev nD) : (dats m 0 c).arrAt 2 (cfgs 0).N = wanted (m ((c : Thread nD τ).loc main_arg0)) (m ((c : Thread nD τ).loc main_arg2)) := by
  refine (dats m 0 c).arrAt_eq_of_covers 2 _ (by decide +kernel) fun t _ y => ?_
  blk_simp
  rw [after0_2]
  frame_out
  exact stored m c t y

end Cert.Kernel4Ideal.Product

end
-- ==== Proof.ProjBwdX.lean ====
module

public import proofs.«01_k».proof.Proof.Gen.Kernel5Ideal.Frame
public import proofs.«01_k».proof.Proof.Gen.Reference5Ideal
public import Idealize.ShloMosaic.Lib.Pipeline.ValueKit
public import Idealize.ShloMosaic.Lib.Claim
public import Idealize.ShloMosaic.PureOps.Ideal

@[expose] public section

/-! The gradient of a layer's input: the projection's cotangent against the weights, in two steps, and the scaled residual. -/

set_option maxRecDepth 16384

noncomputable section

open Idealize.ShloMosaic Idealize.ShloMosaic.TcCoe Idealize.SL.Sem
open Idealize.ShloMosaic.Pipeline (Dat)

namespace Cert.Kernel5Ideal.Product

open Cert.Kernel5Ideal Cert.Kernel5Ideal.Gen

variable (m : (ℓ : Loc nD τ sig) → Buf (Elt Ideal) ℓ)

/-- What the reference computes of its arguments. -/
abbrev wanted (w : FVec Ideal Cert.Reference5Ideal.S2048x5120 .f32) (dproj : FVec Ideal Cert.Reference5Ideal.S4096x5120 .f32)
    (dz : FVec Ideal Cert.Reference5Ideal.S4096x2048 .f32) : FVec Ideal Cert.Reference5Ideal.S4096x2048 .f32 :=
  addf (Host.dotGeneral Cert.Reference5Ideal.dot_S4096x5120_S2048x5120_S4096x2048_1_1_0_0_n_n none dproj w)
    (mulf (broadcastInDim Cert.Reference5Ideal.S4096x2048 ![] Cert.Reference5Ideal.Gen.bcast_S_S4096x2048 (constant Cert.Reference5Ideal.S_ .f32 0x3FB504F3#32)) dz)

/-- The block of every window at a grid point. -/
theorem blocks : ∀ t : Fin cfg0.N, win0_0.index t = ![t.val / 4, t.val % 2]
    ∧ win0_1.index t = ![t.val % 2, t.val / 2 % 2]
    ∧ win0_2.index t = ![t.val / 4, t.val / 2 % 2]
    ∧ win0_3.index t = ![t.val / 4, t.val / 2 % 2] :=
  (by decide +kernel : ∀ t : Fin grid0.N, _)

/-- A sum over the contracted axis is the sum over its two halves. -/
theorem sum_halves (f : Fin 5120 → EReal) :
    ∑ k, f k = (∑ k : Fin 2560, f ⟨k.val, by omega⟩) + ∑ k : Fin 2560, f ⟨2560 + k.val, by omega⟩ :=
  Fin.sum_univ_add (a := 2560) (b := 2560) f

/-- After the first step the scratch holds the first half's product. -/
theorem kept (c : Dev nD) (t : Fin cfg0.N) (h0 : t.val % 2 = 0) :
    (outsAt0 m c t.val t.isLt).2 = k0_pay2 (iblk m c 0 t) (iblk m c 1 t) := by
  rw [outsAt0_A m c t h0 (by omega)]
  frame_out

/-- What the second step stores is the point's block of the reference's result. -/
theorem stored (c : Dev nD) (s t : Fin cfg0.N) (hs : s.val + 1 = t.val) (h : t.val % 2 = 1) (y) :
    k0_pay4 (iblk m c 0 t) (iblk m c 1 t) (k0_pay2 (iblk m c 0 s) (iblk m c 1 s)) (iblk m c 2 t) y
      = wanted (m ((c : Thread nD τ).loc main_arg1)) (m ((c : Thread nD τ).loc main_arg2)) (m ((c : Thread nD τ).loc main_arg3)) (((cfg0.win 3).blk t).view.emb y) := by
  pointwise [k0_pay4, k0_pay2, k0_pay1, wanted]
  rw [sum_halves, add_comm]
  blk_point [iblk, V, blocks t, blocks s]

/-- The result array is the reference's result. -/
theorem result (c : Dev nD) : (dats m 0 c).arrAt 3 (cfgs 0).N = wanted (m ((c : Thread nD τ).loc main_arg1)) (m ((c : Thread nD τ).loc main_arg2)) (m ((c : Thread nD τ).loc main_arg3)) := by
  refine (dats m 0 c).arrAt_eq_of_covers 3 _ (by decide +kernel) fun t hf y => ?_
  have h : t.val % 2 = 1 := (flush0_3 t).mp hf
  have hk := kept m c ⟨t.val - 1, lt_of_le_of_lt (Nat.sub_le _ _) t.isLt⟩ (by show (t.val - 1) % 2 = 0; omega)
  blk_simp
  rw [after0_3, outsAt0_B m c t (by omega) h]
  dsimp only
  rw [hk]
  frame_out
  refine (congrArg (fun z => k0_pay4 (iblk m c 0 t) (iblk m c 1 t) z (iblk m c 2 t) y) ?_).trans
    (stored m c ⟨t.val - 1, lt_of_le_of_lt (Nat.sub_le _ _) t.isLt⟩ t (by show t.val - 1 + 1 = t.val; omega) h y)
  exact Memref.IsWhole.read_unread _ _

end Cert.Kernel5Ideal.Product

end
-- ==== Proof.ProjFwd.lean ====
module

public import proofs.«01_k».proof.Proof.Gen.Kernel6Ideal.Frame
public import proofs.«01_k».proof.Proof.Gen.Reference6Ideal
public import Idealize.ShloMosaic.Lib.Pipeline.ValueKit
public import Idealize.ShloMosaic.Lib.Claim
public import Idealize.ShloMosaic.PureOps.Ideal

@[expose] public section

/-! The input projection. -/

set_option maxRecDepth 16384

noncomputable section

open Idealize.ShloMosaic Idealize.ShloMosaic.TcCoe Idealize.SL.Sem
open Idealize.ShloMosaic.Pipeline (Dat)

namespace Cert.Kernel6Ideal.Product

open Cert.Kernel6Ideal Cert.Kernel6Ideal.Gen

variable (m : (ℓ : Loc nD τ sig) → Buf (Elt Ideal) ℓ)

/-- What the reference computes of its arguments. -/
abbrev wanted (h : FVec Ideal Cert.Reference6Ideal.S4096x2048 .f32) (w : FVec Ideal Cert.Reference6Ideal.S2048x5120 .f32) : FVec Ideal Cert.Reference6Ideal.S4096x5120 .f32 :=
  Host.dotGeneral Cert.Reference6Ideal.dot_S4096x2048_S2048x5120_S4096x5120_1_0_0_1_n_n none h w

/-- The block of every window at a grid point. -/
theorem blocks : ∀ t : Fin cfg0.N, win0_0.index t = ![t.val / 5, 0]
    ∧ win0_1.index t = ![t.val % 5, 0]
    ∧ win0_2.index t = ![t.val / 5, t.val % 5] :=
  (by decide +kernel : ∀ t : Fin grid0.N, _)

/-- What a point stores is its block of the reference's result. -/
theorem stored (c : Dev nD) (t : Fin cfg0.N) (y) :
    k0_pay1 (iblk m c 0 t) (iblk m c 1 t) y = wanted (m ((c : Thread nD τ).loc main_arg0)) (m ((c : Thread nD τ).loc main_arg1)) (((cfg0.win 2).blk t).view.emb y) := by
  pointwise [k0_pay1, wanted]
  blk_point [iblk, V, blocks t]

/-- The result array is the reference's result. -/
theorem result (c : Dev nD) : (dats m 0 c).arrAt 2 (cfgs 0).N = wanted (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.Kernel6Ideal.Product

end
-- ==== Proof.OutFwd.lean ====
module

public import proofs.«01_k».proof.Proof.Gen.Kernel7Ideal.Frame
public import proofs.«01_k».proof.Proof.Gen.Reference7Ideal
public import Idealize.ShloMosaic.Lib.Pipeline.ValueKit
public import Idealize.ShloMosaic.Lib.Claim
public import Idealize.ShloMosaic.PureOps.Ideal

@[expose] public section

/-! The output projection, its bias and the scaled residual. -/

set_option maxRecDepth 16384

noncomputable section

open Idealize.ShloMosaic Idealize.ShloMosaic.TcCoe Idealize.SL.Sem
open Idealize.ShloMosaic.Pipeline (Dat)

namespace Cert.Kernel7Ideal.Product

open Cert.Kernel7Ideal Cert.Kernel7Ideal.Gen

variable (m : (ℓ : Loc nD τ sig) → Buf (Elt Ideal) ℓ)

/-- What the reference computes of its arguments. -/
abbrev wanted (mix : FVec Ideal Cert.Reference7Ideal.S4096x2048 .f32) (w : FVec Ideal Cert.Reference7Ideal.S2048x2048 .f32)
    (h : FVec Ideal Cert.Reference7Ideal.S4096x2048 .f32) (b : FVec Ideal Cert.Reference7Ideal.S2048 .f32) : FVec Ideal Cert.Reference7Ideal.S4096x2048 .f32 :=
  addf (mulf (broadcastInDim Cert.Reference7Ideal.S4096x2048 ![] Cert.Reference7Ideal.Gen.bcast_S_S4096x2048 (constant Cert.Reference7Ideal.S_ .f32 0x3FB504F3#32)) h)
    (addf (Host.dotGeneral Cert.Reference7Ideal.dot_S4096x2048_S2048x2048_S4096x2048_1_0_0_1_n_n none mix w)
      (broadcastInDim Cert.Reference7Ideal.S4096x2048 ![0, 1] Cert.Reference7Ideal.Gen.bcast_S1x2048_S4096x2048_0_1
        (broadcastInDim Cert.Reference7Ideal.S1x2048 ![1] Cert.Reference7Ideal.Gen.bcast_S2048_S1x2048_1 b)))

/-- The block of every window at a grid point. -/
theorem blocks : ∀ t : Fin cfg0.N, win0_0.index t = ![t.val / 2, 0]
    ∧ win0_1.index t = ![0, t.val % 2]
    ∧ win0_2.index t = ![t.val / 2, t.val % 2]
    ∧ win0_3.index t = ![0, t.val % 2]
    ∧ win0_4.index t = ![t.val / 2, t.val % 2] :=
  (by decide +kernel : ∀ t : Fin grid0.N, _)

/-- What a point stores is its block of the reference's result. -/
theorem stored (c : Dev nD) (t : Fin cfg0.N) (y) :
    k0_pay1 (iblk m c 0 t) (iblk m c 1 t) (iblk m c 3 t) (iblk m c 2 t) y = wanted (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, wanted]
  blk_point [iblk, V, blocks t]

/-- The result array is the reference's result. -/
theorem result (c : Dev nD) : (dats m 0 c).arrAt 4 (cfgs 0).N = wanted (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact stored m c t y

end Cert.Kernel7Ideal.Product

end
-- ==== Proof.QUpBwdW.lean ====
module

public import proofs.«01_k».proof.Proof.Gen.Kernel8Ideal.Frame
public import proofs.«01_k».proof.Proof.Gen.Reference8Ideal
public import Idealize.ShloMosaic.Lib.Pipeline.ValueKit
public import Idealize.ShloMosaic.Lib.Claim
public import Idealize.ShloMosaic.PureOps.Ideal

@[expose] public section

/-! The gradient of the queries' up-projection, its rows taken in two steps. -/

set_option maxRecDepth 16384

noncomputable section

open Idealize.ShloMosaic Idealize.ShloMosaic.TcCoe Idealize.SL.Sem
open Idealize.ShloMosaic.Pipeline (Dat)

namespace Cert.Kernel8Ideal.Product

open Cert.Kernel8Ideal Cert.Kernel8Ideal.Gen

variable (m : (ℓ : Loc nD τ sig) → Buf (Elt Ideal) ℓ)

/-- What the reference computes of its arguments. -/
abbrev wanted (x : FVec Ideal Cert.Reference8Ideal.S4096x512 .f32) (d : FVec Ideal Cert.Reference8Ideal.S4096x1536 .f32) : FVec Ideal Cert.Reference8Ideal.S512x1536 .bf16 :=
  truncf .bf16 (transpose Cert.Reference8Ideal.S512x1536 [1, 0] (Host.dotGeneral Cert.Reference8Ideal.dot_S4096x1536_S4096x512_S1536x512_0_0_1_1_n_n none d x)
    Cert.Reference8Ideal.Gen.transposes_S1536x512_S512x1536_1_0) Cert.Reference8Ideal.Gen.bitsLt_bf16_f32

/-- The block of every window at a grid point. -/
theorem blocks : ∀ t : Fin cfg0.N, win0_0.index t = ![t.val % 2, 0]
    ∧ win0_1.index t = ![t.val % 2, t.val / 2]
    ∧ win0_2.index t = ![0, t.val / 2] :=
  (by decide +kernel : ∀ t : Fin grid0.N, _)

/-- A sum over the contracted axis is the sum over its two halves. -/
theorem sum_halves (f : Fin 4096 → EReal) :
    ∑ k, f k = (∑ k : Fin 2048, f ⟨k.val, by omega⟩) + ∑ k : Fin 2048, f ⟨2048 + k.val, by omega⟩ :=
  Fin.sum_univ_add (a := 2048) (b := 2048) f

/-- After the first step the scratch holds the first half's product. -/
theorem kept (c : Dev nD) (t : Fin cfg0.N) (h0 : t.val % 2 = 0) :
    (outsAt0 m c t.val t.isLt).2 = k0_pay2 (iblk m c 0 t) (iblk m c 1 t) := by
  rw [outsAt0_A m c t h0 (by omega)]
  frame_out

/-- What the second step stores is the point's block of the reference's result. -/
theorem stored (c : Dev nD) (s t : Fin cfg0.N) (hs : s.val + 1 = t.val) (h : t.val % 2 = 1) (y) :
    k0_pay4 (iblk m c 0 t) (iblk m c 1 t) (k0_pay2 (iblk m c 0 s) (iblk m c 1 s)) y
      = wanted (m ((c : Thread nD τ).loc main_arg0)) (m ((c : Thread nD τ).loc main_arg2)) (((cfg0.win 2).blk t).view.emb y) := by
  pointwise [k0_pay4, k0_pay2, k0_pay1, wanted]
  rw [sum_halves]
  refine (congrArg₂ (· + ·) (Finset.sum_congr rfl fun k _ => mul_comm _ _) (Finset.sum_congr rfl fun k _ => mul_comm _ _)).trans ?_
  have hs0 : s.val % 2 = 0 := by omega
  have hq : s.val / 2 = t.val / 2 := by omega
  blk_point [iblk, V, blocks t, blocks s]

/-- The result array is the reference's result. -/
theorem result (c : Dev nD) : (dats m 0 c).arrAt 2 (cfgs 0).N = wanted (m ((c : Thread nD τ).loc main_arg0)) (m ((c : Thread nD τ).loc main_arg2)) := by
  refine (dats m 0 c).arrAt_eq_of_covers 2 _ (by decide +kernel) fun t hf y => ?_
  have h : t.val % 2 = 1 := (flush0_2 t).mp hf
  have hk := kept m c ⟨t.val - 1, lt_of_le_of_lt (Nat.sub_le _ _) t.isLt⟩ (by show (t.val - 1) % 2 = 0; omega)
  blk_simp
  rw [after0_2, outsAt0_B m c t (by omega) h]
  dsimp only
  rw [hk]
  frame_out
  refine (congrArg (fun z => k0_pay4 (iblk m c 0 t) (iblk m c 1 t) z y) ?_).trans
    (stored m c ⟨t.val - 1, lt_of_le_of_lt (Nat.sub_le _ _) t.isLt⟩ t (by show t.val - 1 + 1 = t.val; omega) h y)
  exact Memref.IsWhole.read_unread _ _

end Cert.Kernel8Ideal.Product

end
-- ==== Proof.KvUpBwdW.lean ====
module

public import proofs.«01_k».proof.Proof.Gen.Kernel9Ideal.Frame
public import proofs.«01_k».proof.Proof.Gen.Reference9Ideal
public import Idealize.ShloMosaic.Lib.Pipeline.ValueKit
public import Idealize.ShloMosaic.Lib.Claim
public import Idealize.ShloMosaic.PureOps.Ideal

@[expose] public section

/-! The gradient of the keys' and values' up-projection, its rows taken in two steps. -/

set_option maxRecDepth 16384

noncomputable section

open Idealize.ShloMosaic Idealize.ShloMosaic.TcCoe Idealize.SL.Sem
open Idealize.ShloMosaic.Pipeline (Dat)

namespace Cert.Kernel9Ideal.Product

open Cert.Kernel9Ideal Cert.Kernel9Ideal.Gen

variable (m : (ℓ : Loc nD τ sig) → Buf (Elt Ideal) ℓ)

/-- What the reference computes of its arguments. -/
abbrev wanted (x : FVec Ideal Cert.Reference9Ideal.S4096x256 .f32) (d : FVec Ideal Cert.Reference9Ideal.S4096x2048 .f32) : FVec Ideal Cert.Reference9Ideal.S256x2048 .bf16 :=
  truncf .bf16 (transpose Cert.Reference9Ideal.S256x2048 [1, 0] (Host.dotGeneral Cert.Reference9Ideal.dot_S4096x2048_S4096x256_S2048x256_0_0_1_1_n_n none d x)
    Cert.Reference9Ideal.Gen.transposes_S2048x256_S256x2048_1_0) Cert.Reference9Ideal.Gen.bitsLt_bf16_f32

/-- The block of every window at a grid point. -/
theorem blocks : ∀ t : Fin cfg0.N, win0_0.index t = ![t.val % 2, 0]
    ∧ win0_1.index t = ![t.val % 2, t.val / 2]
    ∧ win0_2.index t = ![0, t.val / 2] :=
  (by decide +kernel : ∀ t : Fin grid0.N, _)

/-- A sum over the contracted axis is the sum over its two halves. -/
theorem sum_halves (f : Fin 4096 → EReal) :
    ∑ k, f k = (∑ k : Fin 2048, f ⟨k.val, by omega⟩) + ∑ k : Fin 2048, f ⟨2048 + k.val, by omega⟩ :=
  Fin.sum_univ_add (a := 2048) (b := 2048) f

/-- After the first step the scratch holds the first half's product. -/
theorem kept (c : Dev nD) (t : Fin cfg0.N) (h0 : t.val % 2 = 0) :
    (outsAt0 m c t.val t.isLt).2 = k0_pay2 (iblk m c 0 t) (iblk m c 1 t) := by
  rw [outsAt0_A m c t h0 (by omega)]
  frame_out

/-- What the second step stores is the point's block of the reference's result. -/
theorem stored (c : Dev nD) (s t : Fin cfg0.N) (hs : s.val + 1 = t.val) (h : t.val % 2 = 1) (y) :
    k0_pay4 (iblk m c 0 t) (iblk m c 1 t) (k0_pay2 (iblk m c 0 s) (iblk m c 1 s)) y
      = wanted (m ((c : Thread nD τ).loc main_arg0)) (m ((c : Thread nD τ).loc main_arg2)) (((cfg0.win 2).blk t).view.emb y) := by
  pointwise [k0_pay4, k0_pay2, k0_pay1, wanted]
  rw [sum_halves]
  refine (congrArg₂ (· + ·) (Finset.sum_congr rfl fun k _ => mul_comm _ _) (Finset.sum_congr rfl fun k _ => mul_comm _ _)).trans ?_
  have hs0 : s.val % 2 = 0 := by omega
  have hq : s.val / 2 = t.val / 2 := by omega
  blk_point [iblk, V, blocks t, blocks s]

/-- The result array is the reference's result. -/
theorem result (c : Dev nD) : (dats m 0 c).arrAt 2 (cfgs 0).N = wanted (m ((c : Thread nD τ).loc main_arg0)) (m ((c : Thread nD τ).loc main_arg2)) := by
  refine (dats m 0 c).arrAt_eq_of_covers 2 _ (by decide +kernel) fun t hf y => ?_
  have h : t.val % 2 = 1 := (flush0_2 t).mp hf
  have hk := kept m c ⟨t.val - 1, lt_of_le_of_lt (Nat.sub_le _ _) t.isLt⟩ (by show (t.val - 1) % 2 = 0; omega)
  blk_simp
  rw [after0_2, outsAt0_B m c t (by omega) h]
  dsimp only
  rw [hk]
  frame_out
  refine (congrArg (fun z => k0_pay4 (iblk m c 0 t) (iblk m c 1 t) z y) ?_).trans
    (stored m c ⟨t.val - 1, lt_of_le_of_lt (Nat.sub_le _ _) t.isLt⟩ t (by show t.val - 1 + 1 = t.val; omega) h y)
  exact Memref.IsWhole.read_unread _ _

end Cert.Kernel9Ideal.Product

end
-- ==== Proof.AdamUq.lean ====
module

public import proofs.«01_k».proof.Proof.Gen.Kernel10Ideal.Frame
public import proofs.«01_k».proof.Proof.Gen.Reference10Ideal
public import Idealize.ShloMosaic.Lib.Pipeline.ValueKit
public import Idealize.ShloMosaic.Lib.Claim
public import Idealize.ShloMosaic.PureOps.Ideal

@[expose] public section

/-! The optimiser's step on the queries' up-projection. -/

set_option maxRecDepth 16384

noncomputable section

open Idealize.ShloMosaic Idealize.ShloMosaic.TcCoe Idealize.SL.Sem
open Idealize.ShloMosaic.Pipeline (Dat)

namespace Cert.Kernel10Ideal.Update
open Cert.Kernel10Ideal Cert.Kernel10Ideal.Gen

variable (m : (ℓ : Loc nD τ sig) → Buf (Elt Ideal) ℓ)

/-- The block of the state's windows at a grid point. -/
theorem blocks : ∀ t : Fin cfg0.N, win0_2.index t = ![t.val / 2, t.val % 2, 0]
    ∧ win0_3.index t = ![t.val / 2, t.val % 2, 0] ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0] ∧ win0_8.index t = ![t.val / 2, t.val % 2, 0] :=
  (by decide +kernel : ∀ t : Fin grid0.N, _)

/-- The block of the first layer's gradients while that layer is updated. -/
theorem blocks0 : ∀ t : Fin cfg0.N, t.val < 2 → win0_0.index t = ![0, t.val, 0] :=
  (by decide +kernel : ∀ t : Fin grid0.N, _)

/-- The block of the second layer's gradients while that layer is updated. -/
theorem blocks1 : ∀ t : Fin cfg0.N, ¬t.val < 2 → win0_1.index t = ![0, t.val - 2, 0] :=
  (by decide +kernel : ∀ t : Fin grid0.N, _)

/-- One layer's gradients, summed over the devices. -/
abbrev wantL (l : FVec Ideal Cert.Reference10Ideal.S8x512x192 .bf16) : FVec Ideal Cert.Reference10Ideal.S1x512x192 .f32 :=
  broadcastInDim Cert.Reference10Ideal.S1x512x192 ![1, 2] Cert.Reference10Ideal.Gen.bcast_S512x192_S1x512x192_1_2
    (Host.reduceAdd (extf .f32 l Cert.Reference10Ideal.Gen.bitsLt_bf16_f32) (constant Cert.Reference10Ideal.S_ .f32 0x00000000#32) Cert.Reference10Ideal.Gen.reducesTo_S8x512x192_S512x192_d0 Cert.Reference10Ideal.Gen.h_S_)

/-- The two layers' summed gradients. -/
def wantG (l0 l1 : FVec Ideal Cert.Reference10Ideal.S8x512x192 .bf16) : FVec Ideal Cert.Reference10Ideal.S2x512x192 .f32 :=
  concatenate Cert.Reference10Ideal.S2x512x192 0 [⟨Cert.Reference10Ideal.S1x512x192, wantL l0⟩, ⟨Cert.Reference10Ideal.S1x512x192, wantL l1⟩] Cert.Reference10Ideal.Gen.concatenates_S1x512x192_S1x512x192_S2x512x192_d0

/-- The new first moment. -/
abbrev wantM (g a : FVec Ideal Cert.Reference10Ideal.S2x512x192 .f32) : FVec Ideal Cert.Reference10Ideal.S2x512x192 .f32 := addf (mulf (broadcastInDim Cert.Reference10Ideal.S2x512x192 ![] Cert.Reference10Ideal.Gen.bcast_S_S2x512x192 (constant Cert.Reference10Ideal.S_ .f32 0x3F666666#32)) a) (mulf (broadcastInDim Cert.Reference10Ideal.S2x512x192 ![] Cert.Reference10Ideal.Gen.bcast_S_S2x512x192 (constant Cert.Reference10Ideal.S_ .f32 0x3DCCCCCD#32)) g)

/-- The new second moment. -/
abbrev wantV (g b : FVec Ideal Cert.Reference10Ideal.S2x512x192 .f32) : FVec Ideal Cert.Reference10Ideal.S2x512x192 .f32 := addf (mulf (broadcastInDim Cert.Reference10Ideal.S2x512x192 ![] Cert.Reference10Ideal.Gen.bcast_S_S2x512x192 (constant Cert.Reference10Ideal.S_ .f32 0x3F7FBE77#32)) b) (mulf (broadcastInDim Cert.Reference10Ideal.S2x512x192 ![] Cert.Reference10Ideal.Gen.bcast_S_S2x512x192 (constant Cert.Reference10Ideal.S_ .f32 0x3A83126F#32)) (mulf g g))

/-- The weights' change. -/
abbrev wantD (g w a b : FVec Ideal Cert.Reference10Ideal.S2x512x192 .f32) : FVec Ideal Cert.Reference10Ideal.S2x512x192 .f32 :=
  mulf (broadcastInDim Cert.Reference10Ideal.S2x512x192 ![] Cert.Reference10Ideal.Gen.bcast_S_S2x512x192 (constant Cert.Reference10Ideal.S_ .f32 0xBA83126F#32)) (addf (Host.divf (Host.divf (wantM g a) (broadcastInDim Cert.Reference10Ideal.S2x512x192 ![] Cert.Reference10Ideal.Gen.bcast_S_S2x512x192 (constant Cert.Reference10Ideal.S_ .f32 0x3F26BD02#32)))
    (addf (Host.sqrt (Host.divf (wantV g b) (broadcastInDim Cert.Reference10Ideal.S2x512x192 ![] Cert.Reference10Ideal.Gen.bcast_S_S2x512x192 (constant Cert.Reference10Ideal.S_ .f32 0x3C231ACC#32)))) (broadcastInDim Cert.Reference10Ideal.S2x512x192 ![] Cert.Reference10Ideal.Gen.bcast_S_S2x512x192 (constant Cert.Reference10Ideal.S_ .f32 0x322BCC77#32)))) (mulf (broadcastInDim Cert.Reference10Ideal.S2x512x192 ![] Cert.Reference10Ideal.Gen.bcast_S_S2x512x192 (constant Cert.Reference10Ideal.S_ .f32 0x3C23D70A#32)) w))

/-- At the first layer's places it is the first layer's sum. -/
theorem wantG_lo (l0 l1 : FVec Ideal Cert.Reference10Ideal.S8x512x192 .bf16) (i : Cert.Reference10Ideal.S2x512x192.Idx) (h : (i 0 : ℕ) < 1) : wantG l0 l1 i = ∑ x, l0 (ix3 x (i 1) (i 2)) := by
  pointwise [wantG, wantL]
  rw [dif_pos h]

/-- At the second layer's places it is the second layer's sum. -/
theorem wantG_hi (l0 l1 : FVec Ideal Cert.Reference10Ideal.S8x512x192 .bf16) (i : Cert.Reference10Ideal.S2x512x192.Idx) (h : ¬(i 0 : ℕ) < 1) : wantG l0 l1 i = ∑ x, l1 (ix3 x (i 1) (i 2)) := by
  pointwise [wantG, wantL]
  rw [dif_neg h]

/-- The summed gradients. -/
theorem result5 (c : Dev nD) : (dats m 0 c).arrAt 5 (cfgs 0).N = (wantG (m ((c : Thread nD τ).loc main_arg0)) (m ((c : Thread nD τ).loc main_arg1))) := by
  refine (dats m 0 c).arrAt_eq_of_covers 5 _ (by decide +kernel) fun t hf y => ?_
  have hrow : ((((cfg0.win 5).blk t).view.emb y) 0 : ℕ) = t.val / 2 := by
    blk_point [blocks t]
  have hN := lt_of_lt_of_eq t.isLt N_0
  blk_simp
  rw [after0_5]
  by_cases h : t.val < 2
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val / 2 < 1) (hrow.symm.trans_lt z)]
    simp only [Fin.sum_univ_eight]
    have hb := blocks1 t h
    blk_point [iblk, V, blocks t, hb]

/-- The weights' change. -/
theorem result6 (c : Dev nD) : (dats m 0 c).arrAt 6 (cfgs 0).N = (wantD (wantG (m ((c : Thread nD τ).loc main_arg0)) (m ((c : Thread nD τ).loc main_arg1))) (m ((c : Thread nD τ).loc main_arg2)) (m ((c : Thread nD τ).loc main_arg3)) (m ((c : Thread nD τ).loc main_arg4))) := by
  refine (dats m 0 c).arrAt_eq_of_covers 6 _ (by decide +kernel) fun t hf y => ?_
  have hrow : ((((cfg0.win 6).blk t).view.emb y) 0 : ℕ) = t.val / 2 := by
    blk_point [blocks t]
  have hN := lt_of_lt_of_eq t.isLt N_0
  blk_simp
  rw [after0_6]
  by_cases h : t.val < 2
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val / 2 < 1) (hrow.symm.trans_lt z)]
    simp only [Fin.sum_univ_eight]
    have hb := blocks1 t h
    blk_point [iblk, V, blocks t, hb]

/-- The new first moment. -/
theorem result7 (c : Dev nD) : (dats m 0 c).arrAt 7 (cfgs 0).N = (wantM (wantG (m ((c : Thread nD τ).loc main_arg0)) (m ((c : Thread nD τ).loc main_arg1))) (m ((c : Thread nD τ).loc main_arg3))) := by
  refine (dats m 0 c).arrAt_eq_of_covers 7 _ (by decide +kernel) fun t hf y => ?_
  have hrow : ((((cfg0.win 7).blk t).view.emb y) 0 : ℕ) = t.val / 2 := by
    blk_point [blocks t]
  have hN := lt_of_lt_of_eq t.isLt N_0
  blk_simp
  rw [after0_7]
  by_cases h : t.val < 2
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val / 2 < 1) (hrow.symm.trans_lt z)]
    simp only [Fin.sum_univ_eight]
    have hb := blocks1 t h
    blk_point [iblk, V, blocks t, hb]

/-- The new second moment. -/
theorem result8 (c : Dev nD) : (dats m 0 c).arrAt 8 (cfgs 0).N = (wantV (wantG (m ((c : Thread nD τ).loc main_arg0)) (m ((c : Thread nD τ).loc main_arg1))) (m ((c : Thread nD τ).loc main_arg4))) := by
  refine (dats m 0 c).arrAt_eq_of_covers 8 _ (by decide +kernel) fun t hf y => ?_
  have hrow : ((((cfg0.win 8).blk t).view.emb y) 0 : ℕ) = t.val / 2 := by
    blk_point [blocks t]
  have hN := lt_of_lt_of_eq t.isLt N_0
  blk_simp
  rw [after0_8]
  by_cases h : t.val < 2
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val / 2 < 1) (hrow.symm.trans_lt z)]
    simp only [Fin.sum_univ_eight]
    have hb := blocks1 t h
    blk_point [iblk, V, blocks t, hb]

end Cert.Kernel10Ideal.Update

end
-- ==== Proof.AdamUkv.lean ====
module

public import proofs.«01_k».proof.Proof.Gen.Kernel11Ideal.Frame
public import proofs.«01_k».proof.Proof.Gen.Reference11Ideal
public import Idealize.ShloMosaic.Lib.Pipeline.ValueKit
public import Idealize.ShloMosaic.Lib.Claim
public import Idealize.ShloMosaic.PureOps.Ideal

@[expose] public section

/-! The optimiser's step on the keys' and values' up-projection. -/

set_option maxRecDepth 16384

noncomputable section

open Idealize.ShloMosaic Idealize.ShloMosaic.TcCoe Idealize.SL.Sem
open Idealize.ShloMosaic.Pipeline (Dat)

namespace Cert.Kernel11Ideal.Update
open Cert.Kernel11Ideal Cert.Kernel11Ideal.Gen

variable (m : (ℓ : Loc nD τ sig) → Buf (Elt Ideal) ℓ)

/-- The block of the state's windows at a grid point. -/
theorem blocks : ∀ t : Fin cfg0.N, win0_2.index t = ![t.val, 0, 0]
    ∧ win0_3.index t = ![t.val, 0, 0] ∧ win0_4.index t = ![t.val, 0, 0] ∧ win0_5.index t = ![t.val, 0, 0]
    ∧ win0_6.index t = ![t.val, 0, 0] ∧ win0_7.index t = ![t.val, 0, 0] ∧ win0_8.index t = ![t.val, 0, 0] :=
  (by decide +kernel : ∀ t : Fin grid0.N, _)

/-- The block of the first layer's gradients while that layer is updated. -/
theorem blocks0 : ∀ t : Fin cfg0.N, t.val % 2 = 0 → win0_0.index t = ![0, 0, 0] :=
  (by decide +kernel : ∀ t : Fin grid0.N, _)

/-- The block of the second layer's gradients while that layer is updated. -/
theorem blocks1 : ∀ t : Fin cfg0.N, ¬t.val % 2 = 0 → win0_1.index t = ![0, 0, 0] :=
  (by decide +kernel : ∀ t : Fin grid0.N, _)

/-- One layer's gradients, summed over the devices. -/
abbrev wantL (l : FVec Ideal Cert.Reference11Ideal.S8x256x256 .bf16) : FVec Ideal Cert.Reference11Ideal.S1x256x256 .f32 :=
  broadcastInDim Cert.Reference11Ideal.S1x256x256 ![1, 2] Cert.Reference11Ideal.Gen.bcast_S256x256_S1x256x256_1_2
    (Host.reduceAdd (extf .f32 l Cert.Reference11Ideal.Gen.bitsLt_bf16_f32) (constant Cert.Reference11Ideal.S_ .f32 0x00000000#32) Cert.Reference11Ideal.Gen.reducesTo_S8x256x256_S256x256_d0 Cert.Reference11Ideal.Gen.h_S_)

/-- The two layers' summed gradients. -/
def wantG (l0 l1 : FVec Ideal Cert.Reference11Ideal.S8x256x256 .bf16) : FVec Ideal Cert.Reference11Ideal.S2x256x256 .f32 :=
  concatenate Cert.Reference11Ideal.S2x256x256 0 [⟨Cert.Reference11Ideal.S1x256x256, wantL l0⟩, ⟨Cert.Reference11Ideal.S1x256x256, wantL l1⟩] Cert.Reference11Ideal.Gen.concatenates_S1x256x256_S1x256x256_S2x256x256_d0

/-- The new first moment. -/
abbrev wantM (g a : FVec Ideal Cert.Reference11Ideal.S2x256x256 .f32) : FVec Ideal Cert.Reference11Ideal.S2x256x256 .f32 := addf (mulf (broadcastInDim Cert.Reference11Ideal.S2x256x256 ![] Cert.Reference11Ideal.Gen.bcast_S_S2x256x256 (constant Cert.Reference11Ideal.S_ .f32 0x3F666666#32)) a) (mulf (broadcastInDim Cert.Reference11Ideal.S2x256x256 ![] Cert.Reference11Ideal.Gen.bcast_S_S2x256x256 (constant Cert.Reference11Ideal.S_ .f32 0x3DCCCCCD#32)) g)

/-- The new second moment. -/
abbrev wantV (g b : FVec Ideal Cert.Reference11Ideal.S2x256x256 .f32) : FVec Ideal Cert.Reference11Ideal.S2x256x256 .f32 := addf (mulf (broadcastInDim Cert.Reference11Ideal.S2x256x256 ![] Cert.Reference11Ideal.Gen.bcast_S_S2x256x256 (constant Cert.Reference11Ideal.S_ .f32 0x3F7FBE77#32)) b) (mulf (broadcastInDim Cert.Reference11Ideal.S2x256x256 ![] Cert.Reference11Ideal.Gen.bcast_S_S2x256x256 (constant Cert.Reference11Ideal.S_ .f32 0x3A83126F#32)) (mulf g g))

/-- The weights' change. -/
abbrev wantD (g w a b : FVec Ideal Cert.Reference11Ideal.S2x256x256 .f32) : FVec Ideal Cert.Reference11Ideal.S2x256x256 .f32 :=
  mulf (broadcastInDim Cert.Reference11Ideal.S2x256x256 ![] Cert.Reference11Ideal.Gen.bcast_S_S2x256x256 (constant Cert.Reference11Ideal.S_ .f32 0xBA83126F#32)) (addf (Host.divf (Host.divf (wantM g a) (broadcastInDim Cert.Reference11Ideal.S2x256x256 ![] Cert.Reference11Ideal.Gen.bcast_S_S2x256x256 (constant Cert.Reference11Ideal.S_ .f32 0x3F26BD02#32)))
    (addf (Host.sqrt (Host.divf (wantV g b) (broadcastInDim Cert.Reference11Ideal.S2x256x256 ![] Cert.Reference11Ideal.Gen.bcast_S_S2x256x256 (constant Cert.Reference11Ideal.S_ .f32 0x3C231ACC#32)))) (broadcastInDim Cert.Reference11Ideal.S2x256x256 ![] Cert.Reference11Ideal.Gen.bcast_S_S2x256x256 (constant Cert.Reference11Ideal.S_ .f32 0x322BCC77#32)))) (mulf (broadcastInDim Cert.Reference11Ideal.S2x256x256 ![] Cert.Reference11Ideal.Gen.bcast_S_S2x256x256 (constant Cert.Reference11Ideal.S_ .f32 0x3C23D70A#32)) w))

/-- At the first layer's places it is the first layer's sum. -/
theorem wantG_lo (l0 l1 : FVec Ideal Cert.Reference11Ideal.S8x256x256 .bf16) (i : Cert.Reference11Ideal.S2x256x256.Idx) (h : (i 0 : ℕ) < 1) : wantG l0 l1 i = ∑ x, l0 (ix3 x (i 1) (i 2)) := by
  pointwise [wantG, wantL]
  rw [dif_pos h]

/-- At the second layer's places it is the second layer's sum. -/
theorem wantG_hi (l0 l1 : FVec Ideal Cert.Reference11Ideal.S8x256x256 .bf16) (i : Cert.Reference11Ideal.S2x256x256.Idx) (h : ¬(i 0 : ℕ) < 1) : wantG l0 l1 i = ∑ x, l1 (ix3 x (i 1) (i 2)) := by
  pointwise [wantG, wantL]
  rw [dif_neg h]

/-- The summed gradients. -/
theorem result5 (c : Dev nD) : (dats m 0 c).arrAt 5 (cfgs 0).N = (wantG (m ((c : Thread nD τ).loc main_arg0)) (m ((c : Thread nD τ).loc main_arg1))) := by
  refine (dats m 0 c).arrAt_eq_of_covers 5 _ (by decide +kernel) fun t hf y => ?_
  have hrow : ((((cfg0.win 5).blk t).view.emb y) 0 : ℕ) = t.val := by
    blk_point [blocks t]
  have hN := lt_of_lt_of_eq t.isLt N_0
  blk_simp
  rw [after0_5]
  by_cases h : t.val % 2 = 0
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val < 1) (hrow.symm.trans_lt z)]
    simp only [Fin.sum_univ_eight]
    have hb := blocks1 t h
    blk_point [iblk, V, blocks t, hb]

/-- The weights' change. -/
theorem result6 (c : Dev nD) : (dats m 0 c).arrAt 6 (cfgs 0).N = (wantD (wantG (m ((c : Thread nD τ).loc main_arg0)) (m ((c : Thread nD τ).loc main_arg1))) (m ((c : Thread nD τ).loc main_arg2)) (m ((c : Thread nD τ).loc main_arg3)) (m ((c : Thread nD τ).loc main_arg4))) := by
  refine (dats m 0 c).arrAt_eq_of_covers 6 _ (by decide +kernel) fun t hf y => ?_
  have hrow : ((((cfg0.win 6).blk t).view.emb y) 0 : ℕ) = t.val := by
    blk_point [blocks t]
  have hN := lt_of_lt_of_eq t.isLt N_0
  blk_simp
  rw [after0_6]
  by_cases h : t.val % 2 = 0
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val < 1) (hrow.symm.trans_lt z)]
    simp only [Fin.sum_univ_eight]
    have hb := blocks1 t h
    blk_point [iblk, V, blocks t, hb]

/-- The new first moment. -/
theorem result7 (c : Dev nD) : (dats m 0 c).arrAt 7 (cfgs 0).N = (wantM (wantG (m ((c : Thread nD τ).loc main_arg0)) (m ((c : Thread nD τ).loc main_arg1))) (m ((c : Thread nD τ).loc main_arg3))) := by
  refine (dats m 0 c).arrAt_eq_of_covers 7 _ (by decide +kernel) fun t hf y => ?_
  have hrow : ((((cfg0.win 7).blk t).view.emb y) 0 : ℕ) = t.val := by
    blk_point [blocks t]
  have hN := lt_of_lt_of_eq t.isLt N_0
  blk_simp
  rw [after0_7]
  by_cases h : t.val % 2 = 0
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val < 1) (hrow.symm.trans_lt z)]
    simp only [Fin.sum_univ_eight]
    have hb := blocks1 t h
    blk_point [iblk, V, blocks t, hb]

/-- The new second moment. -/
theorem result8 (c : Dev nD) : (dats m 0 c).arrAt 8 (cfgs 0).N = (wantV (wantG (m ((c : Thread nD τ).loc main_arg0)) (m ((c : Thread nD τ).loc main_arg1))) (m ((c : Thread nD τ).loc main_arg4))) := by
  refine (dats m 0 c).arrAt_eq_of_covers 8 _ (by decide +kernel) fun t hf y => ?_
  have hrow : ((((cfg0.win 8).blk t).view.emb y) 0 : ℕ) = t.val := by
    blk_point [blocks t]
  have hN := lt_of_lt_of_eq t.isLt N_0
  blk_simp
  rw [after0_8]
  by_cases h : t.val % 2 = 0
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val < 1) (hrow.symm.trans_lt z)]
    simp only [Fin.sum_univ_eight]
    have hb := blocks1 t h
    blk_point [iblk, V, blocks t, hb]

end Cert.Kernel11Ideal.Update

end
-- ==== Proof.AdamOut.lean ====
module

public import proofs.«01_k».proof.Proof.Gen.Kernel12Ideal.Frame
public import proofs.«01_k».proof.Proof.Gen.Reference12Ideal
public import Idealize.ShloMosaic.Lib.Pipeline.ValueKit
public import Idealize.ShloMosaic.Lib.Claim
public import Idealize.ShloMosaic.PureOps.Ideal

@[expose] public section

/-! The optimiser's step on the output projection. -/

set_option maxRecDepth 16384

noncomputable section

open Idealize.ShloMosaic Idealize.ShloMosaic.TcCoe Idealize.SL.Sem
open Idealize.ShloMosaic.Pipeline (Dat)

namespace Cert.Kernel12Ideal.Update
open Cert.Kernel12Ideal Cert.Kernel12Ideal.Gen

variable (m : (ℓ : Loc nD τ sig) → Buf (Elt Ideal) ℓ)

/-- The block of the state's windows at a grid point. -/
theorem blocks : ∀ t : Fin cfg0.N, win0_2.index t = ![t.val / 2, t.val % 2, 0]
    ∧ win0_3.index t = ![t.val / 2, t.val % 2, 0] ∧ win0_4.index t = ![t.val / 2, t.val % 2, 0] ∧ win0_5.index t = ![t.val / 2, t.val % 2, 0]
    ∧ win0_6.index t = ![t.val / 2, t.val % 2, 0] ∧ win0_7.index t = ![t.val / 2, t.val % 2, 0] ∧ win0_8.index t = ![t.val / 2, t.val % 2, 0] :=
  (by decide +kernel : ∀ t : Fin grid0.N, _)

/-- The block of the first layer's gradients while that layer is updated. -/
theorem blocks0 : ∀ t : Fin cfg0.N, t.val < 2 → win0_0.index t = ![0, t.val, 0] :=
  (by decide +kernel : ∀ t : Fin grid0.N, _)

/-- The block of the second layer's gradients while that layer is updated. -/
theorem blocks1 : ∀ t : Fin cfg0.N, ¬t.val < 2 → win0_1.index t = ![0, t.val - 2, 0] :=
  (by decide +kernel : ∀ t : Fin grid0.N, _)

/-- One layer's gradients, summed over the devices. -/
abbrev wantL (l : FVec Ideal Cert.Reference12Ideal.S8x256x2048 .bf16) : FVec Ideal Cert.Reference12Ideal.S1x256x2048 .f32 :=
  broadcastInDim Cert.Reference12Ideal.S1x256x2048 ![1, 2] Cert.Reference12Ideal.Gen.bcast_S256x2048_S1x256x2048_1_2
    (Host.reduceAdd (extf .f32 l Cert.Reference12Ideal.Gen.bitsLt_bf16_f32) (constant Cert.Reference12Ideal.S_ .f32 0x00000000#32) Cert.Reference12Ideal.Gen.reducesTo_S8x256x2048_S256x2048_d0 Cert.Reference12Ideal.Gen.h_S_)

/-- The two layers' summed gradients. -/
def wantG (l0 l1 : FVec Ideal Cert.Reference12Ideal.S8x256x2048 .bf16) : FVec Ideal Cert.Reference12Ideal.S2x256x2048 .f32 :=
  concatenate Cert.Reference12Ideal.S2x256x2048 0 [⟨Cert.Reference12Ideal.S1x256x2048, wantL l0⟩, ⟨Cert.Reference12Ideal.S1x256x2048, wantL l1⟩] Cert.Reference12Ideal.Gen.concatenates_S1x256x2048_S1x256x2048_S2x256x2048_d0

/-- The new first moment. -/
abbrev wantM (g a : FVec Ideal Cert.Reference12Ideal.S2x256x2048 .f32) : FVec Ideal Cert.Reference12Ideal.S2x256x2048 .f32 := addf (mulf (broadcastInDim Cert.Reference12Ideal.S2x256x2048 ![] Cert.Reference12Ideal.Gen.bcast_S_S2x256x2048 (constant Cert.Reference12Ideal.S_ .f32 0x3F666666#32)) a) (mulf (broadcastInDim Cert.Reference12Ideal.S2x256x2048 ![] Cert.Reference12Ideal.Gen.bcast_S_S2x256x2048 (constant Cert.Reference12Ideal.S_ .f32 0x3DCCCCCD#32)) g)

/-- The new second moment. -/
abbrev wantV (g b : FVec Ideal Cert.Reference12Ideal.S2x256x2048 .f32) : FVec Ideal Cert.Reference12Ideal.S2x256x2048 .f32 := addf (mulf (broadcastInDim Cert.Reference12Ideal.S2x256x2048 ![] Cert.Reference12Ideal.Gen.bcast_S_S2x256x2048 (constant Cert.Reference12Ideal.S_ .f32 0x3F7FBE77#32)) b) (mulf (broadcastInDim Cert.Reference12Ideal.S2x256x2048 ![] Cert.Reference12Ideal.Gen.bcast_S_S2x256x2048 (constant Cert.Reference12Ideal.S_ .f32 0x3A83126F#32)) (mulf g g))

/-- The weights' change. -/
abbrev wantD (g w a b : FVec Ideal Cert.Reference12Ideal.S2x256x2048 .f32) : FVec Ideal Cert.Reference12Ideal.S2x256x2048 .f32 :=
  mulf (broadcastInDim Cert.Reference12Ideal.S2x256x2048 ![] Cert.Reference12Ideal.Gen.bcast_S_S2x256x2048 (constant Cert.Reference12Ideal.S_ .f32 0xBA83126F#32)) (addf (Host.divf (Host.divf (wantM g a) (broadcastInDim Cert.Reference12Ideal.S2x256x2048 ![] Cert.Reference12Ideal.Gen.bcast_S_S2x256x2048 (constant Cert.Reference12Ideal.S_ .f32 0x3F26BD02#32)))
    (addf (Host.sqrt (Host.divf (wantV g b) (broadcastInDim Cert.Reference12Ideal.S2x256x2048 ![] Cert.Reference12Ideal.Gen.bcast_S_S2x256x2048 (constant Cert.Reference12Ideal.S_ .f32 0x3C231ACC#32)))) (broadcastInDim Cert.Reference12Ideal.S2x256x2048 ![] Cert.Reference12Ideal.Gen.bcast_S_S2x256x2048 (constant Cert.Reference12Ideal.S_ .f32 0x322BCC77#32)))) (mulf (broadcastInDim Cert.Reference12Ideal.S2x256x2048 ![] Cert.Reference12Ideal.Gen.bcast_S_S2x256x2048 (constant Cert.Reference12Ideal.S_ .f32 0x3C23D70A#32)) w))

/-- At the first layer's places it is the first layer's sum. -/
theorem wantG_lo (l0 l1 : FVec Ideal Cert.Reference12Ideal.S8x256x2048 .bf16) (i : Cert.Reference12Ideal.S2x256x2048.Idx) (h : (i 0 : ℕ) < 1) : wantG l0 l1 i = ∑ x, l0 (ix3 x (i 1) (i 2)) := by
  pointwise [wantG, wantL]
  rw [dif_pos h]

/-- At the second layer's places it is the second layer's sum. -/
theorem wantG_hi (l0 l1 : FVec Ideal Cert.Reference12Ideal.S8x256x2048 .bf16) (i : Cert.Reference12Ideal.S2x256x2048.Idx) (h : ¬(i 0 : ℕ) < 1) : wantG l0 l1 i = ∑ x, l1 (ix3 x (i 1) (i 2)) := by
  pointwise [wantG, wantL]
  rw [dif_neg h]

/-- The summed gradients. -/
theorem result5 (c : Dev nD) : (dats m 0 c).arrAt 5 (cfgs 0).N = (wantG (m ((c : Thread nD τ).loc main_arg0)) (m ((c : Thread nD τ).loc main_arg1))) := by
  refine (dats m 0 c).arrAt_eq_of_covers 5 _ (by decide +kernel) fun t hf y => ?_
  have hrow : ((((cfg0.win 5).blk t).view.emb y) 0 : ℕ) = t.val / 2 := by
    blk_point [blocks t]
  have hN := lt_of_lt_of_eq t.isLt N_0
  blk_simp
  rw [after0_5]
  by_cases h : t.val < 2
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val / 2 < 1) (hrow.symm.trans_lt z)]
    simp only [Fin.sum_univ_eight]
    have hb := blocks1 t h
    blk_point [iblk, V, blocks t, hb]

/-- The weights' change. -/
theorem result6 (c : Dev nD) : (dats m 0 c).arrAt 6 (cfgs 0).N = (wantD (wantG (m ((c : Thread nD τ).loc main_arg0)) (m ((c : Thread nD τ).loc main_arg1))) (m ((c : Thread nD τ).loc main_arg2)) (m ((c : Thread nD τ).loc main_arg3)) (m ((c : Thread nD τ).loc main_arg4))) := by
  refine (dats m 0 c).arrAt_eq_of_covers 6 _ (by decide +kernel) fun t hf y => ?_
  have hrow : ((((cfg0.win 6).blk t).view.emb y) 0 : ℕ) = t.val / 2 := by
    blk_point [blocks t]
  have hN := lt_of_lt_of_eq t.isLt N_0
  blk_simp
  rw [after0_6]
  by_cases h : t.val < 2
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val / 2 < 1) (hrow.symm.trans_lt z)]
    simp only [Fin.sum_univ_eight]
    have hb := blocks1 t h
    blk_point [iblk, V, blocks t, hb]

/-- The new first moment. -/
theorem result7 (c : Dev nD) : (dats m 0 c).arrAt 7 (cfgs 0).N = (wantM (wantG (m ((c : Thread nD τ).loc main_arg0)) (m ((c : Thread nD τ).loc main_arg1))) (m ((c : Thread nD τ).loc main_arg3))) := by
  refine (dats m 0 c).arrAt_eq_of_covers 7 _ (by decide +kernel) fun t hf y => ?_
  have hrow : ((((cfg0.win 7).blk t).view.emb y) 0 : ℕ) = t.val / 2 := by
    blk_point [blocks t]
  have hN := lt_of_lt_of_eq t.isLt N_0
  blk_simp
  rw [after0_7]
  by_cases h : t.val < 2
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val / 2 < 1) (hrow.symm.trans_lt z)]
    simp only [Fin.sum_univ_eight]
    have hb := blocks1 t h
    blk_point [iblk, V, blocks t, hb]

/-- The new second moment. -/
theorem result8 (c : Dev nD) : (dats m 0 c).arrAt 8 (cfgs 0).N = (wantV (wantG (m ((c : Thread nD τ).loc main_arg0)) (m ((c : Thread nD τ).loc main_arg1))) (m ((c : Thread nD τ).loc main_arg4))) := by
  refine (dats m 0 c).arrAt_eq_of_covers 8 _ (by decide +kernel) fun t hf y => ?_
  have hrow : ((((cfg0.win 8).blk t).view.emb y) 0 : ℕ) = t.val / 2 := by
    blk_point [blocks t]
  have hN := lt_of_lt_of_eq t.isLt N_0
  blk_simp
  rw [after0_8]
  by_cases h : t.val < 2
  · rw [outsAt0_A m c t h (by omega)]
    dsimp only
    frame_out
    pointwise [k0_pay1, k0_pay2, k0_pay3, k0_pay4, k0_pay5, k0_pay6, k0_pay7, k0_pay8, wantD, wantM, wantV]
    rw [wantG_lo _ _ _ (hrow.trans_lt (by omega))]
    simp only [Fin.sum_univ_eight]
    have hb := blocks0 t h
    blk_point [iblk, V, blocks t, hb]
  · rw [outsAt0_B m c t h (by omega)]
    dsimp only
    frame_out
    pointwise [k0_pay1, k0_pay2, k0_pay3, k0_pay4, k0_pay5, k0_pay6, k0_pay7, k0_pay8, wantD, wantM, wantV]
    rw [wantG_hi _ _ _ fun z => (by omega : ¬t.val / 2 < 1) (hrow.symm.trans_lt z)]
    simp only [Fin.sum_univ_eight]
    have hb := blocks1 t h
    blk_point [iblk, V, blocks t, hb]

end Cert.Kernel12Ideal.Update

end
-- ==== Proof.AdamSmall.lean ====
module

public import proofs.«01_k».proof.Proof.Gen.Kernel13Ideal.Frame
public import proofs.«01_k».proof.Proof.Gen.Reference13Ideal
public import Idealize.ShloMosaic.Lib.Pipeline.ValueKit
public import Idealize.ShloMosaic.Lib.Claim
public import Idealize.ShloMosaic.PureOps.Ideal

@[expose] public section

/-! The optimiser's step on the small weights, packed in rows. -/

set_option maxRecDepth 16384

noncomputable section

open Idealize.ShloMosaic Idealize.ShloMosaic.TcCoe Idealize.SL.Sem
open Idealize.ShloMosaic.Pipeline (Dat)

namespace Cert.Kernel13Ideal.Update
open Cert.Kernel13Ideal Cert.Kernel13Ideal.Gen

variable (m : (ℓ : Loc nD τ sig) → Buf (Elt Ideal) ℓ)

/-- The block of every window at a grid point. -/
theorem blocks : ∀ t : Fin cfg0.N, win0_0.index t = ![0, t.val, 0]
    ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The sum over the devices. -/
abbrev wantG (l : FVec Ideal Cert.Reference13Ideal.S8x1176x128 .f32) : FVec Ideal Cert.Reference13Ideal.S1176x128 .f32 :=
  Host.reduceAdd l (constant Cert.Reference13Ideal.S_ .f32 0x00000000#32) Cert.Reference13Ideal.Gen.reducesTo_S8x1176x128_S1176x128_d0 Cert.Reference13Ideal.Gen.h_S_

/-- The new first moment. -/
abbrev wantM (g a : FVec Ideal Cert.Reference13Ideal.S1176x128 .f32) : FVec Ideal Cert.Reference13Ideal.S1176x128 .f32 := addf (mulf (broadcastInDim Cert.Reference13Ideal.S1176x128 ![] Cert.Reference13Ideal.Gen.bcast_S_S1176x128 (constant Cert.Reference13Ideal.S_ .f32 0x3F666666#32)) a) (mulf (broadcastInDim Cert.Reference13Ideal.S1176x128 ![] Cert.Reference13Ideal.Gen.bcast_S_S1176x128 (constant Cert.Reference13Ideal.S_ .f32 0x3DCCCCCD#32)) g)

/-- The new second moment. -/
abbrev wantV (g b : FVec Ideal Cert.Reference13Ideal.S1176x128 .f32) : FVec Ideal Cert.Reference13Ideal.S1176x128 .f32 := addf (mulf (broadcastInDim Cert.Reference13Ideal.S1176x128 ![] Cert.Reference13Ideal.Gen.bcast_S_S1176x128 (constant Cert.Reference13Ideal.S_ .f32 0x3F7FBE77#32)) b) (mulf (broadcastInDim Cert.Reference13Ideal.S1176x128 ![] Cert.Reference13Ideal.Gen.bcast_S_S1176x128 (constant Cert.Reference13Ideal.S_ .f32 0x3A83126F#32)) (mulf g g))

/-- The weights' change. -/
abbrev wantD (g w a b : FVec Ideal Cert.Reference13Ideal.S1176x128 .f32) : FVec Ideal Cert.Reference13Ideal.S1176x128 .f32 :=
  mulf (broadcastInDim Cert.Reference13Ideal.S1176x128 ![] Cert.Reference13Ideal.Gen.bcast_S_S1176x128 (constant Cert.Reference13Ideal.S_ .f32 0xBA83126F#32)) (addf (Host.divf (Host.divf (wantM g a) (broadcastInDim Cert.Reference13Ideal.S1176x128 ![] Cert.Reference13Ideal.Gen.bcast_S_S1176x128 (constant Cert.Reference13Ideal.S_ .f32 0x3F26BD02#32)))
    (addf (Host.sqrt (Host.divf (wantV g b) (broadcastInDim Cert.Reference13Ideal.S1176x128 ![] Cert.Reference13Ideal.Gen.bcast_S_S1176x128 (constant Cert.Reference13Ideal.S_ .f32 0x3C231ACC#32)))) (broadcastInDim Cert.Reference13Ideal.S1176x128 ![] Cert.Reference13Ideal.Gen.bcast_S_S1176x128 (constant Cert.Reference13Ideal.S_ .f32 0x322BCC77#32)))) (mulf (broadcastInDim Cert.Reference13Ideal.S1176x128 ![] Cert.Reference13Ideal.Gen.bcast_S_S1176x128 (constant Cert.Reference13Ideal.S_ .f32 0x3C23D70A#32)) w))

/-- A result with its leading axis. -/
abbrev lead (x : FVec Ideal Cert.Reference13Ideal.S1176x128 .f32) : FVec Ideal Cert.Reference13Ideal.S1x1176x128 .f32 :=
  broadcastInDim Cert.Reference13Ideal.S1x1176x128 ![1, 2] Cert.Reference13Ideal.Gen.bcast_S1176x128_S1x1176x128_1_2 x

/-- The summed gradient. -/
theorem result4 (c : Dev nD) : (dats m 0 c).arrAt 4 (cfgs 0).N = lead (wantG (m ((c : Thread nD τ).loc main_arg0))) := by
  refine (dats m 0 c).arrAt_eq_of_covers 4 _ (by decide +kernel) fun t hf y => ?_
  blk_simp
  rw [after0_4]
  unfold outsAt0
  dsimp only
  frame_out
  pointwise [k0_pay1, k0_pay2, k0_pay3, k0_pay4, k0_pay5, k0_pay6, k0_pay7, k0_pay8, lead, wantD, wantM, wantV, wantG]
  simp only [Fin.sum_univ_eight]
  blk_point [iblk, V, blocks t]

/-- The weights' change. -/
theorem result5 (c : Dev nD) : (dats m 0 c).arrAt 5 (cfgs 0).N = lead (wantD (wantG (m ((c : Thread nD τ).loc main_arg0))) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp
  rw [after0_5]
  unfold outsAt0
  dsimp only
  frame_out
  pointwise [k0_pay1, k0_pay2, k0_pay3, k0_pay4, k0_pay5, k0_pay6, k0_pay7, k0_pay8, lead, wantD, wantM, wantV, wantG]
  simp only [Fin.sum_univ_eight]
  blk_point [iblk, V, blocks t]

/-- The new first moment. -/
theorem result6 (c : Dev nD) : (dats m 0 c).arrAt 6 (cfgs 0).N = lead (wantM (wantG (m ((c : Thread nD τ).loc main_arg0))) (m ((c : Thread nD τ).loc main_arg2))) := by
  refine (dats m 0 c).arrAt_eq_of_covers 6 _ (by decide +kernel) fun t hf y => ?_
  blk_simp
  rw [after0_6]
  unfold outsAt0
  dsimp only
  frame_out
  pointwise [k0_pay1, k0_pay2, k0_pay3, k0_pay4, k0_pay5, k0_pay6, k0_pay7, k0_pay8, lead, wantD, wantM, wantV, wantG]
  simp only [Fin.sum_univ_eight]
  blk_point [iblk, V, blocks t]

/-- The new second moment. -/
theorem result7 (c : Dev nD) : (dats m 0 c).arrAt 7 (cfgs 0).N = lead (wantV (wantG (m ((c : Thread nD τ).loc main_arg0))) (m ((c : Thread nD τ).loc main_arg3))) := by
  refine (dats m 0 c).arrAt_eq_of_covers 7 _ (by decide +kernel) fun t hf y => ?_
  blk_simp
  rw [after0_7]
  unfold outsAt0
  dsimp only
  frame_out
  pointwise [k0_pay1, k0_pay2, k0_pay3, k0_pay4, k0_pay5, k0_pay6, k0_pay7, k0_pay8, lead, wantD, wantM, wantV, wantG]
  simp only [Fin.sum_univ_eight]
  blk_point [iblk, V, blocks t]

end Cert.Kernel13Ideal.Update

end
-- ==== Proof.AdamConv.lean ====
module

public import proofs.«01_k».proof.Proof.Gen.Kernel14Ideal.Frame
public import proofs.«01_k».proof.Proof.Gen.Reference14Ideal
public import Idealize.ShloMosaic.Lib.Pipeline.ValueKit
public import Idealize.ShloMosaic.Lib.Claim
public import Idealize.ShloMosaic.PureOps.Ideal

@[expose] public section

/-! The optimiser's step on the convolution's weights. -/

set_option maxRecDepth 16384

noncomputable section

open Idealize.ShloMosaic Idealize.ShloMosaic.TcCoe Idealize.SL.Sem
open Idealize.ShloMosaic.Pipeline (Dat)

namespace Cert.Kernel14Ideal.Update
open Cert.Kernel14Ideal Cert.Kernel14Ideal.Gen

variable (m : (ℓ : Loc nD τ sig) → Buf (Elt Ideal) ℓ)

/-- The block of every window at a grid point. -/
theorem blocks : ∀ t : Fin cfg0.N, win0_0.index t = ![0, 0, 0]
    ∧ win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0] :=
  (by decide +kernel : ∀ t : Fin grid0.N, _)

/-- The sum over the devices. -/
abbrev wantG (l : FVec Ideal Cert.Reference14Ideal.S8x8x128 .f32) : FVec Ideal Cert.Reference14Ideal.S8x128 .f32 :=
  Host.reduceAdd l (constant Cert.Reference14Ideal.S_ .f32 0x00000000#32) Cert.Reference14Ideal.Gen.reducesTo_S8x8x128_S8x128_d0 Cert.Reference14Ideal.Gen.h_S_

/-- The new first moment. -/
abbrev wantM (g a : FVec Ideal Cert.Reference14Ideal.S8x128 .f32) : FVec Ideal Cert.Reference14Ideal.S8x128 .f32 := addf (mulf (broadcastInDim Cert.Reference14Ideal.S8x128 ![] Cert.Reference14Ideal.Gen.bcast_S_S8x128 (constant Cert.Reference14Ideal.S_ .f32 0x3F666666#32)) a) (mulf (broadcastInDim Cert.Reference14Ideal.S8x128 ![] Cert.Reference14Ideal.Gen.bcast_S_S8x128 (constant Cert.Reference14Ideal.S_ .f32 0x3DCCCCCD#32)) g)

/-- The new second moment. -/
abbrev wantV (g b : FVec Ideal Cert.Reference14Ideal.S8x128 .f32) : FVec Ideal Cert.Reference14Ideal.S8x128 .f32 := addf (mulf (broadcastInDim Cert.Reference14Ideal.S8x128 ![] Cert.Reference14Ideal.Gen.bcast_S_S8x128 (constant Cert.Reference14Ideal.S_ .f32 0x3F7FBE77#32)) b) (mulf (broadcastInDim Cert.Reference14Ideal.S8x128 ![] Cert.Reference14Ideal.Gen.bcast_S_S8x128 (constant Cert.Reference14Ideal.S_ .f32 0x3A83126F#32)) (mulf g g))

/-- The weights' change. -/
abbrev wantD (g w a b : FVec Ideal Cert.Reference14Ideal.S8x128 .f32) : FVec Ideal Cert.Reference14Ideal.S8x128 .f32 :=
  mulf (broadcastInDim Cert.Reference14Ideal.S8x128 ![] Cert.Reference14Ideal.Gen.bcast_S_S8x128 (constant Cert.Reference14Ideal.S_ .f32 0xBA83126F#32)) (addf (Host.divf (Host.divf (wantM g a) (broadcastInDim Cert.Reference14Ideal.S8x128 ![] Cert.Reference14Ideal.Gen.bcast_S_S8x128 (constant Cert.Reference14Ideal.S_ .f32 0x3F26BD02#32)))
    (addf (Host.sqrt (Host.divf (wantV g b) (broadcastInDim Cert.Reference14Ideal.S8x128 ![] Cert.Reference14Ideal.Gen.bcast_S_S8x128 (constant Cert.Reference14Ideal.S_ .f32 0x3C231ACC#32)))) (broadcastInDim Cert.Reference14Ideal.S8x128 ![] Cert.Reference14Ideal.Gen.bcast_S_S8x128 (constant Cert.Reference14Ideal.S_ .f32 0x322BCC77#32)))) (mulf (broadcastInDim Cert.Reference14Ideal.S8x128 ![] Cert.Reference14Ideal.Gen.bcast_S_S8x128 (constant Cert.Reference14Ideal.S_ .f32 0x3C23D70A#32)) w))

/-- A result with its leading axis. -/
abbrev lead (x : FVec Ideal Cert.Reference14Ideal.S8x128 .f32) : FVec Ideal Cert.Reference14Ideal.S1x8x128 .f32 :=
  broadcastInDim Cert.Reference14Ideal.S1x8x128 ![1, 2] Cert.Reference14Ideal.Gen.bcast_S8x128_S1x8x128_1_2 x

/-- The summed gradient. -/
theorem result4 (c : Dev nD) : (dats m 0 c).arrAt 4 (cfgs 0).N = lead (wantG (m ((c : Thread nD τ).loc main_arg0))) := by
  refine (dats m 0 c).arrAt_eq_of_covers 4 _ (by decide +kernel) fun t hf y => ?_
  blk_simp
  rw [after0_4]
  unfold outsAt0
  dsimp only
  frame_out
  pointwise [k0_pay1, k0_pay2, k0_pay3, k0_pay4, k0_pay5, k0_pay6, k0_pay7, k0_pay8, lead, wantD, wantM, wantV, wantG]
  simp only [Fin.sum_univ_eight]
  blk_point [iblk, V, blocks t]

/-- The weights' change. -/
theorem result5 (c : Dev nD) : (dats m 0 c).arrAt 5 (cfgs 0).N = lead (wantD (wantG (m ((c : Thread nD τ).loc main_arg0))) (m ((c : Thread nD τ).loc main_arg1)) (m ((c : Thread nD τ).loc main_arg2)) (m ((c : Thread nD τ).loc main_arg3))) := by
  refine (dats m 0 c).arrAt_eq_of_covers 5 _ (by decide +kernel) fun t hf y => ?_
  blk_simp
  rw [after0_5]
  unfold outsAt0
  dsimp only
  frame_out
  pointwise [k0_pay1, k0_pay2, k0_pay3, k0_pay4, k0_pay5, k0_pay6, k0_pay7, k0_pay8, lead, wantD, wantM, wantV, wantG]
  simp only [Fin.sum_univ_eight]
  blk_point [iblk, V, blocks t]

/-- The new first moment. -/
theorem result6 (c : Dev nD) : (dats m 0 c).arrAt 6 (cfgs 0).N = lead (wantM (wantG (m ((c : Thread nD τ).loc main_arg0))) (m ((c : Thread nD τ).loc main_arg2))) := by
  refine (dats m 0 c).arrAt_eq_of_covers 6 _ (by decide +kernel) fun t hf y => ?_
  blk_simp
  rw [after0_6]
  unfold outsAt0
  dsimp only
  frame_out
  pointwise [k0_pay1, k0_pay2, k0_pay3, k0_pay4, k0_pay5, k0_pay6, k0_pay7, k0_pay8, lead, wantD, wantM, wantV, wantG]
  simp only [Fin.sum_univ_eight]
  blk_point [iblk, V, blocks t]

/-- The new second moment. -/
theorem result7 (c : Dev nD) : (dats m 0 c).arrAt 7 (cfgs 0).N = lead (wantV (wantG (m ((c : Thread nD τ).loc main_arg0))) (m ((c : Thread nD τ).loc main_arg3))) := by
  refine (dats m 0 c).arrAt_eq_of_covers 7 _ (by decide +kernel) fun t hf y => ?_
  blk_simp
  rw [after0_7]
  unfold outsAt0
  dsimp only
  frame_out
  pointwise [k0_pay1, k0_pay2, k0_pay3, k0_pay4, k0_pay5, k0_pay6, k0_pay7, k0_pay8, lead, wantD, wantM, wantV, wantG]
  simp only [Fin.sum_univ_eight]
  blk_point [iblk, V, blocks t]

end Cert.Kernel14Ideal.Update

end
-- ==== Proof.AdamIn.lean ====
module

public import proofs.«01_k».proof.Proof.Gen.Kernel15Ideal.Frame
public import proofs.«01_k».proof.Proof.Gen.Reference15Ideal
public import Idealize.ShloMosaic.Lib.Pipeline.ValueKit
public import Idealize.ShloMosaic.Lib.Claim
public import Idealize.ShloMosaic.PureOps.Ideal

@[expose] public section

/-! The optimiser's step on the input projection's weights: the first layer's call, which writes beside the second layer's results. -/

set_option maxRecDepth 16384

noncomputable section

open Idealize.ShloMosaic Idealize.ShloMosaic.TcCoe Idealize.SL.Sem
open Idealize.ShloMosaic.Pipeline (Dat)

namespace Cert.Kernel15Ideal.Update
open Cert.Kernel15Ideal Cert.Kernel15Ideal.Gen

variable (m : (ℓ : Loc nD τ sig) → Buf (Elt Ideal) ℓ)

/-- The block of every window at a grid point. -/
theorem blocks : ∀ t : Fin cfg0.N, win0_0.index t = ![0, 0, t.val]
    ∧ win0_1.index t = ![0, 0, t.val] ∧ win0_2.index t = ![0, 0, t.val] ∧ win0_3.index t = ![0, 0, t.val]
    ∧ win0_4.index t = ![0, 0, t.val] ∧ win0_5.index t = ![0, 0, t.val] ∧ win0_6.index t = ![0, 0, t.val] ∧ win0_7.index t = ![0, 0, t.val] :=
  (by decide +kernel : ∀ t : Fin grid0.N, _)

/-- The sum over the devices. -/
abbrev wantG (l : FVec Ideal Cert.Reference15Ideal.S8x616x2048 .bf16) : FVec Ideal Cert.Reference15Ideal.S2048x616 .f32 :=
  transpose Cert.Reference15Ideal.S2048x616 [1, 0] (Host.reduceAdd (extf .f32 l Cert.Reference15Ideal.Gen.bitsLt_bf16_f32) (constant Cert.Reference15Ideal.S_ .f32 0x00000000#32)
    Cert.Reference15Ideal.Gen.reducesTo_S8x616x2048_S616x2048_d0 Cert.Reference15Ideal.Gen.h_S_) Cert.Reference15Ideal.Gen.transposes_S616x2048_S2048x616_1_0

/-- The first layer of an array over the layers. -/
abbrev first (x : FVec Ideal Cert.Reference15Ideal.S2x2048x616 .f32) : FVec Ideal Cert.Reference15Ideal.S2048x616 .f32 :=
  shapeCast _ (extractStridedSlice Cert.Reference15Ideal.S1x2048x616 ![0, 0, 0] x Cert.Reference15Ideal.Gen.slices_S2x2048x616_S1x2048x616_0_0_0) Cert.Reference15Ideal.Gen.shapeCasts_S1x2048x616_S2048x616

/-- The new first moment. -/
abbrev wantM (g a : FVec Ideal Cert.Reference15Ideal.S2048x616 .f32) : FVec Ideal Cert.Reference15Ideal.S2048x616 .f32 := addf (mulf (broadcastInDim Cert.Reference15Ideal.S2048x616 ![] Cert.Reference15Ideal.Gen.bcast_S_S2048x616 (constant Cert.Reference15Ideal.S_ .f32 0x3F666666#32)) a) (mulf (broadcastInDim Cert.Reference15Ideal.S2048x616 ![] Cert.Reference15Ideal.Gen.bcast_S_S2048x616 (constant Cert.Reference15Ideal.S_ .f32 0x3DCCCCCD#32)) g)

/-- The new second moment. -/
abbrev wantV (g b : FVec Ideal Cert.Reference15Ideal.S2048x616 .f32) : FVec Ideal Cert.Reference15Ideal.S2048x616 .f32 := addf (mulf (broadcastInDim Cert.Reference15Ideal.S2048x616 ![] Cert.Reference15Ideal.Gen.bcast_S_S2048x616 (constant Cert.Reference15Ideal.S_ .f32 0x3F7FBE77#32)) b) (mulf (broadcastInDim Cert.Reference15Ideal.S2048x616 ![] Cert.Reference15Ideal.Gen.bcast_S_S2048x616 (constant Cert.Reference15Ideal.S_ .f32 0x3A83126F#32)) (mulf g g))

/-- The weights' change. -/
abbrev wantD (g w a b : FVec Ideal Cert.Reference15Ideal.S2048x616 .f32) : FVec Ideal Cert.Reference15Ideal.S2048x616 .f32 :=
  mulf (broadcastInDim Cert.Reference15Ideal.S2048x616 ![] Cert.Reference15Ideal.Gen.bcast_S_S2048x616 (constant Cert.Reference15Ideal.S_ .f32 0xBA83126F#32)) (addf (Host.divf (Host.divf (wantM g a) (broadcastInDim Cert.Reference15Ideal.S2048x616 ![] Cert.Reference15Ideal.Gen.bcast_S_S2048x616 (constant Cert.Reference15Ideal.S_ .f32 0x3F26BD02#32)))
    (addf (Host.sqrt (Host.divf (wantV g b) (broadcastInDim Cert.Reference15Ideal.S2048x616 ![] Cert.Reference15Ideal.Gen.bcast_S_S2048x616 (constant Cert.Reference15Ideal.S_ .f32 0x3C231ACC#32)))) (broadcastInDim Cert.Reference15Ideal.S2048x616 ![] Cert.Reference15Ideal.Gen.bcast_S_S2048x616 (constant Cert.Reference15Ideal.S_ .f32 0x322BCC77#32)))) (mulf (broadcastInDim Cert.Reference15Ideal.S2048x616 ![] Cert.Reference15Ideal.Gen.bcast_S_S2048x616 (constant Cert.Reference15Ideal.S_ .f32 0x3C23D70A#32)) w))

/-- The first layer's result with the second layer's, as it was. -/
def join (x : FVec Ideal Cert.Reference15Ideal.S2048x616 .f32) (b : FVec Ideal Cert.Reference15Ideal.S2x616x2048 .f32) : FVec Ideal Cert.Reference15Ideal.S2x616x2048 .f32 :=
  concatenate Cert.Reference15Ideal.S2x616x2048 0
    [⟨Cert.Reference15Ideal.S1x616x2048, broadcastInDim Cert.Reference15Ideal.S1x616x2048 ![1, 2] Cert.Reference15Ideal.Gen.bcast_S616x2048_S1x616x2048_1_2
        (transpose Cert.Reference15Ideal.S616x2048 [1, 0] x Cert.Reference15Ideal.Gen.transposes_S2048x616_S616x2048_1_0)⟩,
      ⟨Cert.Reference15Ideal.S1x616x2048, broadcastInDim Cert.Reference15Ideal.S1x616x2048 ![1, 2] Cert.Reference15Ideal.Gen.bcast_S616x2048_S1x616x2048_1_2
        (shapeCast _ (extractStridedSlice Cert.Reference15Ideal.S1x616x2048 ![1, 0, 0] b Cert.Reference15Ideal.Gen.slices_S2x616x2048_S1x616x2048_1_0_0) Cert.Reference15Ideal.Gen.shapeCasts_S1x616x2048_S616x2048)⟩]
    Cert.Reference15Ideal.Gen.concatenates_S1x616x2048_S1x616x2048_S2x616x2048_d0

/-- At the first layer's places it is the new result. -/
theorem join_lo (x : FVec Ideal Cert.Reference15Ideal.S2048x616 .f32) (b : FVec Ideal Cert.Reference15Ideal.S2x616x2048 .f32) (i : Cert.Reference15Ideal.S2x616x2048.Idx) (h : (i 0 : ℕ) < 1) : join x b i = x (ix2 (i 2) (i 1)) := by
  pointwise [join]
  rw [dif_pos h]

/-- At the second layer's places it is the result as it was. -/
theorem join_hi (x : FVec Ideal Cert.Reference15Ideal.S2048x616 .f32) (b : FVec Ideal Cert.Reference15Ideal.S2x616x2048 .f32) (i : Cert.Reference15Ideal.S2x616x2048.Idx) (h : ¬(i 0 : ℕ) < 1) : join x b i = b i := by
  pointwise [join]
  rw [dif_neg h]
  have := (i 0).isLt
  blk_point

/-- The summed gradient. -/
theorem result4 (c : Dev nD) : (dats m 0 c).arrAt 4 (cfgs 0).N = join (wantG (m ((c : Thread nD τ).loc main_arg0))) (m ((c : Thread nD τ).loc main_arg4)) := by
  refine (dats m 0 c).arrAt_eq_of_coversWhere_of_agree 4 _ (fun β => β (0 : Fin _) < 1) (by decide +kernel) (fun t hf y => ?_) (fun j hj => ?_)
  · have hrow : ((((cfg0.win 4).blk t).view.emb y) 0 : ℕ) = 0 := by
      blk_point [blocks t]
    blk_simp
    rw [after0_4]
    unfold outsAt0
    dsimp only
    frame_out
    rw [join_lo _ _ _ (hrow.trans_lt (by omega))]
    pointwise [k0_pay1, k0_pay2, k0_pay3, k0_pay4, k0_pay5, k0_pay6, k0_pay7, k0_pay8, first, wantD, wantM, wantV, wantG]
    simp only [Fin.sum_univ_eight]
    blk_point [iblk, V, blocks t]
  · rw [A_eq]
    refine Eq.trans ?_ (join_hi _ _ _ fun z => hj ?_).symm
    · blk_point [V]
    · show (j 0 : ℕ) / 1 < 1
      exact (Nat.div_one _).trans_lt z

/-- The weights' change. -/
theorem result5 (c : Dev nD) : (dats m 0 c).arrAt 5 (cfgs 0).N = join (wantD (wantG (m ((c : Thread nD τ).loc main_arg0))) (first (m ((c : Thread nD τ).loc main_arg1))) (first (m ((c : Thread nD τ).loc main_arg2))) (first (m ((c : Thread nD τ).loc main_arg3)))) (m ((c : Thread nD τ).loc main_arg5)) := by
  refine (dats m 0 c).arrAt_eq_of_coversWhere_of_agree 5 _ (fun β => β (0 : Fin _) < 1) (by decide +kernel) (fun t hf y => ?_) (fun j hj => ?_)
  · have hrow : ((((cfg0.win 5).blk t).view.emb y) 0 : ℕ) = 0 := by
      blk_point [blocks t]
    blk_simp
    rw [after0_5]
    unfold outsAt0
    dsimp only
    frame_out
    rw [join_lo _ _ _ (hrow.trans_lt (by omega))]
    pointwise [k0_pay1, k0_pay2, k0_pay3, k0_pay4, k0_pay5, k0_pay6, k0_pay7, k0_pay8, first, wantD, wantM, wantV, wantG]
    simp only [Fin.sum_univ_eight]
    blk_point [iblk, V, blocks t]
  · rw [A_eq]
    refine Eq.trans ?_ (join_hi _ _ _ fun z => hj ?_).symm
    · blk_point [V]
    · show (j 0 : ℕ) / 1 < 1
      exact (Nat.div_one _).trans_lt z

/-- The new first moment. -/
theorem result6 (c : Dev nD) : (dats m 0 c).arrAt 6 (cfgs 0).N = join (wantM (wantG (m ((c : Thread nD τ).loc main_arg0))) (first (m ((c : Thread nD τ).loc main_arg2)))) (m ((c : Thread nD τ).loc main_arg6)) := by
  refine (dats m 0 c).arrAt_eq_of_coversWhere_of_agree 6 _ (fun β => β (0 : Fin _) < 1) (by decide +kernel) (fun t hf y => ?_) (fun j hj => ?_)
  · have hrow : ((((cfg0.win 6).blk t).view.emb y) 0 : ℕ) = 0 := by
      blk_point [blocks t]
    blk_simp
    rw [after0_6]
    unfold outsAt0
    dsimp only
    frame_out
    rw [join_lo _ _ _ (hrow.trans_lt (by omega))]
    pointwise [k0_pay1, k0_pay2, k0_pay3, k0_pay4, k0_pay5, k0_pay6, k0_pay7, k0_pay8, first, wantD, wantM, wantV, wantG]
    simp only [Fin.sum_univ_eight]
    blk_point [iblk, V, blocks t]
  · rw [A_eq]
    refine Eq.trans ?_ (join_hi _ _ _ fun z => hj ?_).symm
    · blk_point [V]
    · show (j 0 : ℕ) / 1 < 1
      exact (Nat.div_one _).trans_lt z

/-- The new second moment. -/
theorem result7 (c : Dev nD) : (dats m 0 c).arrAt 7 (cfgs 0).N = join (wantV (wantG (m ((c : Thread nD τ).loc main_arg0))) (first (m ((c : Thread nD τ).loc main_arg3)))) (m ((c : Thread nD τ).loc main_arg7)) := by
  refine (dats m 0 c).arrAt_eq_of_coversWhere_of_agree 7 _ (fun β => β (0 : Fin _) < 1) (by decide +kernel) (fun t hf y => ?_) (fun j hj => ?_)
  · have hrow : ((((cfg0.win 7).blk t).view.emb y) 0 : ℕ) = 0 := by
      blk_point [blocks t]
    blk_simp
    rw [after0_7]
    unfold outsAt0
    dsimp only
    frame_out
    rw [join_lo _ _ _ (hrow.trans_lt (by omega))]
    pointwise [k0_pay1, k0_pay2, k0_pay3, k0_pay4, k0_pay5, k0_pay6, k0_pay7, k0_pay8, first, wantD, wantM, wantV, wantG]
    simp only [Fin.sum_univ_eight]
    blk_point [iblk, V, blocks t]
  · rw [A_eq]
    refine Eq.trans ?_ (join_hi _ _ _ fun z => hj ?_).symm
    · blk_point [V]
    · show (j 0 : ℕ) / 1 < 1
      exact (Nat.div_one _).trans_lt z

end Cert.Kernel15Ideal.Update

end
-- ==== Proof.AdamInSecond.lean ====
module

public import proofs.«01_k».proof.Proof.Gen.Kernel16Ideal.Frame
public import proofs.«01_k».proof.Proof.Gen.Reference16Ideal
public import Idealize.ShloMosaic.Lib.Pipeline.ValueKit
public import Idealize.ShloMosaic.Lib.Claim
public import Idealize.ShloMosaic.PureOps.Ideal

@[expose] public section

/-! The optimiser's step on the input projection's weights: the second layer's call. -/

set_option maxRecDepth 16384

noncomputable section

open Idealize.ShloMosaic Idealize.ShloMosaic.TcCoe Idealize.SL.Sem
open Idealize.ShloMosaic.Pipeline (Dat)

namespace Cert.Kernel16Ideal.Update
open Cert.Kernel16Ideal Cert.Kernel16Ideal.Gen

variable (m : (ℓ : Loc nD τ sig) → Buf (Elt Ideal) ℓ)

/-- The block of every window at a grid point. -/
theorem blocks : ∀ t : Fin cfg0.N, win0_0.index t = ![0, 0, t.val]
    ∧ win0_1.index t = ![1, 0, t.val] ∧ win0_2.index t = ![1, 0, t.val] ∧ win0_3.index t = ![1, 0, t.val]
    ∧ win0_4.index t = ![1, 0, t.val] ∧ win0_5.index t = ![1, 0, t.val] ∧ win0_6.index t = ![1, 0, t.val] ∧ win0_7.index t = ![1, 0, t.val] :=
  (by decide +kernel : ∀ t : Fin grid0.N, _)

/-- The sum over the devices. -/
abbrev wantG (l : FVec Ideal Cert.Reference16Ideal.S8x616x2048 .bf16) : FVec Ideal Cert.Reference16Ideal.S2048x616 .f32 :=
  transpose Cert.Reference16Ideal.S2048x616 [1, 0] (Host.reduceAdd (extf .f32 l Cert.Reference16Ideal.Gen.bitsLt_bf16_f32) (constant Cert.Reference16Ideal.S_ .f32 0x00000000#32)
    Cert.Reference16Ideal.Gen.reducesTo_S8x616x2048_S616x2048_d0 Cert.Reference16Ideal.Gen.h_S_) Cert.Reference16Ideal.Gen.transposes_S616x2048_S2048x616_1_0

/-- The second layer of an array over the layers. -/
abbrev second (x : FVec Ideal Cert.Reference16Ideal.S2x2048x616 .f32) : FVec Ideal Cert.Reference16Ideal.S2048x616 .f32 :=
  shapeCast _ (extractStridedSlice Cert.Reference16Ideal.S1x2048x616 ![1, 0, 0] x Cert.Reference16Ideal.Gen.slices_S2x2048x616_S1x2048x616_1_0_0) Cert.Reference16Ideal.Gen.shapeCasts_S1x2048x616_S2048x616

/-- The new first moment. -/
abbrev wantM (g a : FVec Ideal Cert.Reference16Ideal.S2048x616 .f32) : FVec Ideal Cert.Reference16Ideal.S2048x616 .f32 := addf (mulf (broadcastInDim Cert.Reference16Ideal.S2048x616 ![] Cert.Reference16Ideal.Gen.bcast_S_S2048x616 (constant Cert.Reference16Ideal.S_ .f32 0x3F666666#32)) a) (mulf (broadcastInDim Cert.Reference16Ideal.S2048x616 ![] Cert.Reference16Ideal.Gen.bcast_S_S2048x616 (constant Cert.Reference16Ideal.S_ .f32 0x3DCCCCCD#32)) g)

/-- The new second moment. -/
abbrev wantV (g b : FVec Ideal Cert.Reference16Ideal.S2048x616 .f32) : FVec Ideal Cert.Reference16Ideal.S2048x616 .f32 := addf (mulf (broadcastInDim Cert.Reference16Ideal.S2048x616 ![] Cert.Reference16Ideal.Gen.bcast_S_S2048x616 (constant Cert.Reference16Ideal.S_ .f32 0x3F7FBE77#32)) b) (mulf (broadcastInDim Cert.Reference16Ideal.S2048x616 ![] Cert.Reference16Ideal.Gen.bcast_S_S2048x616 (constant Cert.Reference16Ideal.S_ .f32 0x3A83126F#32)) (mulf g g))

/-- The weights' change. -/
abbrev wantD (g w a b : FVec Ideal Cert.Reference16Ideal.S2048x616 .f32) : FVec Ideal Cert.Reference16Ideal.S2048x616 .f32 :=
  mulf (broadcastInDim Cert.Reference16Ideal.S2048x616 ![] Cert.Reference16Ideal.Gen.bcast_S_S2048x616 (constant Cert.Reference16Ideal.S_ .f32 0xBA83126F#32)) (addf (Host.divf (Host.divf (wantM g a) (broadcastInDim Cert.Reference16Ideal.S2048x616 ![] Cert.Reference16Ideal.Gen.bcast_S_S2048x616 (constant Cert.Reference16Ideal.S_ .f32 0x3F26BD02#32)))
    (addf (Host.sqrt (Host.divf (wantV g b) (broadcastInDim Cert.Reference16Ideal.S2048x616 ![] Cert.Reference16Ideal.Gen.bcast_S_S2048x616 (constant Cert.Reference16Ideal.S_ .f32 0x3C231ACC#32)))) (broadcastInDim Cert.Reference16Ideal.S2048x616 ![] Cert.Reference16Ideal.Gen.bcast_S_S2048x616 (constant Cert.Reference16Ideal.S_ .f32 0x322BCC77#32)))) (mulf (broadcastInDim Cert.Reference16Ideal.S2048x616 ![] Cert.Reference16Ideal.Gen.bcast_S_S2048x616 (constant Cert.Reference16Ideal.S_ .f32 0x3C23D70A#32)) w))

/-- A result as it is stored, with its leading axis. -/
abbrev lead (x : FVec Ideal Cert.Reference16Ideal.S2048x616 .f32) : FVec Ideal Cert.Reference16Ideal.S1x616x2048 .f32 :=
  broadcastInDim Cert.Reference16Ideal.S1x616x2048 ![1, 2] Cert.Reference16Ideal.Gen.bcast_S616x2048_S1x616x2048_1_2
    (transpose Cert.Reference16Ideal.S616x2048 [1, 0] x Cert.Reference16Ideal.Gen.transposes_S2048x616_S616x2048_1_0)

/-- A result as it is stored, at every layer. -/
def spread (x : FVec Ideal Cert.Reference16Ideal.S2048x616 .f32) : FVec Ideal S2x616x2048 .f32 := fun i => x (ix2 (i 2) (i 1))

/-- The second layer's part of the stored result. -/
theorem part (x : FVec Ideal Cert.Reference16Ideal.S2048x616 .f32) (b : FVec Ideal S2x616x2048 .f32) :
    extractStridedSlice S1x616x2048 ![1, 0, 0] (fun i => if 1 ≤ (i 0 : ℕ) / 1 then spread x i else b i) slices_S2x616x2048_S1x616x2048_1_0_0 = lead x := by
  funext y
  pointwise [lead]
  rfl

/-- The state as the call takes it, argument 1. -/
theorem entry0 (c : Dev nD) : V m c main_v0 = transpose S2x616x2048 [0, 2, 1] (m ((c : Thread nD τ).loc main_arg1)) transposes_S2x2048x616_S2x616x2048_0_2_1 := by
  show StableHlo.after hostOps0 (fun b => m (c, b)) (Proc.devRef .tc main_v0) = _
  after_results_simp

/-- The state as the call takes it, argument 2. -/
theorem entry1 (c : Dev nD) : V m c main_v1 = transpose S2x616x2048 [0, 2, 1] (m ((c : Thread nD τ).loc main_arg2)) transposes_S2x2048x616_S2x616x2048_0_2_1 := by
  show StableHlo.after hostOps0 (fun b => m (c, b)) (Proc.devRef .tc main_v1) = _
  after_results_simp

/-- The state as the call takes it, argument 3. -/
theorem entry2 (c : Dev nD) : V m c main_v2 = transpose S2x616x2048 [0, 2, 1] (m ((c : Thread nD τ).loc main_arg3)) transposes_S2x2048x616_S2x616x2048_0_2_1 := by
  show StableHlo.after hostOps0 (fun b => m (c, b)) (Proc.devRef .tc main_v2) = _
  after_results_simp

/-- The summed gradient. -/
theorem result4 (c : Dev nD) :
    extractStridedSlice S1x616x2048 ![1, 0, 0] ((dats m 0 c).arrAt 4 (cfgs 0).N) slices_S2x616x2048_S1x616x2048_1_0_0 = lead (wantG (m ((c : Thread nD τ).loc main_arg0))) := by
  refine Eq.trans (congrArg (fun a => extractStridedSlice S1x616x2048 ![1, 0, 0] a slices_S2x616x2048_S1x616x2048_1_0_0)
    ((dats m 0 c).arrAt_eq_of_coversWhere 4 (spread (wantG (m ((c : Thread nD τ).loc main_arg0)))) (fun β => 1 ≤ β (0 : Fin _)) (by decide +kernel) (fun t hf y => ?_) (fun j => Iff.rfl))) (part _ _)
  blk_simp
  rw [after0_4]
  unfold outsAt0
  dsimp only
  frame_out
  unfold spread
  pointwise [k0_pay1, k0_pay2, k0_pay3, k0_pay4, k0_pay5, k0_pay6, k0_pay7, k0_pay8, second, wantD, wantM, wantV, wantG]
  simp only [Fin.sum_univ_eight]
  blk_point [iblk, V, blocks t]
  all_goals first
    | (rw [entry0]; pointwise; blk_point [blocks t]; done)
    | (rw [entry1]; pointwise; blk_point [blocks t]; done)
    | (rw [entry2]; pointwise; blk_point [blocks t]; done)

/-- The weights' change. -/
theorem result5 (c : Dev nD) :
    extractStridedSlice S1x616x2048 ![1, 0, 0] ((dats m 0 c).arrAt 5 (cfgs 0).N) slices_S2x616x2048_S1x616x2048_1_0_0 = lead (wantD (wantG (m ((c : Thread nD τ).loc main_arg0))) (second (m ((c : Thread nD τ).loc main_arg1))) (second (m ((c : Thread nD τ).loc main_arg2))) (second (m ((c : Thread nD τ).loc main_arg3)))) := by
  refine Eq.trans (congrArg (fun a => extractStridedSlice S1x616x2048 ![1, 0, 0] a slices_S2x616x2048_S1x616x2048_1_0_0)
    ((dats m 0 c).arrAt_eq_of_coversWhere 5 (spread (wantD (wantG (m ((c : Thread nD τ).loc main_arg0))) (second (m ((c : Thread nD τ).loc main_arg1))) (second (m ((c : Thread nD τ).loc main_arg2))) (second (m ((c : Thread nD τ).loc main_arg3))))) (fun β => 1 ≤ β (0 : Fin _)) (by decide +kernel) (fun t hf y => ?_) (fun j => Iff.rfl))) (part _ _)
  blk_simp
  rw [after0_5]
  unfold outsAt0
  dsimp only
  frame_out
  unfold spread
  pointwise [k0_pay1, k0_pay2, k0_pay3, k0_pay4, k0_pay5, k0_pay6, k0_pay7, k0_pay8, second, wantD, wantM, wantV, wantG]
  simp only [Fin.sum_univ_eight]
  blk_point [iblk, V, blocks t]
  all_goals first
    | (rw [entry0]; pointwise; blk_point [blocks t]; done)
    | (rw [entry1]; pointwise; blk_point [blocks t]; done)
    | (rw [entry2]; pointwise; blk_point [blocks t]; done)

/-- The new first moment. -/
theorem result6 (c : Dev nD) :
    extractStridedSlice S1x616x2048 ![1, 0, 0] ((dats m 0 c).arrAt 6 (cfgs 0).N) slices_S2x616x2048_S1x616x2048_1_0_0 = lead (wantM (wantG (m ((c : Thread nD τ).loc main_arg0))) (second (m ((c : Thread nD τ).loc main_arg2)))) := by
  refine Eq.trans (congrArg (fun a => extractStridedSlice S1x616x2048 ![1, 0, 0] a slices_S2x616x2048_S1x616x2048_1_0_0)
    ((dats m 0 c).arrAt_eq_of_coversWhere 6 (spread (wantM (wantG (m ((c : Thread nD τ).loc main_arg0))) (second (m ((c : Thread nD τ).loc main_arg2))))) (fun β => 1 ≤ β (0 : Fin _)) (by decide +kernel) (fun t hf y => ?_) (fun j => Iff.rfl))) (part _ _)
  blk_simp
  rw [after0_6]
  unfold outsAt0
  dsimp only
  frame_out
  unfold spread
  pointwise [k0_pay1, k0_pay2, k0_pay3, k0_pay4, k0_pay5, k0_pay6, k0_pay7, k0_pay8, second, wantD, wantM, wantV, wantG]
  simp only [Fin.sum_univ_eight]
  blk_point [iblk, V, blocks t]
  all_goals first
    | (rw [entry0]; pointwise; blk_point [blocks t]; done)
    | (rw [entry1]; pointwise; blk_point [blocks t]; done)
    | (rw [entry2]; pointwise; blk_point [blocks t]; done)

/-- The new second moment. -/
theorem result7 (c : Dev nD) :
    extractStridedSlice S1x616x2048 ![1, 0, 0] ((dats m 0 c).arrAt 7 (cfgs 0).N) slices_S2x616x2048_S1x616x2048_1_0_0 = lead (wantV (wantG (m ((c : Thread nD τ).loc main_arg0))) (second (m ((c : Thread nD τ).loc main_arg3)))) := by
  refine Eq.trans (congrArg (fun a => extractStridedSlice S1x616x2048 ![1, 0, 0] a slices_S2x616x2048_S1x616x2048_1_0_0)
    ((dats m 0 c).arrAt_eq_of_coversWhere 7 (spread (wantV (wantG (m ((c : Thread nD τ).loc main_arg0))) (second (m ((c : Thread nD τ).loc main_arg3))))) (fun β => 1 ≤ β (0 : Fin _)) (by decide +kernel) (fun t hf y => ?_) (fun j => Iff.rfl))) (part _ _)
  blk_simp
  rw [after0_7]
  unfold outsAt0
  dsimp only
  frame_out
  unfold spread
  pointwise [k0_pay1, k0_pay2, k0_pay3, k0_pay4, k0_pay5, k0_pay6, k0_pay7, k0_pay8, second, wantD, wantM, wantV, wantG]
  simp only [Fin.sum_univ_eight]
  blk_point [iblk, V, blocks t]
  all_goals first
    | (rw [entry0]; pointwise; blk_point [blocks t]; done)
    | (rw [entry1]; pointwise; blk_point [blocks t]; done)
    | (rw [entry2]; pointwise; blk_point [blocks t]; done)

/-- A result array after the call is the second layer's slice of what the call leaves. -/
theorem tail4 (c : Dev nD) : Pipeline.afterTail₀ cfgs (dats m) 0 (V0 m) [hostOps1] c main_v4
    = extractStridedSlice S1x616x2048 ![1, 0, 0] ((dats m 0 c).arrAt 4 (cfgs 0).N) slices_S2x616x2048_S1x616x2048_1_0_0 := by
  unfold Pipeline.afterTail₀
  show StableHlo.after hostOps1 _ _ = _
  after_results_simp
  exact congrArg (fun a => extractStridedSlice S1x616x2048 ![1, 0, 0] a slices_S2x616x2048_S1x616x2048_1_0_0)
    (Pipeline.withArrays_arr (cfgs 0).spec (by decide) c (V0 m c) (fun w => (dats m 0 c).arrAt w (cfgs 0).N) 4)

/-- A result array after the call is the second layer's slice of what the call leaves. -/
theorem tail5 (c : Dev nD) : Pipeline.afterTail₀ cfgs (dats m) 0 (V0 m) [hostOps1] c main_v5
    = extractStridedSlice S1x616x2048 ![1, 0, 0] ((dats m 0 c).arrAt 5 (cfgs 0).N) slices_S2x616x2048_S1x616x2048_1_0_0 := by
  unfold Pipeline.afterTail₀
  show StableHlo.after hostOps1 _ _ = _
  after_results_simp
  exact congrArg (fun a => extractStridedSlice S1x616x2048 ![1, 0, 0] a slices_S2x616x2048_S1x616x2048_1_0_0)
    (Pipeline.withArrays_arr (cfgs 0).spec (by decide) c (V0 m c) (fun w => (dats m 0 c).arrAt w (cfgs 0).N) 5)

/-- A result array after the call is the second layer's slice of what the call leaves. -/
theorem tail6 (c : Dev nD) : Pipeline.afterTail₀ cfgs (dats m) 0 (V0 m) [hostOps1] c main_v6
    = extractStridedSlice S1x616x2048 ![1, 0, 0] ((dats m 0 c).arrAt 6 (cfgs 0).N) slices_S2x616x2048_S1x616x2048_1_0_0 := by
  unfold Pipeline.afterTail₀
  show StableHlo.after hostOps1 _ _ = _
  after_results_simp
  exact congrArg (fun a => extractStridedSlice S1x616x2048 ![1, 0, 0] a slices_S2x616x2048_S1x616x2048_1_0_0)
    (Pipeline.withArrays_arr (cfgs 0).spec (by decide) c (V0 m c) (fun w => (dats m 0 c).arrAt w (cfgs 0).N) 6)

/-- A result array after the call is the second layer's slice of what the call leaves. -/
theorem tail7 (c : Dev nD) : Pipeline.afterTail₀ cfgs (dats m) 0 (V0 m) [hostOps1] c main_v7
    = extractStridedSlice S1x616x2048 ![1, 0, 0] ((dats m 0 c).arrAt 7 (cfgs 0).N) slices_S2x616x2048_S1x616x2048_1_0_0 := by
  unfold Pipeline.afterTail₀
  show StableHlo.after hostOps1 _ _ = _
  after_results_simp
  exact congrArg (fun a => extractStridedSlice S1x616x2048 ![1, 0, 0] a slices_S2x616x2048_S1x616x2048_1_0_0)
    (Pipeline.withArrays_arr (cfgs 0).spec (by decide) c (V0 m c) (fun w => (dats m 0 c).arrAt w (cfgs 0).N) 7)

end Cert.Kernel16Ideal.Update

end
-- ==== Proof.Products.lean ====
module

public import proofs.«01_k».proof.Defs
public import proofs.«01_k».proof.Proof.OutBwdX
public import proofs.«01_k».proof.Proof.Gen.Kernel2.Frame
public import proofs.«01_k».proof.Proof.Gen.Reference2Ideal.Run
public import proofs.«01_k».proof.Proof.OutBwdW
public import proofs.«01_k».proof.Proof.Gen.Kernel3.Frame
public import proofs.«01_k».proof.Proof.Gen.Reference3Ideal.Run
public import proofs.«01_k».proof.Proof.ProjBwdW
public import proofs.«01_k».proof.Proof.Gen.Kernel4.Frame
public import proofs.«01_k».proof.Proof.Gen.Reference4Ideal.Run
public import proofs.«01_k».proof.Proof.ProjBwdX
public import proofs.«01_k».proof.Proof.Gen.Kernel5.Frame
public import proofs.«01_k».proof.Proof.Gen.Reference5Ideal.Run
public import proofs.«01_k».proof.Proof.ProjFwd
public import proofs.«01_k».proof.Proof.Gen.Kernel6.Frame
public import proofs.«01_k».proof.Proof.Gen.Reference6Ideal.Run
public import proofs.«01_k».proof.Proof.OutFwd
public import proofs.«01_k».proof.Proof.Gen.Kernel7.Frame
public import proofs.«01_k».proof.Proof.Gen.Reference7Ideal.Run
public import proofs.«01_k».proof.Proof.QUpBwdW
public import proofs.«01_k».proof.Proof.Gen.Kernel8.Frame
public import proofs.«01_k».proof.Proof.Gen.Reference8Ideal.Run
public import proofs.«01_k».proof.Proof.KvUpBwdW
public import proofs.«01_k».proof.Proof.Gen.Kernel9.Frame
public import proofs.«01_k».proof.Proof.Gen.Reference9Ideal.Run
public import proofs.«01_k».proof.Proof.AdamUq
public import proofs.«01_k».proof.Proof.Gen.Kernel10.Frame
public import proofs.«01_k».proof.Proof.Gen.Reference10Ideal.Run
public import proofs.«01_k».proof.Proof.AdamUkv
public import proofs.«01_k».proof.Proof.Gen.Kernel11.Frame
public import proofs.«01_k».proof.Proof.Gen.Reference11Ideal.Run
public import proofs.«01_k».proof.Proof.AdamOut
public import proofs.«01_k».proof.Proof.Gen.Kernel12.Frame
public import proofs.«01_k».proof.Proof.Gen.Reference12Ideal.Run
public import proofs.«01_k».proof.Proof.AdamSmall
public import proofs.«01_k».proof.Proof.Gen.Kernel13.Frame
public import proofs.«01_k».proof.Proof.Gen.Reference13Ideal.Run
public import proofs.«01_k».proof.Proof.AdamConv
public import proofs.«01_k».proof.Proof.Gen.Kernel14.Frame
public import proofs.«01_k».proof.Proof.Gen.Reference14Ideal.Run
public import proofs.«01_k».proof.Proof.AdamIn
public import proofs.«01_k».proof.Proof.Gen.Kernel15.Frame
public import proofs.«01_k».proof.Proof.Gen.Reference15Ideal.Run
public import proofs.«01_k».proof.Proof.AdamInSecond
public import proofs.«01_k».proof.Proof.Gen.Kernel16.Frame
public import proofs.«01_k».proof.Proof.Gen.Reference16Ideal.Run
public import Idealize.ShloMosaic.Lib.Claim
public import Idealize.ShloMosaic.Lib.Quiescent

@[expose] public section

/-! The products and the optimiser's steps: each kernel's result arrays are its reference's results. -/

set_option maxRecDepth 16384

noncomputable section

namespace Cert.Proof

open Idealize.ShloMosaic Idealize.ShloMosaic.TcCoe Idealize.SL.Sem

theorem value2 : Cert.algebraic_Kernel2Ideal_Reference2Ideal := by
  pair_intro
  · run_from Cert.Kernel2Ideal.Gen.run_main m g
  · hlo_run
    exact (Cert.Kernel2Ideal.Product.result m c).symm

theorem reference2 : Cert.quiescent_Reference2Ideal := fun m g _ =>
  (θ_run _ _ _).mono (fun r h => ⟨fun c => (h c).2, sem_eq_zero_of_no_sems (by decide) r.2⟩)
    (Cert.Reference2Ideal.Value.run m g)

theorem value3 : Cert.algebraic_Kernel3Ideal_Reference3Ideal := by
  pair_intro
  · run_from Cert.Kernel3Ideal.Gen.run_main m g
  · hlo_run
    exact (Cert.Kernel3Ideal.Product.result m c).symm

theorem reference3 : Cert.quiescent_Reference3Ideal := fun m g _ =>
  (θ_run _ _ _).mono (fun r h => ⟨fun c => (h c).2, sem_eq_zero_of_no_sems (by decide) r.2⟩)
    (Cert.Reference3Ideal.Value.run m g)

theorem value4 : Cert.algebraic_Kernel4Ideal_Reference4Ideal := by
  pair_intro
  · run_from Cert.Kernel4Ideal.Gen.run_main m g
  · hlo_run
    exact (Cert.Kernel4Ideal.Product.result m c).symm

theorem reference4 : Cert.quiescent_Reference4Ideal := fun m g _ =>
  (θ_run _ _ _).mono (fun r h => ⟨fun c => (h c).2, sem_eq_zero_of_no_sems (by decide) r.2⟩)
    (Cert.Reference4Ideal.Value.run m g)

theorem value5 : Cert.algebraic_Kernel5Ideal_Reference5Ideal := by
  pair_intro
  · run_from Cert.Kernel5Ideal.Gen.run_main m g
  · hlo_run
    exact (Cert.Kernel5Ideal.Product.result m c).symm

theorem reference5 : Cert.quiescent_Reference5Ideal := fun m g _ =>
  (θ_run _ _ _).mono (fun r h => ⟨fun c => (h c).2, sem_eq_zero_of_no_sems (by decide) r.2⟩)
    (Cert.Reference5Ideal.Value.run m g)

theorem value6 : Cert.algebraic_Kernel6Ideal_Reference6Ideal := by
  pair_intro
  · run_from Cert.Kernel6Ideal.Gen.run_main m g
  · hlo_run
    exact (Cert.Kernel6Ideal.Product.result m c).symm

theorem reference6 : Cert.quiescent_Reference6Ideal := fun m g _ =>
  (θ_run _ _ _).mono (fun r h => ⟨fun c => (h c).2, sem_eq_zero_of_no_sems (by decide) r.2⟩)
    (Cert.Reference6Ideal.Value.run m g)

theorem value7 : Cert.algebraic_Kernel7Ideal_Reference7Ideal := by
  pair_intro
  · run_from Cert.Kernel7Ideal.Gen.run_main m g
  · hlo_run
    exact (Cert.Kernel7Ideal.Product.result m c).symm

theorem reference7 : Cert.quiescent_Reference7Ideal := fun m g _ =>
  (θ_run _ _ _).mono (fun r h => ⟨fun c => (h c).2, sem_eq_zero_of_no_sems (by decide) r.2⟩)
    (Cert.Reference7Ideal.Value.run m g)

theorem value8 : Cert.algebraic_Kernel8Ideal_Reference8Ideal := by
  pair_intro
  · run_from Cert.Kernel8Ideal.Gen.run_main m g
  · hlo_run
    exact (Cert.Kernel8Ideal.Product.result m c).symm

theorem reference8 : Cert.quiescent_Reference8Ideal := fun m g _ =>
  (θ_run _ _ _).mono (fun r h => ⟨fun c => (h c).2, sem_eq_zero_of_no_sems (by decide) r.2⟩)
    (Cert.Reference8Ideal.Value.run m g)

theorem value9 : Cert.algebraic_Kernel9Ideal_Reference9Ideal := by
  pair_intro
  · run_from Cert.Kernel9Ideal.Gen.run_main m g
  · hlo_run
    exact (Cert.Kernel9Ideal.Product.result m c).symm

theorem reference9 : Cert.quiescent_Reference9Ideal := fun m g _ =>
  (θ_run _ _ _).mono (fun r h => ⟨fun c => (h c).2, sem_eq_zero_of_no_sems (by decide) r.2⟩)
    (Cert.Reference9Ideal.Value.run m g)

theorem value10 : Cert.algebraic_Kernel10Ideal_Reference10Ideal := by
  intro m g m' g' _ hargs
  refine ⟨fun c => (Cert.Kernel10Ideal.Update.wantG (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))),
    fun c => (Cert.Kernel10Ideal.Update.wantD (Cert.Kernel10Ideal.Update.wantG (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))),
    fun c => (Cert.Kernel10Ideal.Update.wantM (Cert.Kernel10Ideal.Update.wantG (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))) (m ((c.tc : Thread Cert.Kernel10Ideal.nD Cert.Kernel10Ideal.τ).loc Cert.Kernel10Ideal.main_arg3))),
    fun c => (Cert.Kernel10Ideal.Update.wantV (Cert.Kernel10Ideal.Update.wantG (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))) (m ((c.tc : Thread Cert.Kernel10Ideal.nD Cert.Kernel10Ideal.τ).loc Cert.Kernel10Ideal.main_arg4))), ?_, ?_⟩
  · refine (θ_run _ _ _).mono (fun r h c => ?_) (θ_run_and (Cert.Kernel10Ideal.Gen.run_main m g) (Cert.Kernel10Ideal.Gen.frame m g))
    exact ⟨((h.1 c).1 5).trans (Cert.Kernel10Ideal.Update.result5 m c), ((h.1 c).1 6).trans (Cert.Kernel10Ideal.Update.result6 m c), ((h.1 c).1 7).trans (Cert.Kernel10Ideal.Update.result7 m c), ((h.1 c).1 8).trans (Cert.Kernel10Ideal.Update.result8 m c), h.2.1 c⟩
  · refine (θ_run _ _ _).mono (fun r h c => ?_) (Cert.Reference10Ideal.Value.run m' g')
    obtain ⟨e0, e1, e2, e3, e4⟩ := hargs c
    exact ⟨(h c).1.trans (by beta_reduce; rw [← e0, ← e1] <;> rfl),
      (h c).2.1.trans (by beta_reduce; rw [← e0, ← e1, ← e2, ← e3, ← e4] <;> rfl),
      (h c).2.2.1.trans (by beta_reduce; rw [← e0, ← e1, ← e3] <;> rfl),
      (h c).2.2.2.1.trans (by beta_reduce; rw [← e0, ← e1, ← e4] <;> rfl),
      (h c).2.2.2.2⟩

theorem reference10 : Cert.quiescent_Reference10Ideal := fun m g _ =>
  (θ_run _ _ _).mono (fun r h => ⟨fun c => (h c).2.2.2.2, sem_eq_zero_of_no_sems (by decide) r.2⟩)
    (Cert.Reference10Ideal.Value.run m g)

theorem value11 : Cert.algebraic_Kernel11Ideal_Reference11Ideal := by
  intro m g m' g' _ hargs
  refine ⟨fun c => (Cert.Kernel11Ideal.Update.wantG (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))),
    fun c => (Cert.Kernel11Ideal.Update.wantD (Cert.Kernel11Ideal.Update.wantG (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))),
    fun c => (Cert.Kernel11Ideal.Update.wantM (Cert.Kernel11Ideal.Update.wantG (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) (m ((c.tc : Thread Cert.Kernel11Ideal.nD Cert.Kernel11Ideal.τ).loc Cert.Kernel11Ideal.main_arg3))),
    fun c => (Cert.Kernel11Ideal.Update.wantV (Cert.Kernel11Ideal.Update.wantG (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1))) (m ((c.tc : Thread Cert.Kernel11Ideal.nD Cert.Kernel11Ideal.τ).loc Cert.Kernel11Ideal.main_arg4))), ?_, ?_⟩
  · refine (θ_run _ _ _).mono (fun r h c => ?_) (θ_run_and (Cert.Kernel11Ideal.Gen.run_main m g) (Cert.Kernel11Ideal.Gen.frame m g))
    exact ⟨((h.1 c).1 5).trans (Cert.Kernel11Ideal.Update.result5 m c), ((h.1 c).1 6).trans (Cert.Kernel11Ideal.Update.result6 m c), ((h.1 c).1 7).trans (Cert.Kernel11Ideal.Update.result7 m c), ((h.1 c).1 8).trans (Cert.Kernel11Ideal.Update.result8 m c), h.2.1 c⟩
  · refine (θ_run _ _ _).mono (fun r h c => ?_) (Cert.Reference11Ideal.Value.run m' g')
    obtain ⟨e0, e1, e2, e3, e4⟩ := hargs c
    exact ⟨(h c).1.trans (by beta_reduce; rw [← e0, ← e1] <;> rfl),
      (h c).2.1.trans (by beta_reduce; rw [← e0, ← e1, ← e2, ← e3, ← e4] <;> rfl),
      (h c).2.2.1.trans (by beta_reduce; rw [← e0, ← e1, ← e3] <;> rfl),
      (h c).2.2.2.1.trans (by beta_reduce; rw [← e0, ← e1, ← e4] <;> rfl),
      (h c).2.2.2.2⟩

theorem reference11 : Cert.quiescent_Reference11Ideal := fun m g _ =>
  (θ_run _ _ _).mono (fun r h => ⟨fun c => (h c).2.2.2.2, sem_eq_zero_of_no_sems (by decide) r.2⟩)
    (Cert.Reference11Ideal.Value.run m g)

theorem value12 : Cert.algebraic_Kernel12Ideal_Reference12Ideal := by
  intro m g m' g' _ hargs
  refine ⟨fun c => (Cert.Kernel12Ideal.Update.wantG (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))),
    fun c => (Cert.Kernel12Ideal.Update.wantD (Cert.Kernel12Ideal.Update.wantG (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4))),
    fun c => (Cert.Kernel12Ideal.Update.wantM (Cert.Kernel12Ideal.Update.wantG (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) (m ((c.tc : Thread Cert.Kernel12Ideal.nD Cert.Kernel12Ideal.τ).loc Cert.Kernel12Ideal.main_arg3))),
    fun c => (Cert.Kernel12Ideal.Update.wantV (Cert.Kernel12Ideal.Update.wantG (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) (m ((c.tc : Thread Cert.Kernel12Ideal.nD Cert.Kernel12Ideal.τ).loc Cert.Kernel12Ideal.main_arg4))), ?_, ?_⟩
  · refine (θ_run _ _ _).mono (fun r h c => ?_) (θ_run_and (Cert.Kernel12Ideal.Gen.run_main m g) (Cert.Kernel12Ideal.Gen.frame m g))
    exact ⟨((h.1 c).1 5).trans (Cert.Kernel12Ideal.Update.result5 m c), ((h.1 c).1 6).trans (Cert.Kernel12Ideal.Update.result6 m c), ((h.1 c).1 7).trans (Cert.Kernel12Ideal.Update.result7 m c), ((h.1 c).1 8).trans (Cert.Kernel12Ideal.Update.result8 m c), h.2.1 c⟩
  · refine (θ_run _ _ _).mono (fun r h c => ?_) (Cert.Reference12Ideal.Value.run m' g')
    obtain ⟨e0, e1, e2, e3, e4⟩ := hargs c
    exact ⟨(h c).1.trans (by beta_reduce; rw [← e0, ← e1] <;> rfl),
      (h c).2.1.trans (by beta_reduce; rw [← e0, ← e1, ← e2, ← e3, ← e4] <;> rfl),
      (h c).2.2.1.trans (by beta_reduce; rw [← e0, ← e1, ← e3] <;> rfl),
      (h c).2.2.2.1.trans (by beta_reduce; rw [← e0, ← e1, ← e4] <;> rfl),
      (h c).2.2.2.2⟩

theorem reference12 : Cert.quiescent_Reference12Ideal := fun m g _ =>
  (θ_run _ _ _).mono (fun r h => ⟨fun c => (h c).2.2.2.2, sem_eq_zero_of_no_sems (by decide) r.2⟩)
    (Cert.Reference12Ideal.Value.run m g)

theorem value13 : Cert.algebraic_Kernel13Ideal_Reference13Ideal := by
  intro m g m' g' _ hargs
  refine ⟨fun c => (Cert.Kernel13Ideal.Update.lead (Cert.Kernel13Ideal.Update.wantG (m ((c.tc : Thread Cert.Kernel13Ideal.nD Cert.Kernel13Ideal.τ).loc Cert.Kernel13Ideal.main_arg0)))),
    fun c => (Cert.Kernel13Ideal.Update.lead (Cert.Kernel13Ideal.Update.wantD (Cert.Kernel13Ideal.Update.wantG (m ((c.tc : Thread Cert.Kernel13Ideal.nD Cert.Kernel13Ideal.τ).loc Cert.Kernel13Ideal.main_arg0))) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)))),
    fun c => (Cert.Kernel13Ideal.Update.lead (Cert.Kernel13Ideal.Update.wantM (Cert.Kernel13Ideal.Update.wantG (m ((c.tc : Thread Cert.Kernel13Ideal.nD Cert.Kernel13Ideal.τ).loc Cert.Kernel13Ideal.main_arg0))) (m ((c.tc : Thread Cert.Kernel13Ideal.nD Cert.Kernel13Ideal.τ).loc Cert.Kernel13Ideal.main_arg2)))),
    fun c => (Cert.Kernel13Ideal.Update.lead (Cert.Kernel13Ideal.Update.wantV (Cert.Kernel13Ideal.Update.wantG (m ((c.tc : Thread Cert.Kernel13Ideal.nD Cert.Kernel13Ideal.τ).loc Cert.Kernel13Ideal.main_arg0))) (m ((c.tc : Thread Cert.Kernel13Ideal.nD Cert.Kernel13Ideal.τ).loc Cert.Kernel13Ideal.main_arg3)))), ?_, ?_⟩
  · refine (θ_run _ _ _).mono (fun r h c => ?_) (θ_run_and (Cert.Kernel13Ideal.Gen.run_main m g) (Cert.Kernel13Ideal.Gen.frame m g))
    exact ⟨((h.1 c).1 4).trans (Cert.Kernel13Ideal.Update.result4 m c), ((h.1 c).1 5).trans (Cert.Kernel13Ideal.Update.result5 m c), ((h.1 c).1 6).trans (Cert.Kernel13Ideal.Update.result6 m c), ((h.1 c).1 7).trans (Cert.Kernel13Ideal.Update.result7 m c), h.2.1 c⟩
  · refine (θ_run _ _ _).mono (fun r h c => ?_) (Cert.Reference13Ideal.Value.run m' g')
    obtain ⟨e0, e1, e2, e3⟩ := hargs c
    exact ⟨(h c).1.trans (by beta_reduce; rw [← e0] <;> rfl),
      (h c).2.1.trans (by beta_reduce; rw [← e0, ← e1, ← e2, ← e3] <;> rfl),
      (h c).2.2.1.trans (by beta_reduce; rw [← e0, ← e2] <;> rfl),
      (h c).2.2.2.1.trans (by beta_reduce; rw [← e0, ← e3] <;> rfl),
      (h c).2.2.2.2⟩

theorem reference13 : Cert.quiescent_Reference13Ideal := fun m g _ =>
  (θ_run _ _ _).mono (fun r h => ⟨fun c => (h c).2.2.2.2, sem_eq_zero_of_no_sems (by decide) r.2⟩)
    (Cert.Reference13Ideal.Value.run m g)

theorem value14 : Cert.algebraic_Kernel14Ideal_Reference14Ideal := by
  intro m g m' g' _ hargs
  refine ⟨fun c => (Cert.Kernel14Ideal.Update.lead (Cert.Kernel14Ideal.Update.wantG (m ((c.tc : Thread Cert.Kernel14Ideal.nD Cert.Kernel14Ideal.τ).loc Cert.Kernel14Ideal.main_arg0)))),
    fun c => (Cert.Kernel14Ideal.Update.lead (Cert.Kernel14Ideal.Update.wantD (Cert.Kernel14Ideal.Update.wantG (m ((c.tc : Thread Cert.Kernel14Ideal.nD Cert.Kernel14Ideal.τ).loc Cert.Kernel14Ideal.main_arg0))) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)))),
    fun c => (Cert.Kernel14Ideal.Update.lead (Cert.Kernel14Ideal.Update.wantM (Cert.Kernel14Ideal.Update.wantG (m ((c.tc : Thread Cert.Kernel14Ideal.nD Cert.Kernel14Ideal.τ).loc Cert.Kernel14Ideal.main_arg0))) (m ((c.tc : Thread Cert.Kernel14Ideal.nD Cert.Kernel14Ideal.τ).loc Cert.Kernel14Ideal.main_arg2)))),
    fun c => (Cert.Kernel14Ideal.Update.lead (Cert.Kernel14Ideal.Update.wantV (Cert.Kernel14Ideal.Update.wantG (m ((c.tc : Thread Cert.Kernel14Ideal.nD Cert.Kernel14Ideal.τ).loc Cert.Kernel14Ideal.main_arg0))) (m ((c.tc : Thread Cert.Kernel14Ideal.nD Cert.Kernel14Ideal.τ).loc Cert.Kernel14Ideal.main_arg3)))), ?_, ?_⟩
  · refine (θ_run _ _ _).mono (fun r h c => ?_) (θ_run_and (Cert.Kernel14Ideal.Gen.run_main m g) (Cert.Kernel14Ideal.Gen.frame m g))
    exact ⟨((h.1 c).1 4).trans (Cert.Kernel14Ideal.Update.result4 m c), ((h.1 c).1 5).trans (Cert.Kernel14Ideal.Update.result5 m c), ((h.1 c).1 6).trans (Cert.Kernel14Ideal.Update.result6 m c), ((h.1 c).1 7).trans (Cert.Kernel14Ideal.Update.result7 m c), h.2.1 c⟩
  · refine (θ_run _ _ _).mono (fun r h c => ?_) (Cert.Reference14Ideal.Value.run m' g')
    obtain ⟨e0, e1, e2, e3⟩ := hargs c
    exact ⟨(h c).1.trans (by beta_reduce; rw [← e0] <;> rfl),
      (h c).2.1.trans (by beta_reduce; rw [← e0, ← e1, ← e2, ← e3] <;> rfl),
      (h c).2.2.1.trans (by beta_reduce; rw [← e0, ← e2] <;> rfl),
      (h c).2.2.2.1.trans (by beta_reduce; rw [← e0, ← e3] <;> rfl),
      (h c).2.2.2.2⟩

theorem reference14 : Cert.quiescent_Reference14Ideal := fun m g _ =>
  (θ_run _ _ _).mono (fun r h => ⟨fun c => (h c).2.2.2.2, sem_eq_zero_of_no_sems (by decide) r.2⟩)
    (Cert.Reference14Ideal.Value.run m g)

theorem value15 : Cert.algebraic_Kernel15Ideal_Reference15Ideal := by
  intro m g m' g' _ hargs
  refine ⟨fun c => (Cert.Kernel15Ideal.Update.join (Cert.Kernel15Ideal.Update.wantG (m ((c.tc : Thread Cert.Kernel15Ideal.nD Cert.Kernel15Ideal.τ).loc Cert.Kernel15Ideal.main_arg0))) (m ((c.tc : Thread Cert.Kernel15Ideal.nD Cert.Kernel15Ideal.τ).loc Cert.Kernel15Ideal.main_arg4))),
    fun c => (Cert.Kernel15Ideal.Update.join (Cert.Kernel15Ideal.Update.wantD (Cert.Kernel15Ideal.Update.wantG (m ((c.tc : Thread Cert.Kernel15Ideal.nD Cert.Kernel15Ideal.τ).loc Cert.Kernel15Ideal.main_arg0))) (Cert.Kernel15Ideal.Update.first (m ((c.tc : Thread Cert.Kernel15Ideal.nD Cert.Kernel15Ideal.τ).loc Cert.Kernel15Ideal.main_arg1))) (Cert.Kernel15Ideal.Update.first (m ((c.tc : Thread Cert.Kernel15Ideal.nD Cert.Kernel15Ideal.τ).loc Cert.Kernel15Ideal.main_arg2))) (Cert.Kernel15Ideal.Update.first (m ((c.tc : Thread Cert.Kernel15Ideal.nD Cert.Kernel15Ideal.τ).loc Cert.Kernel15Ideal.main_arg3)))) (m ((c.tc : Thread Cert.Kernel15Ideal.nD Cert.Kernel15Ideal.τ).loc Cert.Kernel15Ideal.main_arg5))),
    fun c => (Cert.Kernel15Ideal.Update.join (Cert.Kernel15Ideal.Update.wantM (Cert.Kernel15Ideal.Update.wantG (m ((c.tc : Thread Cert.Kernel15Ideal.nD Cert.Kernel15Ideal.τ).loc Cert.Kernel15Ideal.main_arg0))) (Cert.Kernel15Ideal.Update.first (m ((c.tc : Thread Cert.Kernel15Ideal.nD Cert.Kernel15Ideal.τ).loc Cert.Kernel15Ideal.main_arg2)))) (m ((c.tc : Thread Cert.Kernel15Ideal.nD Cert.Kernel15Ideal.τ).loc Cert.Kernel15Ideal.main_arg6))),
    fun c => (Cert.Kernel15Ideal.Update.join (Cert.Kernel15Ideal.Update.wantV (Cert.Kernel15Ideal.Update.wantG (m ((c.tc : Thread Cert.Kernel15Ideal.nD Cert.Kernel15Ideal.τ).loc Cert.Kernel15Ideal.main_arg0))) (Cert.Kernel15Ideal.Update.first (m ((c.tc : Thread Cert.Kernel15Ideal.nD Cert.Kernel15Ideal.τ).loc Cert.Kernel15Ideal.main_arg3)))) (m ((c.tc : Thread Cert.Kernel15Ideal.nD Cert.Kernel15Ideal.τ).loc Cert.Kernel15Ideal.main_arg7))), ?_, ?_⟩
  · refine (θ_run _ _ _).mono (fun r h c => ?_) (θ_run_and (Cert.Kernel15Ideal.Gen.run_main m g) (Cert.Kernel15Ideal.Gen.frame m g))
    exact ⟨((h.1 c).1 4).trans (Cert.Kernel15Ideal.Update.result4 m c), ((h.1 c).1 5).trans (Cert.Kernel15Ideal.Update.result5 m c), ((h.1 c).1 6).trans (Cert.Kernel15Ideal.Update.result6 m c), ((h.1 c).1 7).trans (Cert.Kernel15Ideal.Update.result7 m c), h.2.1 c⟩
  · refine (θ_run _ _ _).mono (fun r h c => ?_) (Cert.Reference15Ideal.Value.run m' g')
    obtain ⟨e0, e1, e2, e3, e4, e5, e6, e7⟩ := hargs c
    exact ⟨(h c).1.trans (by beta_reduce; rw [← e0, ← e4] <;> rfl),
      (h c).2.1.trans (by beta_reduce; rw [← e0, ← e1, ← e2, ← e3, ← e5] <;> rfl),
      (h c).2.2.1.trans (by beta_reduce; rw [← e0, ← e2, ← e6] <;> rfl),
      (h c).2.2.2.1.trans (by beta_reduce; rw [← e0, ← e3, ← e7] <;> rfl),
      (h c).2.2.2.2⟩

theorem reference15 : Cert.quiescent_Reference15Ideal := fun m g _ =>
  (θ_run _ _ _).mono (fun r h => ⟨fun c => (h c).2.2.2.2, sem_eq_zero_of_no_sems (by decide) r.2⟩)
    (Cert.Reference15Ideal.Value.run m g)

theorem value16 : Cert.algebraic_Kernel16Ideal_Reference16Ideal := by
  intro m g m' g' _ hargs
  refine ⟨fun c => (Cert.Kernel16Ideal.Update.lead (Cert.Kernel16Ideal.Update.wantG (m ((c.tc : Thread Cert.Kernel16Ideal.nD Cert.Kernel16Ideal.τ).loc Cert.Kernel16Ideal.main_arg0)))),
    fun c => (Cert.Kernel16Ideal.Update.lead (Cert.Kernel16Ideal.Update.wantD (Cert.Kernel16Ideal.Update.wantG (m ((c.tc : Thread Cert.Kernel16Ideal.nD Cert.Kernel16Ideal.τ).loc Cert.Kernel16Ideal.main_arg0))) (Cert.Kernel16Ideal.Update.second (m ((c.tc : Thread Cert.Kernel16Ideal.nD Cert.Kernel16Ideal.τ).loc Cert.Kernel16Ideal.main_arg1))) (Cert.Kernel16Ideal.Update.second (m ((c.tc : Thread Cert.Kernel16Ideal.nD Cert.Kernel16Ideal.τ).loc Cert.Kernel16Ideal.main_arg2))) (Cert.Kernel16Ideal.Update.second (m ((c.tc : Thread Cert.Kernel16Ideal.nD Cert.Kernel16Ideal.τ).loc Cert.Kernel16Ideal.main_arg3))))),
    fun c => (Cert.Kernel16Ideal.Update.lead (Cert.Kernel16Ideal.Update.wantM (Cert.Kernel16Ideal.Update.wantG (m ((c.tc : Thread Cert.Kernel16Ideal.nD Cert.Kernel16Ideal.τ).loc Cert.Kernel16Ideal.main_arg0))) (Cert.Kernel16Ideal.Update.second (m ((c.tc : Thread Cert.Kernel16Ideal.nD Cert.Kernel16Ideal.τ).loc Cert.Kernel16Ideal.main_arg2))))),
    fun c => (Cert.Kernel16Ideal.Update.lead (Cert.Kernel16Ideal.Update.wantV (Cert.Kernel16Ideal.Update.wantG (m ((c.tc : Thread Cert.Kernel16Ideal.nD Cert.Kernel16Ideal.τ).loc Cert.Kernel16Ideal.main_arg0))) (Cert.Kernel16Ideal.Update.second (m ((c.tc : Thread Cert.Kernel16Ideal.nD Cert.Kernel16Ideal.τ).loc Cert.Kernel16Ideal.main_arg3))))), ?_, ?_⟩
  · refine (θ_run _ _ _).mono (fun r h c => ?_) (θ_run_and (Cert.Kernel16Ideal.Gen.run_main m g) (Cert.Kernel16Ideal.Gen.frame m g))
    exact ⟨((h.1 c).2 Cert.Kernel16Ideal.main_v4 (by decide)).trans ((Cert.Kernel16Ideal.Update.tail4 m c).trans (Cert.Kernel16Ideal.Update.result4 m c)), ((h.1 c).2 Cert.Kernel16Ideal.main_v5 (by decide)).trans ((Cert.Kernel16Ideal.Update.tail5 m c).trans (Cert.Kernel16Ideal.Update.result5 m c)), ((h.1 c).2 Cert.Kernel16Ideal.main_v6 (by decide)).trans ((Cert.Kernel16Ideal.Update.tail6 m c).trans (Cert.Kernel16Ideal.Update.result6 m c)), ((h.1 c).2 Cert.Kernel16Ideal.main_v7 (by decide)).trans ((Cert.Kernel16Ideal.Update.tail7 m c).trans (Cert.Kernel16Ideal.Update.result7 m c)), h.2.1 c⟩
  · refine (θ_run _ _ _).mono (fun r h c => ?_) (Cert.Reference16Ideal.Value.run m' g')
    obtain ⟨e0, e1, e2, e3⟩ := hargs c
    exact ⟨(h c).1.trans (by beta_reduce; rw [← e0] <;> rfl),
      (h c).2.1.trans (by beta_reduce; rw [← e0, ← e1, ← e2, ← e3] <;> rfl),
      (h c).2.2.1.trans (by beta_reduce; rw [← e0, ← e2] <;> rfl),
      (h c).2.2.2.1.trans (by beta_reduce; rw [← e0, ← e3] <;> rfl),
      (h c).2.2.2.2⟩

theorem reference16 : Cert.quiescent_Reference16Ideal := fun m g _ =>
  (θ_run _ _ _).mono (fun r h => ⟨fun c => (h c).2.2.2.2, sem_eq_zero_of_no_sems (by decide) r.2⟩)
    (Cert.Reference16Ideal.Value.run m g)

end Cert.Proof

end
-- ==== Proof.FlashHost.lean ====
module

public import proofs.«01_k».proof.Proof.FlashSetup
public import Idealize.ShloMosaic.Lib.StableHlo.RunRead
public import Idealize.ShloMosaic.Lib.Pointwise

@[expose] public section

/-! What the host hands the call, as functions of the program's arguments, one step at a time. -/

set_option maxRecDepth 8192

noncomputable section

namespace Cert.KernelIdeal.Gen

open Idealize.ShloMosaic Idealize.ShloMosaic.TcCoe
open Idealize.SL.Sem
open scoped BigOperators

/-- The scaled scores. -/
def kScores (a0 : FVec Ideal S4096x8x192 .f32) (a1 : FVec Ideal S4096x8x256 .f32) (a2 : FVec Ideal S4096x64 .f32) : FVec Ideal S8x4096x4096 .f32 :=
  mulf (addf (Host.dotGeneral dot_S4096x8x128_S4096x8x128_S8x4096x4096_2_2_0_0_1_1 none (extractStridedSlice S4096x8x128 ![0, 0, 0] a0 slices_S4096x8x192_S4096x8x128_0_0_0) (extractStridedSlice S4096x8x128 ![0, 0, 0] a1 slices_S4096x8x256_S4096x8x128_0_0_0)) (transpose S8x4096x4096 [2, 1, 0] (Host.dotGeneral dot_S4096x64_S4096x8x64_S4096x4096x8_1_2_0_01_n_n none a2 (extractStridedSlice S4096x8x64 ![0, 0, 128] a0 slices_S4096x8x192_S4096x8x64_0_0_128)) transposes_S4096x4096x8_S8x4096x4096_2_1_0)) (broadcastInDim S8x4096x4096 ![] bcast_S_S8x4096x4096 (Host.rsqrt (constant S_ .f32 0x43400000#32)))

/-- Which key rows a query row sees. -/
def kAllowed  : IVec S8x4096x4096 1 :=
  broadcastInDim S8x4096x4096 ![0, 1, 2] bcast_S1x4096x4096_S8x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The scores, masked. -/
def kMasked (a0 : FVec Ideal S4096x8x192 .f32) (a1 : FVec Ideal S4096x8x256 .f32) (a2 : FVec Ideal S4096x64 .f32) : FVec Ideal S8x4096x4096 .f32 :=
  select kAllowed (kScores a0 a1 a2) (broadcastInDim S8x4096x4096 ![] bcast_S_S8x4096x4096 (id (constant S_ .f32 0xFF800000#32)))

/-- The greatest score of each row. -/
def kTop (a0 : FVec Ideal S4096x8x192 .f32) (a1 : FVec Ideal S4096x8x256 .f32) (a2 : FVec Ideal S4096x64 .f32) : FVec Ideal S8x4096 .f32 :=
  Host.reduce FloatOps.maximumf (kMasked a0 a1 a2) (constant S_ .f32 0xFF800000#32) reducesTo_S8x4096x4096_S8x4096_d2 h_S_

/-- The exponentials of the scores lowered by the greatest. -/
def kLow (a0 : FVec Ideal S4096x8x192 .f32) (a1 : FVec Ideal S4096x8x256 .f32) (a2 : FVec Ideal S4096x64 .f32) : FVec Ideal S8x4096x4096 .f32 :=
  Host.exp (subf (kMasked a0 a1 a2) (broadcastInDim S8x4096x4096 ![0, 1, 2] bcast_S8x4096x1_S8x4096x4096_0_1_2 (broadcastInDim S8x4096x1 ![0, 1] bcast_S8x4096_S8x4096x1_0_1 (kTop a0 a1 a2))))

/-- The sums of the exponentials. -/
def kMass (a0 : FVec Ideal S4096x8x192 .f32) (a1 : FVec Ideal S4096x8x256 .f32) (a2 : FVec Ideal S4096x64 .f32) : FVec Ideal S8x4096x1 .f32 :=
  broadcastInDim S8x4096x1 ![0, 1] bcast_S8x4096_S8x4096x1_0_1 (Host.reduceAdd (kLow a0 a1 a2) (constant S_ .f32 0x00000000#32) reducesTo_S8x4096x4096_S8x4096_d2 h_S_)

/-- The logarithms of the sums, raised again. -/
def kLse (a0 : FVec Ideal S4096x8x192 .f32) (a1 : FVec Ideal S4096x8x256 .f32) (a2 : FVec Ideal S4096x64 .f32) : FVec Ideal S8x4096 .f32 :=
  shapeCast S8x4096 (addf (broadcastInDim S8x4096x1 ![0, 1] bcast_S8x4096_S8x4096x1_0_1 (kTop a0 a1 a2)) (Host.log (kMass a0 a1 a2))) shapeCasts_S8x4096x1_S8x4096

/-- The probabilities. -/
def kProb (a0 : FVec Ideal S4096x8x192 .f32) (a1 : FVec Ideal S4096x8x256 .f32) (a2 : FVec Ideal S4096x64 .f32) : FVec Ideal S8x4096x4096 .f32 :=
  Host.divf (kLow a0 a1 a2) (broadcastInDim S8x4096x4096 ![0, 1, 2] bcast_S8x4096x1_S8x4096x4096_0_1_2 (kMass a0 a1 a2))

/-- The result of the attention. -/
def kOut (a0 : FVec Ideal S4096x8x192 .f32) (a1 : FVec Ideal S4096x8x256 .f32) (a2 : FVec Ideal S4096x64 .f32) : FVec Ideal S4096x8x128 .f32 :=
  transpose S4096x8x128 [2, 0, 1] (Host.dotGeneral dot_S4096x8x128_S8x4096x4096_S8x128x4096_0_2_2_1_1_0 none (extractStridedSlice S4096x8x128 ![0, 0, 128] a1 slices_S4096x8x256_S4096x8x128_0_0_128) (kProb a0 a1 a2)) transposes_S8x128x4096_S4096x8x128_2_0_1

/-- What the rows are corrected by. -/
def kCorr (a0 : FVec Ideal S4096x8x192 .f32) (a1 : FVec Ideal S4096x8x256 .f32) (a2 : FVec Ideal S4096x64 .f32) (a3 : FVec Ideal S4096x8x128 .f32) : FVec Ideal S8x4096 .f32 :=
  transpose S8x4096 [1, 0] (Host.reduceAdd (mulf a3 (kOut a0 a1 a2)) (constant S_ .f32 0x00000000#32) reducesTo_S4096x8x128_S4096x8_d2 h_S_) transposes_S4096x8_S8x4096_1_0

/-- The queries, padded. -/
def kQ (a0 : FVec Ideal S4096x8x192 .f32) : FVec Ideal S8x4096x256 .bf16 :=
  concatenate S8x4096x256 2 [⟨S8x4096x192, (truncf .bf16 (transpose S8x4096x192 [1, 0, 2] a0 transposes_S4096x8x192_S8x4096x192_1_0_2) bitsLt_bf16_f32)⟩, ⟨S8x4096x64, (broadcastInDim S8x4096x64 ![] bcast_S_S8x4096x64 (constant S_ .bf16 0x0000#16))⟩] concatenates_S8x4096x192_S8x4096x64_S8x4096x256_d2

/-- The keys, padded. -/
def kK (a1 : FVec Ideal S4096x8x256 .f32) (a2 : FVec Ideal S4096x64 .f32) : FVec Ideal S8x4096x256 .bf16 :=
  concatenate S8x4096x256 2 [⟨S8x4096x128, (truncf .bf16 (transpose S8x4096x128 [1, 0, 2] (extractStridedSlice S4096x8x128 ![0, 0, 0] a1 slices_S4096x8x256_S4096x8x128_0_0_0) transposes_S4096x8x128_S8x4096x128_1_0_2) bitsLt_bf16_f32)⟩, ⟨S8x4096x64, (broadcastInDim S8x4096x64 ![0, 1, 2] bcast_S1x4096x64_S8x4096x64_0_1_2 (broadcastInDim S1x4096x64 ![1, 2] bcast_S4096x64_S1x4096x64_1_2 (truncf .bf16 a2 bitsLt_bf16_f32)))⟩, ⟨S8x4096x64, (broadcastInDim S8x4096x64 ![] bcast_S_S8x4096x64 (constant S_ .bf16 0x0000#16))⟩] concatenates_S8x4096x128_S8x4096x64_S8x4096x64_S8x4096x256_d2

/-- The keys and values side by side. -/
def kV (a1 : FVec Ideal S4096x8x256 .f32) : FVec Ideal S4096x2048 .bf16 :=
  truncf .bf16 (shapeCast S4096x2048 a1 shapeCasts_S4096x8x256_S4096x2048) bitsLt_bf16_f32

/-- The cotangent of the result. -/
def kG (a3 : FVec Ideal S4096x8x128 .f32) : FVec Ideal S4096x1024 .bf16 :=
  truncf .bf16 (shapeCast S4096x1024 a3 shapeCasts_S4096x8x128_S4096x1024) bitsLt_bf16_f32

/-- The logarithms, by halves of a tile. -/
def kLse4 (a0 : FVec Ideal S4096x8x192 .f32) (a1 : FVec Ideal S4096x8x256 .f32) (a2 : FVec Ideal S4096x64 .f32) : FVec Ideal S8x16x1x256 .f32 :=
  shapeCast S8x16x1x256 (kLse a0 a1 a2) shapeCasts_S8x4096_S8x16x1x256

/-- The corrections, by halves of a tile. -/
def kCorr4 (a0 : FVec Ideal S4096x8x192 .f32) (a1 : FVec Ideal S4096x8x256 .f32) (a2 : FVec Ideal S4096x64 .f32) (a3 : FVec Ideal S4096x8x128 .f32) : FVec Ideal S8x16x1x256 .f32 :=
  shapeCast S8x16x1x256 (kCorr a0 a1 a2 a3) shapeCasts_S8x4096_S8x16x1x256

variable (m : (ℓ : Loc nD τ sig) → Buf (Elt Ideal) ℓ) (c : Dev nD)

theorem V_v39 : V m c main_v39 = kQ (m ((c : Thread nD τ).loc main_arg0)) := by
  unfold kQ
  dsimp only [V]
  after_reads_simp
  rfl

theorem V_v46 : V m c main_v46 = kK (m ((c : Thread nD τ).loc main_arg1)) (m ((c : Thread nD τ).loc main_arg2)) := by
  unfold kK
  dsimp only [V]
  after_reads_simp
  rfl

theorem V_v48 : V m c main_v48 = kV (m ((c : Thread nD τ).loc main_arg1)) := by
  unfold kV
  dsimp only [V]
  after_reads_simp
  rfl

theorem V_v50 : V m c main_v50 = kG (m ((c : Thread nD τ).loc main_arg3)) := by
  unfold kG
  dsimp only [V]
  after_reads_simp
  rfl

theorem V_v51 : V m c main_v51 = kLse4 (m ((c : Thread nD τ).loc main_arg0)) (m ((c : Thread nD τ).loc main_arg1)) (m ((c : Thread nD τ).loc main_arg2)) := by
  unfold kLse4 kLse kMass kLow kTop kMasked kAllowed kScores
  dsimp only [V]
  after_reads_simp
  rfl

theorem V_v52 : V m c main_v52 = kCorr4 (m ((c : Thread nD τ).loc main_arg0)) (m ((c : Thread nD τ).loc main_arg1)) (m ((c : Thread nD τ).loc main_arg2)) (m ((c : Thread nD τ).loc main_arg3)) := by
  unfold kCorr4 kCorr kOut kProb kMass kLow kTop kMasked kAllowed kScores
  dsimp only [V]
  after_reads_simp
  rfl

end Cert.KernelIdeal.Gen

end
-- ==== Proof.FlashMath.lean ====
module

public import Idealize.ShloMosaic.PureOps.Ideal
public import Idealize.ShloMosaic.Lib.Pointwise

@[expose] public section

/-! The backward pass of one head of causal attention over the real numbers: what its softmax gives and what its
three gradients are. -/

noncomputable section

namespace Cert.Attn

open Idealize.ShloMosaic

/-- The rows of one head: queries and keys over 256 lanes, values and the result's cotangent over 128. -/
structure Head where
  q : Fin 4096 → Fin 256 → ℝ
  k : Fin 4096 → Fin 256 → ℝ
  v : Fin 4096 → Fin 128 → ℝ
  g : Fin 4096 → Fin 128 → ℝ

namespace Head

variable (X : Head)

/-- The product of query row `i` and key row `j`. -/
def dot (i j : Fin 4096) : ℝ := ∑ d, X.k j d * X.q i d

/-- The scaled score of query row `i` and key row `j`. -/
def score (i j : Fin 4096) : ℝ := X.dot i j * (Real.sqrt 192)⁻¹

/-- The sum of the exponentials a row sees. -/
def mass (i : Fin 4096) : ℝ := ∑ j, if j ≤ i then Real.exp (X.score i j) else 0

/-- The logarithm of a row's sum of exponentials. -/
def lse (i : Fin 4096) : ℝ := Real.log (X.mass i)

/-- The probability query row `i` gives key row `j`. -/
def prob (i j : Fin 4096) : ℝ := if j ≤ i then Real.exp (X.score i j - X.lse i) else 0

/-- The cotangent of a probability. -/
def dprob (i j : Fin 4096) : ℝ := ∑ d, X.v j d * X.g i d

/-- The correction of a row: its probabilities' mean cotangent. -/
def corr (i : Fin 4096) : ℝ := ∑ j, X.prob i j * X.dprob i j

/-- The cotangent of a product of a query row and a key row. -/
def dscore (i j : Fin 4096) : ℝ := X.prob i j * (X.dprob i j - X.corr i) * (Real.sqrt 192)⁻¹

/-- The gradient of the values. -/
def dv (j : Fin 4096) (d : Fin 128) : ℝ := ∑ i, X.prob i j * X.g i d

/-- The gradient of the keys. -/
def dk (j : Fin 4096) (d : Fin 256) : ℝ := ∑ i, X.dscore i j * X.q i d

/-- The gradient of the queries. -/
def dq (i : Fin 4096) (d : Fin 256) : ℝ := ∑ j, X.k j d * X.dscore i j

theorem mass_pos (i : Fin 4096) : 0 < X.mass i := by
  refine Finset.sum_pos' (fun j _ => ?_) ⟨i, Finset.mem_univ _, ?_⟩
  · split_ifs
    · exact (Real.exp_pos _).le
    · exact le_refl _
  · rw [if_pos (le_refl i)]
    exact Real.exp_pos _

theorem prob_of_lt {i j : Fin 4096} (h : i < j) : X.prob i j = 0 := if_neg (not_le.mpr h)

theorem dscore_of_lt {i j : Fin 4096} (h : i < j) : X.dscore i j = 0 := by
  unfold dscore
  rw [X.prob_of_lt h, zero_mul, zero_mul]

/-- The exponential of a score lowered by `M`, of a row that sees it. -/
def low (M : ℝ) (i j : Fin 4096) : ℝ := if j ≤ i then Real.exp (X.score i j - M) else 0

theorem sum_low (M : ℝ) (i : Fin 4096) : ∑ j, X.low M i j = X.mass i * Real.exp (-M) := by
  unfold mass low
  rw [Finset.sum_mul]
  refine Finset.sum_congr rfl fun j _ => ?_
  split_ifs
  · rw [sub_eq_add_neg, Real.exp_add]
  · rw [zero_mul]

theorem sum_low_pos (M : ℝ) (i : Fin 4096) : 0 < ∑ j, X.low M i j := by
  rw [sum_low]
  exact mul_pos (X.mass_pos i) (Real.exp_pos _)

/-- Whatever a row's scores are lowered by, the logarithm of their sum of exponentials, raised again, is the row's. -/
theorem lse_low (M : ℝ) (i : Fin 4096) : M + Real.log (∑ j, X.low M i j) = X.lse i := by
  rw [sum_low, Real.log_mul (X.mass_pos i).ne' (Real.exp_pos _).ne', Real.log_exp]
  unfold lse
  ring

/-- Whatever a row's scores are lowered by, the quotients are the probabilities. -/
theorem prob_low (M : ℝ) (i j : Fin 4096) : X.low M i j / (∑ k, X.low M i k) = X.prob i j := by
  rw [sum_low]
  unfold low prob
  split_ifs
  · rw [Real.exp_sub, Real.exp_sub, lse, Real.exp_log (X.mass_pos i), Real.exp_neg]
    have h1 := (X.mass_pos i).ne'
    have h2 := (Real.exp_pos M).ne'
    field_simp
  · rw [zero_div]

/-- The correction is the mean of the attention's result under the cotangent. -/
theorem corr_result (i : Fin 4096) : ∑ d, X.g i d * ∑ j, X.v j d * X.prob i j = X.corr i := by
  unfold corr dprob
  simp only [Finset.mul_sum]
  rw [Finset.sum_comm]
  exact Finset.sum_congr rfl fun j _ => Finset.sum_congr rfl fun d _ => by ring

/-- The score's cotangent, of the quotients written out. -/
theorem dscore_low (M : ℝ) (i j : Fin 4096) :
    (if j ≤ i then (X.dprob i j / (∑ k, X.low M i k) + -(∑ k, X.dprob i k * (1 / ((∑ k, X.low M i k) * (∑ k, X.low M i k))) * X.low M i k)) * X.low M i j else 0)
      * (Real.sqrt 192)⁻¹ = X.dscore i j := by
  unfold dscore
  congr 1
  split_ifs with h
  · have hl := (X.sum_low_pos M i).ne'
    have hc : (∑ k, X.dprob i k * (1 / ((∑ k, X.low M i k) * (∑ k, X.low M i k))) * X.low M i k) = X.corr i / (∑ k, X.low M i k) := by
      unfold corr
      rw [Finset.sum_div]
      refine Finset.sum_congr rfl fun k _ => ?_
      rw [← X.prob_low M i k]
      field_simp
    rw [hc, ← X.prob_low M i j]
    field_simp
    ring
  · rw [X.prob_of_lt (not_le.mp h), zero_mul]

end Head

/-! ## Finite sums of real numbers among the extended ones -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_mul {ι : Type} (s : Finset ι) (f g : ι → ℝ) : ∑ i ∈ s, ((f i : ℝ) : EReal) * ((g i : ℝ) : EReal) = ((∑ i ∈ s, f i * g i : ℝ) : EReal) := by
  rw [← coe_sum]
  exact Finset.sum_congr rfl fun i _ => (EReal.coe_mul _ _).symm

/-- A sum over the rows is a sum over the tiles of 512 rows. -/
theorem sum_rows (f : Fin 4096 → ℝ) : ∑ i, f i = ∑ c : Fin 8, ∑ r : Fin 512, f ⟨512 * c.val + r.val, by omega⟩ := by
  refine (Fin.sum_univ_tiles 8 512 rfl f).trans (Finset.sum_congr rfl fun c _ => Finset.sum_congr rfl fun r _ => ?_)
  exact congrArg f (Fin.ext (by show c.val * 512 + r.val = 512 * c.val + r.val; omega))

end Cert.Attn

end
-- ==== Proof.FlashArgs.lean ====
module

public import proofs.«01_k».proof.Proof.FlashMath
public import Idealize.ShloMosaic.Lib.WordCmp

@[expose] public section

/-! The arguments of the attention over the real numbers, and the steps of a softmax read on the extended reals. -/

noncomputable section

namespace Cert.Attn

open Idealize.ShloMosaic

/-- The arguments: queries of eight heads, keys and values side by side, the rotated part of the keys (the heads share
it), and the result's cotangent. -/
structure Args where
  q : Fin 4096 → Fin 8 → Fin 192 → ℝ
  kv : Fin 4096 → Fin 8 → Fin 256 → ℝ
  kr : Fin 4096 → Fin 64 → ℝ
  ct : Fin 4096 → Fin 8 → Fin 128 → ℝ

namespace Args

variable (A : Args)

/-- One head's rows, the queries and keys padded by zeros to 256 lanes. -/
def head (h : Fin 8) : Head where
  q i d := if hd : d.val < 192 then A.q i h ⟨d.val, hd⟩ else 0
  k j d := if hd : d.val < 128 then A.kv j h ⟨d.val, by omega⟩ else if he : d.val < 192 then A.kr j ⟨d.val - 128, by omega⟩ else 0
  v j d := A.kv j h ⟨128 + d.val, by omega⟩
  g i d := A.ct i h d

theorem sum_lanes (f : Fin 256 → ℝ) :
    ∑ d, f d = ((∑ d : Fin 128, f ⟨d.val, by omega⟩) + ∑ r : Fin 64, f ⟨128 + r.val, by omega⟩) + ∑ r : Fin 64, f ⟨192 + r.val, by omega⟩ := by
  have h1 := Fin.sum_univ_add (a := 192) (b := 64) (f := fun i : Fin (192 + 64) => f i)
  have h2 := Fin.sum_univ_add (a := 128) (b := 64) (f := fun i : Fin (128 + 64) => f ⟨i.val, by omega⟩)
  exact h1.trans (congrArg (· + _) h2)

/-- A product of a query row and a key row, part by part. -/
theorem dot_head (h : Fin 8) (i j : Fin 4096) :
    (A.head h).dot i j = (∑ d : Fin 128, A.q i h ⟨d.val, by omega⟩ * A.kv j h ⟨d.val, by omega⟩) + ∑ r : Fin 64, A.q i h ⟨128 + r.val, by omega⟩ * A.kr j r := by
  unfold Head.dot
  rw [sum_lanes, show (∑ r : Fin 64, (A.head h).k j ⟨192 + r.val, by omega⟩ * (A.head h).q i ⟨192 + r.val, by omega⟩) = 0 from ?_, add_zero]
  · congr 1
    · refine Finset.sum_congr rfl fun d _ => ?_
      rw [mul_comm]
      simp only [head]
      rw [dif_pos (by omega), dif_pos (by omega)]
    · refine Finset.sum_congr rfl fun r _ => ?_
      rw [mul_comm]
      simp only [head]
      rw [dif_pos (by omega), dif_neg (by omega), dif_pos (by omega)]
      congr 2
      exact Fin.ext (by simp)
  · refine Finset.sum_eq_zero fun r _ => ?_
    simp only [head]
    rw [dif_neg (by omega), dif_neg (by omega), zero_mul]

/-- The gradient of the keys and values side by side, at a row and a column of the eight heads together. -/
def gradKV (j : Fin 4096) (e : Fin 2048) : ℝ :=
  if h : e.val % 256 < 128 then (A.head ⟨e.val / 256, by omega⟩).dk j ⟨e.val % 256, by omega⟩
  else (A.head ⟨e.val / 256, by omega⟩).dv j ⟨e.val % 256 - 128, by omega⟩

/-- The gradient of the rotated part of the keys, at a head, a row and a lane. -/
def gradKR (h : Fin 8) (j : Fin 4096) (d : Fin 128) : ℝ := (A.head h).dk j ⟨128 + d.val, by omega⟩

/-- The array of the queries' gradient. -/
def wantDq : FVec Ideal ⟨3, ![8, 4096, 256]⟩ .f32 := fun y => (((A.head (y 0)).dq (y 1) (y 2) : ℝ) : EReal)

/-- The array of the keys' and values' gradients. -/
def wantDkv : FVec Ideal ⟨2, ![4096, 2048]⟩ .bf16 := fun y => ((A.gradKV (y 0) (y 1) : ℝ) : EReal)

/-- The array of the gradient of the keys' rotated part. -/
def wantDkr : FVec Ideal ⟨3, ![8, 4096, 128]⟩ .f32 := fun y => ((A.gradKR (y 0) (y 1) (y 2) : ℝ) : EReal)

end Args

/-! ## One row of a softmax -/

/-- The greatest of a row's scores is a real number. -/
theorem fold_top (i : Fin 4096) (f : Fin 4096 → ℝ) :
    ∃ M : ℝ, (Finset.univ.fold max (⊥ : EReal) fun j : Fin 4096 => if j ≤ i then ((f j : ℝ) : EReal) else ⊥) = (M : EReal) := by
  generalize hx : (Finset.univ.fold max (⊥ : EReal) fun j : Fin 4096 => if j ≤ i then ((f j : ℝ) : EReal) else ⊥) = x
  have h1 : x ≠ ⊤ := by
    rw [← hx]
    refine ((Finset.fold_max_lt ⊤).mpr ⟨bot_lt_top, fun j _ => ?_⟩).ne
    split_ifs
    · exact EReal.coe_lt_top _
    · exact bot_lt_top
  have h2 : x ≠ ⊥ := by
    rw [← hx]
    refine ((Finset.lt_fold_max ⊥).mpr (Or.inr ⟨i, Finset.mem_univ _, ?_⟩)).ne'
    rw [if_pos (le_refl i)]
    exact EReal.bot_lt_coe _
  exact ⟨x.toReal, (EReal.coe_toReal h1 h2).symm⟩

/-- The exponential of a masked score lowered by a real number. -/
theorem exp_low (p : Prop) [Decidable p] (S M : ℝ) :
    Ideal.exp ((if p then ((S : ℝ) : EReal) else ⊥) - ((M : ℝ) : EReal)) = ((if p then Real.exp (S - M) else 0 : ℝ) : EReal) := by
  split_ifs
  · rw [← EReal.coe_sub, Ideal.exp_coe]
  · rw [EReal.bot_sub, Ideal.exp_bot, EReal.coe_zero]

theorem div_low (a b : ℝ) (hb : b ≠ 0) : Ideal.div ((a : ℝ) : EReal) ((b : ℝ) : EReal) = ((a / b : ℝ) : EReal) := by
  rw [Ideal.div_coe hb, ← EReal.coe_mul, mul_one_div]

theorem log_pos (r : ℝ) (h : 0 < r) : Ideal.log ((r : ℝ) : EReal) = ((Real.log r : ℝ) : EReal) := by
  rw [Ideal.log_coe, if_neg (not_le.mpr h)]

theorem ofBits_bot : Ideal.ofBits FTy.f32 4286578688#32 = ⊥ := by simp [Ideal.ofBits, Ideal.ieee]

theorem ofBits_192 : Ideal.ofBits FTy.f32 1128267776#32 = ((192 : ℝ) : EReal) := by
  simp [Ideal.ofBits, Ideal.ieee, -EReal.coe_mul]
  norm_num

theorem rsqrt_192 : Ideal.rsqrt ((192 : ℝ) : EReal) = (((Real.sqrt 192)⁻¹ : ℝ) : EReal) := by
  rw [Ideal.rsqrt_coe, if_neg (by norm_num), if_neg (by norm_num)]

theorem sle_rows (i j : Fin 4096) :
    IntOp.cmpi .sle (BitVec.ofNat 32 j.val) (BitVec.ofNat 32 i.val) = BitVec.ofBool (decide (j ≤ i)) := by
  exact WordCmp.cmpi_sle_ofNat (by omega) (by omega)

end Cert.Attn

end
-- ==== Proof.FlashTile.lean ====
module

public import proofs.«01_k».proof.Proof.FlashHead
public import proofs.«01_k».proof.Proof.FlashMath
public import Idealize.ShloMosaic.Lib.Pointwise
public import Idealize.ShloMosaic.Lib.WordCmp

@[expose] public section

/-! One pair of tiles over the real numbers: what its scores, products and probabilities are, and what it adds to the
three accumulators. -/

set_option maxRecDepth 16384

noncomputable section

namespace Cert.KernelIdeal.Gen

open Idealize.ShloMosaic Idealize.ShloMosaic.TcCoe
open Idealize.SL.Sem

/-- Row `r` of tile `c`. -/
def row (c : Fin 8) (r : Fin 512) : Fin 4096 := ⟨512 * c.val + r.val, by omega⟩

/-- Row `b` of half tile `a`. -/
def halfRow (a : Fin 16) (b : Fin 256) : Fin 4096 := ⟨256 * a.val + b.val, by omega⟩

theorem off7_eq (p : Fin 37) : k0_off7 (keyWord p) = ![0, 512 * (keyTile p).val, 0] := by revert p; decide
theorem off9_eq (p : Fin 37) : k0_off9 (qryWord p) = ![0, 512 * (qryTile p).val, 0] := by revert p; decide
theorem off8_eq (p : Fin 37) : k0_off8 (keyWord p) = ![512 * (keyTile p).val, 0] := by revert p; decide
theorem off10_eq (p : Fin 37) : k0_off10 (qryWord p) = ![512 * (qryTile p).val, 0] := by revert p; decide
theorem off13_eq (p : Fin 37) : k0_off13 (qryWord p) = ![0, 512 * (qryTile p).val, 0] := by revert p; decide
theorem off14_eq (p : Fin 37) : k0_off14 (qryWord p) = ![512 * (qryTile p).val, 0] := by revert p; decide
theorem off15_eq0 (p : Fin 37) : k0_off15 (qryWord p) 0#32 = ![0, 2 * (qryTile p).val, 0, 0] := by revert p; decide
theorem off15_eq1 (p : Fin 37) : k0_off15 (qryWord p) 1#32 = ![0, 2 * (qryTile p).val + 1, 0, 0] := by revert p; decide
theorem off16_eq (p : Fin 37) : k0_off16 (keyWord p) = ![(keyTile p).val, 0, 0] := by revert p; decide
theorem off17_eq (p : Fin 37) : k0_off17 (keyWord p) = ![(keyTile p).val, 0, 0] := by revert p; decide
theorem off18_eq (p : Fin 37) : k0_off18 (qryWord p) = ![(qryTile p).val, 0, 0] := by revert p; decide
theorem off19_eq (p : Fin 37) : k0_off19 (keyWord p) = ![(keyTile p).val, 0, 0] := by revert p; decide
theorem off1_eq : k0_off1 (keyWord 0) = ![0, 512 * (keyTile 0).val, 0] := by decide
theorem off3_eq : k0_off3 (qryWord 0) = ![0, 512 * (qryTile 0).val, 0] := by decide
theorem off2_eq : k0_off2 (keyWord 0) = ![512 * (keyTile 0).val, 0] := by decide
theorem off4_eq : k0_off4 (qryWord 0) = ![512 * (qryTile 0).val, 0] := by decide

theorem key_le_qry : ∀ p, keyTile p ≤ qryTile p := by decide
theorem words_eq : ∀ p, Scalar.cmpi .eq (keyWord p) (qryWord p) = BitVec.ofBool (decide (keyTile p = qryTile p)) := by decide

theorem ix2_congr {a b : ℕ} {x x' : Fin a} {y y' : Fin b} (hx : x.val = x'.val) (hy : y.val = y'.val) :
    ix2 x y = ix2 x' y' := by
  obtain rfl := Fin.ext hx
  obtain rfl := Fin.ext hy
  rfl

theorem ix4_congr {a b c e : ℕ} {x x' : Fin a} {y y' : Fin b} {z z' : Fin c} {w w' : Fin e} (hx : x.val = x'.val) (hy : y.val = y'.val)
    (hz : z.val = z'.val) (hw : w.val = w'.val) : ix4 x y z w = ix4 x' y' z' w' := by
  obtain rfl := Fin.ext hx
  obtain rfl := Fin.ext hy
  obtain rfl := Fin.ext hz
  obtain rfl := Fin.ext hw
  rfl

theorem named_exp2_scale : (Named.named κ "exp2_scale" 0x3DD53B95#32 : Ideal .f32) = (((Real.sqrt 192)⁻¹ * (Real.log 2)⁻¹ : ℝ) : EReal) :=
  IdealRules.named_const.ideal_named_scalar _ _ _ _ rfl
theorem named_log2e : (Named.named κ "log2e" 0x3FB8AA3B#32 : Ideal .f32) = (((Real.log 2)⁻¹ : ℝ) : EReal) :=
  IdealRules.named_const.ideal_named_scalar _ _ _ _ rfl
theorem named_scale : (Named.named κ "scale" 0x3D93CD3A#32 : Ideal .f32) = (((Real.sqrt 192)⁻¹ : ℝ) : EReal) :=
  IdealRules.named_const.ideal_named_scalar _ _ _ _ rfl

/-- A power of two, its exponent a real number in units of the logarithm of two. -/
theorem exp2_units (S L : ℝ) :
    Ideal.exp2 ((((S : ℝ) : EReal) + 0) * (((Real.sqrt 192)⁻¹ * (Real.log 2)⁻¹ : ℝ) : EReal) - ((L : ℝ) : EReal) * (((Real.log 2)⁻¹ : ℝ) : EReal))
      = ((Real.exp (S * (Real.sqrt 192)⁻¹ - L) : ℝ) : EReal) := by
  have h2 : Real.log 2 ≠ 0 := (Real.log_pos (by norm_num)).ne'
  rw [add_zero, ← EReal.coe_mul, ← EReal.coe_mul, ← EReal.coe_sub, Ideal.exp2_coe]
  refine congrArg _ ?_
  show (2 : ℝ) ^ (_ : ℝ) = _
  rw [Real.rpow_def_of_pos (by norm_num)]
  congr 1
  field_simp

/-- A power of two below everything. -/
theorem exp2_masked (S L : ℝ) :
    Ideal.exp2 ((((S : ℝ) : EReal) + ⊥) * (((Real.sqrt 192)⁻¹ * (Real.log 2)⁻¹ : ℝ) : EReal) - ((L : ℝ) : EReal) * (((Real.log 2)⁻¹ : ℝ) : EReal)) = 0 := by
  have h2 : 0 < Real.log 2 := Real.log_pos (by norm_num)
  have h3 : 0 < (Real.sqrt 192)⁻¹ := inv_pos.mpr (Real.sqrt_pos.mpr (by norm_num))
  rw [EReal.add_bot, EReal.bot_mul_coe_of_pos (mul_pos h3 (inv_pos.mpr h2)), ← EReal.coe_mul, EReal.bot_sub]
  rfl

/-- The mask of a diagonal tile: key row `b`, query row `r`. -/
theorem bias_at (b r : Fin 512) : (k0_pay29 (F := Ideal)) (ix2 b r) = if b ≤ r then (0 : EReal) else ⊥ := by
  pointwise [k0_pay29]
  rw [WordCmp.cmpi_sle_ofNat (by have := b.isLt; omega) (by have := r.isLt; omega)]
  have hb : Ideal.ofBits FTy.f32 4286578688#32 = (⊥ : EReal) := by simp [Ideal.ofBits, Ideal.ieee]
  rw [hb]
  by_cases h : b ≤ r
  · rw [if_pos h, decide_eq_true (show b.val ≤ r.val from h)]
    rfl
  · rw [if_neg h, decide_eq_false (show ¬ b.val ≤ r.val from h)]
    rfl

/-- What a head's inputs hold, as real numbers. -/
structure Reads (X : FlashIn Ideal) (R : Cert.Attn.Head) : Prop where
  q : ∀ i d, X.xq (ix3 0 i d) = ((R.q i d : ℝ) : EReal)
  k : ∀ i d, X.xk (ix3 0 i d) = ((R.k i d : ℝ) : EReal)
  v : ∀ i d, X.xv (ix2 i d) = ((R.v i d : ℝ) : EReal)
  o : ∀ i d, X.xo (ix2 i d) = ((R.g i d : ℝ) : EReal)
  l : ∀ a b, X.xl (ix4 0 a 0 b) = ((R.lse (halfRow a b) : ℝ) : EReal)
  d : ∀ a b, X.xd (ix4 0 a 0 b) = ((R.corr (halfRow a b) : ℝ) : EReal)
  kt : ∀ c d r, X.kt (ix3 c d r) = ((R.k (row c r) d : ℝ) : EReal)
  bias : ∀ b r, X.bias (ix2 b r) = if b ≤ r then (0 : EReal) else ⊥
  s0 : ∀ b r, X.s0 (ix3 0 b r) = ((R.dot (row (qryTile 0) r) (row (keyTile 0) b) : ℝ) : EReal)
  d0 : ∀ b r, X.d0 (ix3 0 b r) = ((R.dprob (row (qryTile 0) r) (row (keyTile 0) b) : ℝ) : EReal)
  dq0 : ∀ y, X.a0.dq y = (0 : EReal)
  dk0 : ∀ y, X.a0.dk y = (0 : EReal)
  dv0 : ∀ y, X.a0.dv y = (0 : EReal)

/-- The blocks of a head that hold real numbers give the loop such inputs. -/
theorem reads_head (R : Cert.Attn.Head) (xq xk : Vec Ideal S1x4096x256 .bf16) (xv xo : Vec Ideal S4096x128 .bf16) (xl xd : Vec Ideal S1x16x1x256 .f32)
    (hq : ∀ i d, xq (ix3 0 i d) = ((R.q i d : ℝ) : EReal)) (hk : ∀ i d, xk (ix3 0 i d) = ((R.k i d : ℝ) : EReal))
    (hv : ∀ i d, xv (ix2 i d) = ((R.v i d : ℝ) : EReal)) (ho : ∀ i d, xo (ix2 i d) = ((R.g i d : ℝ) : EReal))
    (hl : ∀ a b, xl (ix4 0 a 0 b) = ((R.lse (halfRow a b) : ℝ) : EReal)) (hd : ∀ a b, xd (ix4 0 a 0 b) = ((R.corr (halfRow a b) : ℝ) : EReal)) :
    Reads (flashHead xq xk xv xo xl xd) R where
  q := hq
  k := hk
  v := hv
  o := ho
  l := hl
  d := hd
  kt c d r := hk (row c r) d
  bias := bias_at
  s0 b r := by
    show k0_pay24 _ _ (ix3 0 b r) = _
    pointwise [k0_pay24]
    refine Eq.trans (Finset.sum_congr rfl fun x _ => congrArg₂ (· * ·) ((congrArg xk (ix3_congr ?_ ?_ ?_)).trans (hk (row (keyTile 0) b) x)) ((congrArg xq (ix3_congr ?_ ?_ ?_)).trans (hq (row (qryTile 0) r) x))) (Cert.Attn.coe_sum_mul _ _ _)
    all_goals simp [off1_eq, off3_eq, row]
  d0 b r := by
    show k0_pay25 _ _ (ix3 0 b r) = _
    pointwise [k0_pay25]
    refine Eq.trans (Finset.sum_congr rfl fun x _ => congrArg₂ (· * ·) ((congrArg xv (ix2_congr ?_ ?_)).trans (hv (row (keyTile 0) b) x)) ((congrArg xo (ix2_congr ?_ ?_)).trans (ho (row (qryTile 0) r) x))) (Cert.Attn.coe_sum_mul _ _ _)
    all_goals simp [off2_eq, off4_eq, row]
  dq0 y := by
    show k0_pay26 y = _
    pointwise [k0_pay26]
  dk0 y := by
    show k0_pay27 y = _
    pointwise [k0_pay27]
  dv0 y := by
    show k0_pay28 y = _
    pointwise [k0_pay28]

namespace Reads

variable {X : FlashIn Ideal} {R : Cert.Attn.Head} (H : Reads X R) (p : Fin 37)

include H

/-- A pair's scores, unscaled. -/
theorem score_at (b r : Fin 512) : X.score p (ix3 0 b r) = ((R.dot (row (qryTile p) r) (row (keyTile p) b) : ℝ) : EReal) := by
  by_cases hp : p.val = 0
  · obtain rfl : p = 0 := Fin.ext hp
    exact H.s0 b r
  · rw [FlashIn.score_pos _ _ hp]
    unfold FlashIn.scoreOf
    pointwise [k0_pay2]
    refine Eq.trans (Finset.sum_congr rfl fun x _ => congrArg₂ (· * ·) ((congrArg X.xk (ix3_congr ?_ ?_ ?_)).trans (H.k (row (keyTile p) b) x)) ((congrArg X.xq (ix3_congr ?_ ?_ ?_)).trans (H.q (row (qryTile p) r) x))) (Cert.Attn.coe_sum_mul _ _ _)
    all_goals simp [off7_eq, off9_eq, row]

/-- A pair's products of values and cotangents. -/
theorem prod_at (b r : Fin 512) : X.prod p (ix3 0 b r) = ((R.dprob (row (qryTile p) r) (row (keyTile p) b) : ℝ) : EReal) := by
  by_cases hp : p.val = 0
  · obtain rfl : p = 0 := Fin.ext hp
    exact H.d0 b r
  · rw [FlashIn.prod_pos _ _ hp]
    unfold FlashIn.prodOf
    pointwise [k0_pay3]
    refine Eq.trans (Finset.sum_congr rfl fun x _ => congrArg₂ (· * ·) ((congrArg X.xv (ix2_congr ?_ ?_)).trans (H.v (row (keyTile p) b) x)) ((congrArg X.xo (ix2_congr ?_ ?_)).trans (H.o (row (qryTile p) r) x))) (Cert.Attn.coe_sum_mul _ _ _)
    all_goals simp [off8_eq, off10_eq, row]

theorem lse_at0 (r : Fin 256) : X.lse p 0 (ix4 0 0 0 r) = ((R.lse (row (qryTile p) ⟨r.val, by omega⟩) : ℝ) : EReal) := by
  unfold FlashIn.lse
  pointwise
  refine (congrArg X.xl (ix4_congr (y' := ⟨2 * (qryTile p).val, by omega⟩) ?_ ?_ ?_ ?_)).trans ((H.l _ r).trans ?_)
  all_goals simp [off15_eq0]
  exact congrArg _ (Fin.ext (by simp only [row, halfRow]; omega))

theorem lse_at1 (r : Fin 256) : X.lse p 1 (ix4 0 0 0 r) = ((R.lse (row (qryTile p) ⟨256 + r.val, by omega⟩) : ℝ) : EReal) := by
  unfold FlashIn.lse
  pointwise
  refine (congrArg X.xl (ix4_congr (y' := ⟨2 * (qryTile p).val + 1, by omega⟩) ?_ ?_ ?_ ?_)).trans ((H.l _ r).trans ?_)
  all_goals simp [off15_eq1]
  exact congrArg _ (Fin.ext (by simp only [row, halfRow]; omega))

theorem corr_at0 (r : Fin 256) : X.corr p 0 (ix4 0 0 0 r) = ((R.corr (row (qryTile p) ⟨r.val, by omega⟩) : ℝ) : EReal) := by
  unfold FlashIn.corr
  pointwise
  refine (congrArg X.xd (ix4_congr (y' := ⟨2 * (qryTile p).val, by omega⟩) ?_ ?_ ?_ ?_)).trans ((H.d _ r).trans ?_)
  all_goals simp [off15_eq0]
  exact congrArg _ (Fin.ext (by simp only [row, halfRow]; omega))

theorem corr_at1 (r : Fin 256) : X.corr p 1 (ix4 0 0 0 r) = ((R.corr (row (qryTile p) ⟨256 + r.val, by omega⟩) : ℝ) : EReal) := by
  unfold FlashIn.corr
  pointwise
  refine (congrArg X.xd (ix4_congr (y' := ⟨2 * (qryTile p).val + 1, by omega⟩) ?_ ?_ ?_ ?_)).trans ((H.d _ r).trans ?_)
  all_goals simp [off15_eq1]
  exact congrArg _ (Fin.ext (by simp only [row, halfRow]; omega))

/-- A pair's probabilities. -/
theorem prob_at (b r : Fin 512) : X.prob p (X.score p) (ix2 b r) = ((R.prob (row (qryTile p) r) (row (keyTile p) b) : ℝ) : EReal) := by
  have hl : (if h : r.val < 256 then X.lse p 0 (ix4 0 0 0 ⟨r.val, h⟩) else X.lse p 1 (ix4 0 0 0 ⟨r.val - 256, by omega⟩)) = ((R.lse (row (qryTile p) r) : ℝ) : EReal) := by
    split_ifs with h
    · exact H.lse_at0 p _
    · refine (H.lse_at1 p _).trans (congrArg (fun z => ((R.lse (row (qryTile p) z) : ℝ) : EReal)) (Fin.ext ?_))
      show 256 + (r.val - 256) = r.val
      omega
  unfold FlashIn.prob
  generalize X.lse p 0 = x0 at hl ⊢
  generalize X.lse p 1 = x1 at hl ⊢
  have hs := H.score_at p b r
  generalize X.score p = s at hs ⊢
  pointwise [k0_pay6]
  rw [hs, hl, words_eq, named_exp2_scale, named_log2e, H.bias]
  show Ideal.exp2 _ = _
  unfold Cert.Attn.Head.prob Cert.Attn.Head.score
  have hk := key_le_qry p
  by_cases ht : keyTile p = qryTile p
  · rw [decide_eq_true ht]
    by_cases hbr : b ≤ r
    · rw [if_pos hbr, if_pos (show row (keyTile p) b ≤ row (qryTile p) r by rw [ht]; simp only [row, Fin.le_def] at *; omega)]
      exact exp2_units _ _
    · rw [if_neg hbr, if_neg (show ¬ row (keyTile p) b ≤ row (qryTile p) r by rw [ht]; simp only [row, Fin.le_def] at *; omega)]
      exact exp2_masked _ _
  · rw [decide_eq_false ht, if_pos (show row (keyTile p) b ≤ row (qryTile p) r by
      have := Fin.val_ne_of_ne ht; simp only [row, Fin.le_def] at *; omega)]
    exact exp2_units _ _

/-- A pair's cotangents of the products of query and key rows. -/
theorem dscore_at (b r : Fin 512) : k0_pay7 (X.prob p (X.score p)) (X.prod p) (X.corr p 0) (X.corr p 1) (ix2 b r) = ((R.dscore (row (qryTile p) r) (row (keyTile p) b) : ℝ) : EReal) := by
  have hl : (if h : r.val < 256 then X.corr p 0 (ix4 0 0 0 ⟨r.val, h⟩) else X.corr p 1 (ix4 0 0 0 ⟨r.val - 256, by omega⟩)) = ((R.corr (row (qryTile p) r) : ℝ) : EReal) := by
    split_ifs with h
    · exact H.corr_at0 p _
    · refine (H.corr_at1 p _).trans (congrArg (fun z => ((R.corr (row (qryTile p) z) : ℝ) : EReal)) (Fin.ext ?_))
      show 256 + (r.val - 256) = r.val
      omega
  generalize X.corr p 0 = x0 at hl ⊢
  generalize X.corr p 1 = x1 at hl ⊢
  have hs := H.prod_at p b r
  generalize X.prod p = s at hs ⊢
  have hp := H.prob_at p b r
  generalize X.prob p (X.score p) = pr at hp ⊢
  pointwise [k0_pay7]
  rw [hs, hl, hp, named_scale, ← EReal.coe_sub, ← EReal.coe_mul, ← EReal.coe_mul]
  rfl

end Reads

end Cert.KernelIdeal.Gen

end
-- ==== Proof.FlashStat.lean ====
module

public import proofs.«01_k».proof.Proof.FlashHost
public import proofs.«01_k».proof.Proof.FlashArgs
public import proofs.«01_k».proof.Proof.FlashTile

@[expose] public section

/-! What the host hands the call, at an index, for arguments that are real numbers. -/

set_option maxRecDepth 8192

noncomputable section

namespace Cert.KernelIdeal.Gen

open Idealize.ShloMosaic Idealize.ShloMosaic.TcCoe
open Idealize.SL.Sem
open scoped BigOperators

variable {A : Cert.Attn.Args} {a0 : FVec Ideal S4096x8x192 .f32} {a1 : FVec Ideal S4096x8x256 .f32} {a2 : FVec Ideal S4096x64 .f32} {a3 : FVec Ideal S4096x8x128 .f32}
  (h0 : ∀ i h d, a0 (ix3 i h d) = ((A.q i h d : ℝ) : EReal)) (h1 : ∀ i h d, a1 (ix3 i h d) = ((A.kv i h d : ℝ) : EReal))
  (h2 : ∀ i d, a2 (ix2 i d) = ((A.kr i d : ℝ) : EReal)) (h3 : ∀ i h d, a3 (ix3 i h d) = ((A.ct i h d : ℝ) : EReal))

include h0 h1 h2 in
theorem kScores_at (h : Fin 8) (i j : Fin 4096) : kScores a0 a1 a2 (ix3 h i j) = (((A.head h).score i j : ℝ) : EReal) := by
  pointwise [kScores]
  simp only [h0, h1, h2]
  rw [Cert.Attn.ofBits_192, Cert.Attn.rsqrt_192, Cert.Attn.coe_sum_mul, Cert.Attn.coe_sum_mul, ← EReal.coe_add, ← EReal.coe_mul]
  unfold Cert.Attn.Head.score
  rw [Cert.Attn.Args.dot_head]
  simp only [mul_comm (A.kr j _)]

include h0 h1 h2 in
theorem kMasked_at (h : Fin 8) (i j : Fin 4096) :
    kMasked a0 a1 a2 (ix3 h i j) = if j ≤ i then (((A.head h).score i j : ℝ) : EReal) else ⊥ := by
  pointwise [kMasked, kAllowed]
  rw [Cert.Attn.sle_rows, kScores_at h0 h1 h2, show id (constant (F := Ideal) S_ FTy.f32 4286578688#32) Idealize.ShloMosaic.ix0 = (⊥ : EReal) from Cert.Attn.ofBits_bot]
  by_cases hj : j ≤ i <;> simp [hj, Scalar.select]

include h0 h1 h2 in
theorem kTop_at (h : Fin 8) (i : Fin 4096) : ∃ M : ℝ, kTop a0 a1 a2 (ix2 h i) = (M : EReal) := by
  obtain ⟨M, hM⟩ := Cert.Attn.fold_top i fun j => (A.head h).score i j
  refine ⟨M, Eq.trans ?_ hM⟩
  have e : (fun x => kMasked a0 a1 a2 (ix3 h i x)) = fun j => if j ≤ i then (((A.head h).score i j : ℝ) : EReal) else ⊥ :=
    funext fun j => kMasked_at h0 h1 h2 h i j
  unfold kTop
  generalize kMasked a0 a1 a2 = X at e ⊢
  pointwise
  rw [Cert.Attn.ofBits_bot, e]

/-- What a row's exponentials give, with the number its scores are lowered by. -/
structure RowStat (A : Cert.Attn.Args) (a0 : FVec Ideal S4096x8x192 .f32) (a1 : FVec Ideal S4096x8x256 .f32) (a2 : FVec Ideal S4096x64 .f32)
    (h : Fin 8) (i : Fin 4096) (M : ℝ) : Prop where
  top : kTop a0 a1 a2 (ix2 h i) = (M : EReal)
  low : ∀ j, kLow a0 a1 a2 (ix3 h i j) = (((A.head h).low M i j : ℝ) : EReal)
  mass : kMass a0 a1 a2 (ix3 h i 0) = ((∑ j, (A.head h).low M i j : ℝ) : EReal)

include h0 h1 h2 in
theorem row_stat (h : Fin 8) (i : Fin 4096) : ∃ M : ℝ, RowStat A a0 a1 a2 h i M := by
  obtain ⟨M, hM⟩ := kTop_at h0 h1 h2 h i
  have hl : ∀ j, kLow a0 a1 a2 (ix3 h i j) = (((A.head h).low M i j : ℝ) : EReal) := by
    intro j
    have e := kMasked_at h0 h1 h2 h i j
    unfold kLow
    generalize kMasked a0 a1 a2 = X at e ⊢
    generalize kTop a0 a1 a2 = T at hM ⊢
    pointwise
    rw [e, hM, Cert.Attn.exp_low]
    rfl
  refine ⟨M, hM, hl, ?_⟩
  have e : (fun x => kLow a0 a1 a2 (ix3 h i x)) = fun j => (((A.head h).low M i j : ℝ) : EReal) := funext hl
  unfold kMass
  generalize kLow a0 a1 a2 = X at e ⊢
  pointwise
  rw [e, Cert.Attn.coe_sum]

/-- The last axis of one element dropped. -/
theorem drop_unit (X : FVec Ideal S8x4096x1 .f32) (h : Fin 8) (i : Fin 4096) : shapeCast S8x4096 X shapeCasts_S8x4096x1_S8x4096 (ix2 h i) = X (ix3 h i 0) := by
  refine (shapeCast_apply _ shapeCasts_S8x4096x1_S8x4096 (ix2 h i) (ix3 h i 0) ?_)
  rw [Shape.rowMajor_val_three, Shape.rowMajor_val_two]
  simp

theorem lse_sum_at (T : FVec Ideal S8x4096 .f32) (L : FVec Ideal S8x4096x1 .f32) (h : Fin 8) (i : Fin 4096) :
    (addf (broadcastInDim S8x4096x1 ![0, 1] bcast_S8x4096_S8x4096x1_0_1 T) (Host.log L)) (ix3 h i 0) = T (ix2 h i) + Ideal.log (L (ix3 h i 0)) := by
  pointwise

theorem kLse_eq (a0 : FVec Ideal S4096x8x192 .f32) (a1 : FVec Ideal S4096x8x256 .f32) (a2 : FVec Ideal S4096x64 .f32) :
    kLse a0 a1 a2 = shapeCast S8x4096 (addf (broadcastInDim S8x4096x1 ![0, 1] bcast_S8x4096_S8x4096x1_0_1 (kTop a0 a1 a2)) (Host.log (kMass a0 a1 a2))) shapeCasts_S8x4096x1_S8x4096 := by
  delta kLse
  exact rfl

theorem kLse_read (a0 : FVec Ideal S4096x8x192 .f32) (a1 : FVec Ideal S4096x8x256 .f32) (a2 : FVec Ideal S4096x64 .f32) (h : Fin 8) (i : Fin 4096) :
    shapeCast S8x4096 (addf (broadcastInDim S8x4096x1 ![0, 1] bcast_S8x4096_S8x4096x1_0_1 (kTop a0 a1 a2)) (Host.log (kMass a0 a1 a2))) shapeCasts_S8x4096x1_S8x4096 (ix2 h i)
      = kTop a0 a1 a2 (ix2 h i) + Ideal.log (kMass a0 a1 a2 (ix3 h i 0)) := by
  generalize kTop a0 a1 a2 = T
  generalize kMass a0 a1 a2 = L
  exact (drop_unit _ _ _).trans (lse_sum_at T L h i)

include h0 h1 h2 in
theorem kLse_at (h : Fin 8) (i : Fin 4096) : kLse a0 a1 a2 (ix2 h i) = (((A.head h).lse i : ℝ) : EReal) := by
  obtain ⟨M, hM⟩ := row_stat h0 h1 h2 h i
  refine (congrFun (kLse_eq a0 a1 a2) (ix2 h i)).trans ((kLse_read a0 a1 a2 h i).trans ?_)
  rw [hM.top, hM.mass, Cert.Attn.log_pos _ ((A.head h).sum_low_pos M i), ← EReal.coe_add, Cert.Attn.Head.lse_low]

include h0 h1 h2 in
theorem kProb_at (h : Fin 8) (i j : Fin 4096) : kProb a0 a1 a2 (ix3 h i j) = (((A.head h).prob i j : ℝ) : EReal) := by
  obtain ⟨M, hM⟩ := row_stat h0 h1 h2 h i
  have e1 := hM.low j
  have e2 := hM.mass
  unfold kProb
  generalize kLow a0 a1 a2 = T at e1 ⊢
  generalize kMass a0 a1 a2 = L at e2 ⊢
  pointwise
  rw [e1, e2, Cert.Attn.div_low _ _ ((A.head h).sum_low_pos M i).ne', Cert.Attn.Head.prob_low]

include h0 h1 h2 in
theorem kOut_at (h : Fin 8) (i : Fin 4096) (d : Fin 128) :
    kOut a0 a1 a2 (ix3 i h d) = ((∑ j, (A.head h).v j d * (A.head h).prob i j : ℝ) : EReal) := by
  have e := fun j => kProb_at h0 h1 h2 h i j
  unfold kOut
  generalize kProb a0 a1 a2 = P at e ⊢
  pointwise
  simp only [e, h1]
  exact Cert.Attn.coe_sum_mul _ _ _

include h0 h1 h2 h3 in
theorem kCorr_at (h : Fin 8) (i : Fin 4096) : kCorr a0 a1 a2 a3 (ix2 h i) = (((A.head h).corr i : ℝ) : EReal) := by
  have e := fun d => kOut_at h0 h1 h2 h i d
  unfold kCorr
  generalize kOut a0 a1 a2 = O at e ⊢
  pointwise
  simp only [e, h3]
  exact (Cert.Attn.coe_sum_mul _ _ _).trans (congrArg _ ((A.head h).corr_result i))

include h0 in
theorem kQ_at (h : Fin 8) (i : Fin 4096) (d : Fin 256) : kQ a0 (ix3 h i d) = (((A.head h).q i d : ℝ) : EReal) := by
  pointwise [kQ]
  simp only [Cert.Attn.Args.head]
  split_ifs
  · exact h0 _ _ _
  · rw [EReal.coe_zero]

include h1 h2 in
theorem kK_at (h : Fin 8) (j : Fin 4096) (d : Fin 256) : kK a1 a2 (ix3 h j d) = (((A.head h).k j d : ℝ) : EReal) := by
  pointwise [kK]
  simp only [Cert.Attn.Args.head]
  by_cases c1 : d.val < 128
  · rw [dif_pos c1, dif_pos c1]
    exact h1 _ _ _
  · rw [dif_neg c1, dif_neg c1]
    by_cases c2 : d.val < 192
    · rw [dif_pos (by omega), dif_pos c2]
      exact h2 _ _
    · rw [dif_neg (by omega), dif_neg c2, EReal.coe_zero]

theorem kV_read (a1 : FVec Ideal S4096x8x256 .f32) (j : Fin 4096) (e : Fin 2048) :
    kV a1 (ix2 j e) = a1 (ix3 j ⟨e.val / 256, by omega⟩ ⟨e.val % 256, by omega⟩) := by
  pointwise [kV]

theorem kG_read (a3 : FVec Ideal S4096x8x128 .f32) (i : Fin 4096) (e : Fin 1024) :
    kG a3 (ix2 i e) = a3 (ix3 i ⟨e.val / 128, by omega⟩ ⟨e.val % 128, by omega⟩) := by
  pointwise [kG]

include h1 in
theorem kV_at (h : Fin 8) (j : Fin 4096) (d : Fin 128) (e : Fin 2048) (he : e.val = 256 * h.val + 128 + d.val) : kV a1 (ix2 j e) = (((A.head h).v j d : ℝ) : EReal) :=
  (kV_read a1 j e).trans ((congrArg a1 (ix3_congr rfl (show e.val / 256 = h.val by omega) (show e.val % 256 = 128 + d.val by omega))).trans (h1 j h ⟨128 + d.val, by omega⟩))

include h3 in
theorem kG_at (h : Fin 8) (i : Fin 4096) (d : Fin 128) (e : Fin 1024) (he : e.val = 128 * h.val + d.val) : kG a3 (ix2 i e) = (((A.head h).g i d : ℝ) : EReal) :=
  (kG_read a3 i e).trans ((congrArg a3 (ix3_congr rfl (show e.val / 128 = h.val by omega) (show e.val % 128 = d.val by omega))).trans (h3 i h d))

include h0 h1 h2 in
theorem kLse4_at (h : Fin 8) (a : Fin 16) (b : Fin 256) :
    kLse4 a0 a1 a2 (ix4 h a 0 b) = (((A.head h).lse (halfRow a b) : ℝ) : EReal) := by
  have e := fun i => kLse_at h0 h1 h2 h i
  unfold kLse4
  generalize kLse a0 a1 a2 = L at e ⊢
  pointwise
  refine (congrArg L (ix2_congr rfl ?_)).trans (e (halfRow a b))
  show a.val * 256 + b.val = 256 * a.val + b.val
  omega

include h0 h1 h2 h3 in
theorem kCorr4_at (h : Fin 8) (a : Fin 16) (b : Fin 256) :
    kCorr4 a0 a1 a2 a3 (ix4 h a 0 b) = (((A.head h).corr (halfRow a b) : ℝ) : EReal) := by
  have e := fun i => kCorr_at h0 h1 h2 h3 h i
  unfold kCorr4
  generalize kCorr a0 a1 a2 a3 = L at e ⊢
  pointwise
  refine (congrArg L (ix2_congr rfl ?_)).trans (e (halfRow a b))
  show a.val * 256 + b.val = 256 * a.val + b.val
  omega

end Cert.KernelIdeal.Gen

end
-- ==== Proof.FlashScan.lean ====
module

public import proofs.«01_k».proof.Proof.FlashTile

@[expose] public section

/-! The whole loop over pairs of tiles, over the real numbers: each accumulator ends at its gradient. -/

set_option maxRecDepth 16384

noncomputable section

namespace Cert.KernelIdeal.Gen

open Idealize.ShloMosaic Idealize.ShloMosaic.TcCoe
open Idealize.SL.Sem

/-- A block laid over tile `c0` of a stack of tiles, read in tile `c`. -/
theorem overlay_tile {n a b : ℕ} (off : Fin 3 → ℕ) (c0 : Fin n) (ho : off = ![c0.val, 0, 0])
    (inb : ∀ i, off i + (⟨3, ![1, a, b]⟩ : Shape).size i ≤ (⟨3, ![n, a, b]⟩ : Shape).size i)
    (f : (⟨3, ![n, a, b]⟩ : Shape).Idx → EReal) (w : (⟨3, ![1, a, b]⟩ : Shape).Idx → EReal) (c : Fin n) (x : Fin a) (y : Fin b) :
    (Rect.unit (s := ⟨3, ![n, a, b]⟩) off (⟨3, ![1, a, b]⟩ : Shape).size inb).overlay f w (ix3 c x y) = if c0 = c then w (ix3 0 x y) else f (ix3 c x y) := by
  subst ho
  split_ifs with h
  · subst h
    have he : (Rect.unit (s := ⟨3, ![n, a, b]⟩) ![c0.val, 0, 0] (⟨3, ![1, a, b]⟩ : Shape).size inb).emb (ix3 0 x y) = ix3 c0 x y := by
      funext i
      apply Fin.ext
      fin_cases i <;> simp [Rect.emb, Rect.unit]
    rw [← he, Rect.overlay_emb]
  · rw [Rect.overlay_of_not_mem]
    rw [Rect.mem_set_unit]
    intro hm
    have := hm 0
    simp at this
    exact h (Fin.ext (by omega))

namespace Reads

variable {X : FlashIn Ideal} {R : Cert.Attn.Head} (H : Reads X R) (p : Fin 37) (A : FlashAcc Ideal)

include H

/-- What a pair adds to the values' gradient. -/
theorem step_dv (c : Fin 8) (b : Fin 512) (d : Fin 128) :
    (X.step p (X.score p) (X.prod p) A).dv (ix3 c b d) = (A.dv (ix3 c b d) : EReal)
      + ((if keyTile p = c then ∑ r, R.prob (row (qryTile p) r) (row c b) * R.g (row (qryTile p) r) d else 0 : ℝ) : EReal) := by
  dsimp only [FlashIn.step]
  refine (overlay_tile (n := 8) (a := 512) (b := 128) _ (keyTile p) (off16_eq p) _ _ _ c b d).trans ?_
  split_ifs with h
  · subst h
    have hp := H.prob_at p b
    generalize X.prob p (X.score p) = pr at hp ⊢
    have ho : ∀ r, X.oRows p (ix2 r d) = ((R.g (row (qryTile p) r) d : ℝ) : EReal) := fun r => by
      unfold FlashIn.oRows
      pointwise
      refine (congrArg X.xo (ix2_congr ?_ ?_)).trans (H.o _ _)
      all_goals simp [off14_eq, row]
    generalize X.oRows p = o at ho ⊢
    pointwise [k0_pay8, k0_pay5]
    refine congrArg₂ (· + ·) (congrArg A.dv (ix3_congr ?_ ?_ ?_)) (Eq.trans (Finset.sum_congr rfl fun r _ => congrArg₂ (· * ·) (hp r) (ho r)) (Cert.Attn.coe_sum_mul _ _ _))
    all_goals simp [off16_eq]
  · rw [EReal.coe_zero, add_zero]

/-- What a pair adds to the keys' gradient. -/
theorem step_dk (c : Fin 8) (b : Fin 512) (d : Fin 256) :
    (X.step p (X.score p) (X.prod p) A).dk (ix3 c b d) = (A.dk (ix3 c b d) : EReal)
      + ((if keyTile p = c then ∑ r, R.dscore (row (qryTile p) r) (row c b) * R.q (row (qryTile p) r) d else 0 : ℝ) : EReal) := by
  dsimp only [FlashIn.step]
  refine (overlay_tile (n := 8) (a := 512) (b := 256) _ (keyTile p) (off17_eq p) _ _ _ c b d).trans ?_
  split_ifs with h
  · subst h
    have hp := H.dscore_at p b
    have ho : ∀ r, X.qRows p (ix3 0 r d) = ((R.q (row (qryTile p) r) d : ℝ) : EReal) := fun r => by
      unfold FlashIn.qRows
      pointwise
      refine (congrArg X.xq (ix3_congr ?_ ?_ ?_)).trans (H.q _ _)
      all_goals simp [off13_eq, row]
    generalize X.qRows p = o at ho ⊢
    pointwise [k0_pay10, k0_pay9, k0_pay4]
    refine congrArg₂ (· + ·) (congrArg A.dk (ix3_congr ?_ ?_ ?_)) (Eq.trans (Finset.sum_congr rfl fun r _ => congrArg₂ (· * ·) (hp r) (ho r)) (Cert.Attn.coe_sum_mul _ _ _))
    all_goals simp [off17_eq]
  · rw [EReal.coe_zero, add_zero]

/-- What a pair adds to the queries' gradient. -/
theorem step_dq (c : Fin 8) (d : Fin 256) (r : Fin 512) :
    (X.step p (X.score p) (X.prod p) A).dq (ix3 c d r) = (A.dq (ix3 c d r) : EReal)
      + ((if qryTile p = c then ∑ b, R.k (row (keyTile p) b) d * R.dscore (row c r) (row (keyTile p) b) else 0 : ℝ) : EReal) := by
  dsimp only [FlashIn.step]
  refine (overlay_tile (n := 8) (a := 256) (b := 512) _ (qryTile p) (off18_eq p) _ _ _ c d r).trans ?_
  split_ifs with h
  · subst h
    have hp := fun b => H.dscore_at p b r
    generalize k0_pay7 (X.prob p (X.score p)) (X.prod p) (X.corr p 0) (X.corr p 1) = ds at hp ⊢
    pointwise [k0_pay11]
    refine congrArg₂ (· + ·) (congrArg A.dq (ix3_congr ?_ ?_ ?_)) (Eq.trans (Finset.sum_congr rfl fun b _ => congrArg₂ (· * ·) ((congrArg X.kt (ix3_congr ?_ ?_ ?_)).trans (H.kt (keyTile p) d b)) (hp b)) (Cert.Attn.coe_sum_mul _ _ _))
    all_goals simp [off18_eq, off19_eq]
  · rw [EReal.coe_zero, add_zero]

end Reads

/-! ## The sum over the pairs -/

/-- Pair number `n` of the 36 that are visited. -/
abbrev pair (n : Fin 36) : Fin 37 := ⟨n.val, by omega⟩

/-- Each pair of a key tile and a query tile at or after it is visited once. -/
theorem visited : ∀ a c : Fin 8, (Finset.univ.filter fun n : Fin 36 => keyTile (pair n) = a ∧ qryTile (pair n) = c).card = if a ≤ c then 1 else 0 := by
  decide +kernel

theorem sum_visited (f : Fin 8 → Fin 8 → ℝ) :
    ∑ n : Fin 36, f (keyTile (pair n)) (qryTile (pair n)) = ∑ a, ∑ c, if a ≤ c then f a c else 0 := by
  have h1 : ∀ n : Fin 36, f (keyTile (pair n)) (qryTile (pair n)) = ∑ a, ∑ c, if keyTile (pair n) = a ∧ qryTile (pair n) = c then f a c else 0 := fun n => by
    rw [Finset.sum_eq_single (keyTile (pair n)), Finset.sum_eq_single (qryTile (pair n))]
    · simp
    · intro c _ hc
      exact if_neg fun h => hc h.2.symm
    · intro h; exact absurd (Finset.mem_univ _) h
    · intro a _ ha
      exact Finset.sum_eq_zero fun c _ => if_neg fun h => ha h.1.symm
    · intro h; exact absurd (Finset.mem_univ _) h
  simp only [h1]
  rw [Finset.sum_comm]
  refine Finset.sum_congr rfl fun a _ => ?_
  rw [Finset.sum_comm]
  refine Finset.sum_congr rfl fun c _ => ?_
  rw [Finset.sum_ite, Finset.sum_const_zero, add_zero, Finset.sum_const, visited]
  split_ifs <;> simp

theorem sum_visited_key (a : Fin 8) (g : Fin 8 → ℝ) :
    (∑ n : Fin 36, if keyTile (pair n) = a then g (qryTile (pair n)) else 0) = ∑ c, if a ≤ c then g c else 0 := by
  rw [sum_visited fun k c => if k = a then g c else 0, Finset.sum_eq_single a]
  · exact Finset.sum_congr rfl fun c _ => by simp
  · intro k _ hk
    exact Finset.sum_eq_zero fun c _ => by simp [hk]
  · intro h; exact absurd (Finset.mem_univ _) h

theorem sum_visited_qry (c : Fin 8) (g : Fin 8 → ℝ) :
    (∑ n : Fin 36, if qryTile (pair n) = c then g (keyTile (pair n)) else 0) = ∑ a, if a ≤ c then g a else 0 := by
  rw [sum_visited fun k q => if q = c then g k else 0]
  refine Finset.sum_congr rfl fun a _ => ?_
  rw [Finset.sum_eq_single c]
  · simp
  · intro q _ hq
    simp [hq]
  · intro h; exact absurd (Finset.mem_univ _) h

namespace Reads

variable {X : FlashIn Ideal} {R : Cert.Attn.Head} (H : Reads X R)

include H

theorem acc_dv (n : ℕ) (hn : n ≤ 36) (c : Fin 8) (b : Fin 512) (d : Fin 128) :
    (X.acc n).dv (ix3 c b d) = ((∑ i : Fin n, (if keyTile ⟨i.val, by omega⟩ = c then ∑ r, R.prob (row (qryTile ⟨i.val, by omega⟩) r) (row c b) * R.g (row (qryTile ⟨i.val, by omega⟩) r) d else 0) : ℝ) : EReal) := by
  induction n with
  | zero => exact (H.dv0 (ix3 c b d)).trans (by rw [Fin.sum_univ_zero, EReal.coe_zero])
  | succ n ih =>
    rw [X.acc_succ n (by omega), H.step_dv, ih (by omega), Fin.sum_univ_castSucc (n := n), EReal.coe_add]
    rfl

theorem acc_dk (n : ℕ) (hn : n ≤ 36) (c : Fin 8) (b : Fin 512) (d : Fin 256) :
    (X.acc n).dk (ix3 c b d) = ((∑ i : Fin n, (if keyTile ⟨i.val, by omega⟩ = c then ∑ r, R.dscore (row (qryTile ⟨i.val, by omega⟩) r) (row c b) * R.q (row (qryTile ⟨i.val, by omega⟩) r) d else 0) : ℝ) : EReal) := by
  induction n with
  | zero => exact (H.dk0 (ix3 c b d)).trans (by rw [Fin.sum_univ_zero, EReal.coe_zero])
  | succ n ih =>
    rw [X.acc_succ n (by omega), H.step_dk, ih (by omega), Fin.sum_univ_castSucc (n := n), EReal.coe_add]
    rfl

theorem acc_dq (n : ℕ) (hn : n ≤ 36) (c : Fin 8) (d : Fin 256) (r : Fin 512) :
    (X.acc n).dq (ix3 c d r) = ((∑ i : Fin n, (if qryTile ⟨i.val, by omega⟩ = c then ∑ b, R.k (row (keyTile ⟨i.val, by omega⟩) b) d * R.dscore (row c r) (row (keyTile ⟨i.val, by omega⟩) b) else 0) : ℝ) : EReal) := by
  induction n with
  | zero => exact (H.dq0 (ix3 c d r)).trans (by rw [Fin.sum_univ_zero, EReal.coe_zero])
  | succ n ih =>
    rw [X.acc_succ n (by omega), H.step_dq, ih (by omega), Fin.sum_univ_castSucc (n := n), EReal.coe_add]
    rfl

/-- The values' gradient after all pairs. -/
theorem end_dv (c : Fin 8) (b : Fin 512) (d : Fin 128) : (X.acc 36).dv (ix3 c b d) = ((R.dv (row c b) d : ℝ) : EReal) := by
  rw [H.acc_dv 36 le_rfl]
  refine congrArg _ ((sum_visited_key c fun e => ∑ r, R.prob (row e r) (row c b) * R.g (row e r) d).trans ?_)
  rw [Cert.Attn.Head.dv, Cert.Attn.sum_rows]
  refine Finset.sum_congr rfl fun e _ => ?_
  split_ifs with h
  · rfl
  · refine (Finset.sum_eq_zero fun r _ => ?_).symm
    rw [R.prob_of_lt, zero_mul]
    simp only [row, Fin.lt_def, Fin.le_def] at *
    omega

/-- The keys' gradient after all pairs. -/
theorem end_dk (c : Fin 8) (b : Fin 512) (d : Fin 256) : (X.acc 36).dk (ix3 c b d) = ((R.dk (row c b) d : ℝ) : EReal) := by
  rw [H.acc_dk 36 le_rfl]
  refine congrArg _ ((sum_visited_key c fun e => ∑ r, R.dscore (row e r) (row c b) * R.q (row e r) d).trans ?_)
  rw [Cert.Attn.Head.dk, Cert.Attn.sum_rows]
  refine Finset.sum_congr rfl fun e _ => ?_
  split_ifs with h
  · rfl
  · refine (Finset.sum_eq_zero fun r _ => ?_).symm
    rw [R.dscore_of_lt, zero_mul]
    simp only [row, Fin.lt_def, Fin.le_def] at *
    omega

/-- The queries' gradient after all pairs. -/
theorem end_dq (c : Fin 8) (d : Fin 256) (r : Fin 512) : (X.acc 36).dq (ix3 c d r) = ((R.dq (row c r) d : ℝ) : EReal) := by
  rw [H.acc_dq 36 le_rfl]
  refine congrArg _ ((sum_visited_qry c fun e => ∑ b, R.k (row e b) d * R.dscore (row c r) (row e b)).trans ?_)
  rw [Cert.Attn.Head.dq, Cert.Attn.sum_rows]
  refine Finset.sum_congr rfl fun e _ => ?_
  split_ifs with h
  · rfl
  · refine (Finset.sum_eq_zero fun b _ => ?_).symm
    rw [R.dscore_of_lt, mul_zero]
    simp only [row, Fin.lt_def, Fin.le_def] at *
    omega

end Reads

end Cert.KernelIdeal.Gen

end
-- ==== Proof.FlashPost.lean ====
module

public import proofs.«01_k».proof.Proof.FlashStat
public import proofs.«01_k».proof.Proof.FlashScan
public import Idealize.ShloMosaic.Lib.Pipeline.ValueKit
public import Idealize.ShloMosaic.Lib.Pipeline.Covers

@[expose] public section

/-! What the call leaves in its three result arrays. -/

set_option maxRecDepth 16384

noncomputable section

namespace Cert.KernelIdeal.Gen

open Idealize.ShloMosaic Idealize.ShloMosaic.TcCoe
open Idealize.SL.Sem
open Idealize.ShloMosaic.Pipeline (Dat)
open scoped BigOperators

variable (m : (ℓ : Loc nD τ sig) → Buf (Elt Ideal) ℓ)

/-- The head of a grid point. -/
def headAt (t : Fin (cfgM m).N) : Fin 8 := ⟨t.val, t.isLt⟩

theorem maps : ∀ t : Fin grid0.N, cc0_transform_0 (grid0.coords t) = ![t.val, 0, 0] ∧ cc0_transform_1 (grid0.coords t) = ![t.val, 0, 0]
    ∧ cc0_transform_2 (grid0.coords t) = ![0, 2 * t.val + 1] ∧ cc0_transform_3 (grid0.coords t) = ![0, t.val]
    ∧ cc0_transform_4 (grid0.coords t) = ![t.val, 0, 0, 0] ∧ cc0_transform_5 (grid0.coords t) = ![t.val, 0, 0, 0]
    ∧ cc0_transform_6 (grid0.coords t) = ![t.val, 0, 0] ∧ cc0_transform_7 (grid0.coords t) = ![0, t.val] ∧ cc0_transform_8 (grid0.coords t) = ![t.val, 0, 0] := by
  decide +kernel

theorem index0 (t : Fin (cfgM m).N) : ((cfgM m).win 0).index t = ![t.val, 0, 0] := (maps t).1
theorem index1 (t : Fin (cfgM m).N) : ((cfgM m).win 1).index t = ![t.val, 0, 0] := (maps t).2.1
theorem index2 (t : Fin (cfgM m).N) : ((cfgM m).win 2).index t = ![0, 2 * t.val + 1] := (maps t).2.2.1
theorem index3 (t : Fin (cfgM m).N) : ((cfgM m).win 3).index t = ![0, t.val] := (maps t).2.2.2.1
theorem index4 (t : Fin (cfgM m).N) : ((cfgM m).win 4).index t = ![t.val, 0, 0, 0] := (maps t).2.2.2.2.1
theorem index5 (t : Fin (cfgM m).N) : ((cfgM m).win 5).index t = ![t.val, 0, 0, 0] := (maps t).2.2.2.2.2.1
theorem index6 (t : Fin (cfgM m).N) : ((cfgM m).win 6).index t = ![t.val, 0, 0] := (maps t).2.2.2.2.2.2.1
theorem index7 (t : Fin (cfgM m).N) : ((cfgM m).win 7).index t = ![0, t.val] := (maps t).2.2.2.2.2.2.2.1
theorem index8 (t : Fin (cfgM m).N) : ((cfgM m).win 8).index t = ![t.val, 0, 0] := (maps t).2.2.2.2.2.2.2.2

theorem block0 (c : Dev nD) (t : Fin (cfgM m).N) (i : Fin 4096) (d : Fin 256) :
    iblk m c 0 t (ix3 0 i d) = V m c main_v39 (ix3 (headAt m t) i d) := by
  blk_ext [iblk, index0 m t, headAt]

theorem block1 (c : Dev nD) (t : Fin (cfgM m).N) (i : Fin 4096) (d : Fin 256) :
    iblk m c 1 t (ix3 0 i d) = V m c main_v46 (ix3 (headAt m t) i d) := by
  blk_ext [iblk, index1 m t, headAt]

theorem block2 (c : Dev nD) (t : Fin (cfgM m).N) (i : Fin 4096) (d : Fin 128) :
    iblk m c 2 t (ix2 i d) = V m c main_v48 (ix2 i ⟨256 * (headAt m t).val + 128 + d.val, by omega⟩) := by
  blk_ext [iblk, index2 m t, headAt]

theorem block3 (c : Dev nD) (t : Fin (cfgM m).N) (i : Fin 4096) (d : Fin 128) :
    iblk m c 3 t (ix2 i d) = V m c main_v50 (ix2 i ⟨128 * (headAt m t).val + d.val, by omega⟩) := by
  blk_ext [iblk, index3 m t, headAt]

theorem read4 (t : Fin (cfgM m).N) (f : S8x16x1x256.Idx → EReal) (a : Fin 16) (b : Fin 256) :
    ((((cfgM m).win 4).blk t).view.read (Elt Ideal) f) (ix4 0 a 0 b) = f (ix4 (headAt m t) a 0 b) := by
  refine congrArg f (funext fun (x : Fin 4) => Fin.ext ((Pipeline.Window.rect_emb_val ((cfgM m).win 4) t (ix4 0 a 0 b) x rfl).trans ?_))
  rw [index4]
  fin_cases x
  · exact Nat.mul_one _
  · exact Nat.zero_add _
  · rfl
  · exact Nat.zero_add _

theorem read5 (t : Fin (cfgM m).N) (f : S8x16x1x256.Idx → EReal) (a : Fin 16) (b : Fin 256) :
    ((((cfgM m).win 5).blk t).view.read (Elt Ideal) f) (ix4 0 a 0 b) = f (ix4 (headAt m t) a 0 b) := by
  refine congrArg f (funext fun (x : Fin 4) => Fin.ext ((Pipeline.Window.rect_emb_val ((cfgM m).win 5) t (ix4 0 a 0 b) x rfl).trans ?_))
  rw [index5]
  fin_cases x
  · exact Nat.mul_one _
  · exact Nat.zero_add _
  · rfl
  · exact Nat.zero_add _

theorem block4 (c : Dev nD) (t : Fin (cfgM m).N) (a : Fin 16) (b : Fin 256) :
    iblk m c 4 t (ix4 0 a 0 b) = V m c main_v51 (ix4 (headAt m t) a 0 b) :=
  read4 m t (V m c main_v51) a b

theorem block5 (c : Dev nD) (t : Fin (cfgM m).N) (a : Fin 16) (b : Fin 256) :
    iblk m c 5 t (ix4 0 a 0 b) = V m c main_v52 (ix4 (headAt m t) a 0 b) :=
  read5 m t (V m c main_v52) a b

theorem covers6 : ((cfgM m).win 6).Covers := by
  refine Pipeline.Window.covers_of_index_surj _ rfl ?_ ?_
  · intro a
    change Fin 3 at a
    fin_cases a <;> exact Nat.zero_lt_succ _
  · intro β
    have h0 : (β (0 : Fin 3)).val < (8 + 1 - 1) / 1 := (β (0 : Fin 3)).isLt
    have h1 : (β (1 : Fin 3)).val < (4096 + 4096 - 1) / 4096 := (β (1 : Fin 3)).isLt
    have h2 : (β (2 : Fin 3)).val < (256 + 256 - 1) / 256 := (β (2 : Fin 3)).isLt
    norm_num at h0 h1 h2
    refine ⟨⟨(β (0 : Fin 3)).val, h0⟩, fun (a : Fin 3) => ?_⟩
    rw [index6]
    fin_cases a
    · rfl
    · exact h1.symm
    · exact h2.symm

theorem covers7 : ((cfgM m).win 7).Covers := by
  refine Pipeline.Window.covers_of_index_surj _ rfl ?_ ?_
  · intro a
    change Fin 2 at a
    fin_cases a <;> exact Nat.zero_lt_succ _
  · intro β
    have h0 : (β (0 : Fin 2)).val < (4096 + 4096 - 1) / 4096 := (β (0 : Fin 2)).isLt
    have h1 : (β (1 : Fin 2)).val < (2048 + 256 - 1) / 256 := (β (1 : Fin 2)).isLt
    norm_num at h0 h1
    refine ⟨⟨(β (1 : Fin 2)).val, h1⟩, fun (a : Fin 2) => ?_⟩
    rw [index7]
    fin_cases a
    · exact h0.symm
    · rfl

theorem covers8 : ((cfgM m).win 8).Covers := by
  refine Pipeline.Window.covers_of_index_surj _ rfl ?_ ?_
  · intro a
    change Fin 3 at a
    fin_cases a <;> exact Nat.zero_lt_succ _
  · intro β
    have h0 : (β (0 : Fin 3)).val < (8 + 1 - 1) / 1 := (β (0 : Fin 3)).isLt
    have h1 : (β (1 : Fin 3)).val < (4096 + 4096 - 1) / 4096 := (β (1 : Fin 3)).isLt
    have h2 : (β (2 : Fin 3)).val < (128 + 128 - 1) / 128 := (β (2 : Fin 3)).isLt
    norm_num at h0 h1 h2
    refine ⟨⟨(β (0 : Fin 3)).val, h0⟩, fun (a : Fin 3) => ?_⟩
    rw [index8]
    fin_cases a
    · rfl
    · exact h1.symm
    · exact h2.symm

theorem emb6 (t : Fin (cfgM m).N) (y : S1x4096x256.Idx) :
    ((((cfgM m).win 6).blk t).view.emb y : S8x4096x256.Idx) = ix3 (headAt m t) (y 1) (y 2) := by
  refine funext fun (x : Fin 3) => Fin.ext ((Pipeline.Window.rect_emb_val ((cfgM m).win 6) t y x rfl).trans ?_)
  rw [index6]
  fin_cases x
  · have h : (y 0).val < 1 := (y 0).isLt
    show t.val * 1 + (y 0).val = t.val
    omega
  · exact Nat.zero_add _
  · exact Nat.zero_add _

theorem emb7 (t : Fin (cfgM m).N) (y : S4096x256.Idx) :
    ((((cfgM m).win 7).blk t).view.emb y : S4096x2048.Idx) = ix2 (y 0) ⟨256 * (headAt m t).val + (y 1).val, by
      have h : (y 1).val < 256 := (y 1).isLt
      have := (headAt m t).isLt
      omega⟩ := by
  refine funext fun (x : Fin 2) => Fin.ext ((Pipeline.Window.rect_emb_val ((cfgM m).win 7) t y x rfl).trans ?_)
  rw [index7]
  fin_cases x
  · exact Nat.zero_add _
  · show t.val * 256 + (y 1).val = 256 * t.val + (y 1).val
    omega

theorem emb8 (t : Fin (cfgM m).N) (y : S1x4096x128.Idx) :
    ((((cfgM m).win 8).blk t).view.emb y : S8x4096x128.Idx) = ix3 (headAt m t) (y 1) (y 2) := by
  refine funext fun (x : Fin 3) => Fin.ext ((Pipeline.Window.rect_emb_val ((cfgM m).win 8) t y x rfl).trans ?_)
  rw [index8]
  fin_cases x
  · have h : (y 0).val < 1 := (y 0).isLt
    show t.val * 1 + (y 0).val = t.val
    omega
  · exact Nat.zero_add _
  · exact Nat.zero_add _

theorem row_split (r : Fin 4096) (h1 : r.val / 512 < 8) (h2 : r.val % 512 < 512) : row ⟨r.val / 512, h1⟩ ⟨r.val % 512, h2⟩ = r :=
  Fin.ext (Nat.div_add_mod _ _)

section Values

variable {m} {A : Cert.Attn.Args} {c : Dev nD}
  (h0 : ∀ i h d, m ((c : Thread nD τ).loc main_arg0) (ix3 i h d) = ((A.q i h d : ℝ) : EReal))
  (h1 : ∀ i h d, m ((c : Thread nD τ).loc main_arg1) (ix3 i h d) = ((A.kv i h d : ℝ) : EReal))
  (h2 : ∀ i d, m ((c : Thread nD τ).loc main_arg2) (ix2 i d) = ((A.kr i d : ℝ) : EReal))
  (h3 : ∀ i h d, m ((c : Thread nD τ).loc main_arg3) (ix3 i h d) = ((A.ct i h d : ℝ) : EReal))

include h0 h1 h2 h3

/-- The blocks of a grid point hold its head. -/
theorem reads_at (t : Fin (cfgM m).N) :
    Reads (flashHead (iblk m c 0 t) (iblk m c 1 t) (iblk m c 2 t) (iblk m c 3 t) (iblk m c 4 t) (iblk m c 5 t)) (A.head (headAt m t)) := by
  refine reads_head _ _ _ _ _ _ _ ?_ ?_ ?_ ?_ ?_ ?_
  · intro i d
    rw [block0, V_v39]
    exact kQ_at h0 _ i d
  · intro i d
    rw [block1, V_v46]
    exact kK_at h1 h2 _ i d
  · intro i d
    rw [block2, V_v48]
    exact kV_at h1 _ i d _ rfl
  · intro i d
    rw [block3, V_v50]
    exact kG_at h3 _ i d _ rfl
  · intro a b
    rw [block4, V_v51]
    exact kLse4_at h0 h1 h2 _ a b
  · intro a b
    rw [block5, V_v52]
    exact kCorr4_at h0 h1 h2 h3 _ a b

/-- The array of the queries' gradient is the head by head gradient. -/
theorem result6 : (dats m 0 c).arrAt 6 (cfgM m).N = A.wantDq := by
  refine (dats m 0 c).arrAt_eq_of_covers 6 _ (covers6 m) fun t _ (y : S1x4096x256.Idx) => ?_
  have H := (reads_at h0 h1 h2 h3 t).end_dq
  blk_simp
  rw [after0_6]
  refine Eq.trans (H _ (y 2) _) (Eq.trans ?_ (congrArg A.wantDq (emb6 m t y)).symm)
  exact congrArg (fun i => (((A.head (headAt m t)).dq i (y 2) : ℝ) : EReal)) (row_split (y 1) _ _)

/-- The array of the keys' and values' gradients is the head by head gradient. -/
theorem result7 : (dats m 0 c).arrAt 7 (cfgM m).N = A.wantDkv := by
  refine (dats m 0 c).arrAt_eq_of_covers 7 _ (covers7 m) fun t _ (y : S4096x256.Idx) => ?_
  have H1 := (reads_at h0 h1 h2 h3 t).end_dk
  have H2 := (reads_at h0 h1 h2 h3 t).end_dv
  have hy : (y 1).val < 256 := (y 1).isLt
  have ht := (headAt m t).isLt
  blk_simp
  rw [after0_7]
  refine Eq.trans ?_ (congrArg A.wantDkv (emb7 m t y)).symm
  have e1 : (256 * (headAt m t).val + (y 1).val) / 256 = (headAt m t).val := by omega
  have e2 : (256 * (headAt m t).val + (y 1).val) % 256 = (y 1).val := by omega
  show _ = ((A.gradKV (y 0) ⟨256 * (headAt m t).val + (y 1).val, by omega⟩ : ℝ) : EReal)
  unfold Cert.Attn.Args.gradKV
  simp only [e1, e2, Fin.eta]
  by_cases hd : (y 1).val < 128
  · rw [dif_pos hd]
    refine Eq.trans (dif_pos hd) (Eq.trans (H1 _ _ ⟨(y 1).val, _⟩) ?_)
    exact congrArg (fun i => (((A.head (headAt m t)).dk i ⟨(y 1).val, by omega⟩ : ℝ) : EReal)) (row_split (y 0) _ _)
  · rw [dif_neg hd]
    refine Eq.trans (dif_neg hd) (Eq.trans (H2 _ _ ⟨(y 1).val - 128, _⟩) ?_)
    exact congrArg (fun i => (((A.head (headAt m t)).dv i ⟨(y 1).val - 128, by omega⟩ : ℝ) : EReal)) (row_split (y 0) _ _)

/-- The array of the gradient of the keys' rotated part is the head by head gradient. -/
theorem result8 : (dats m 0 c).arrAt 8 (cfgM m).N = A.wantDkr := by
  refine (dats m 0 c).arrAt_eq_of_covers 8 _ (covers8 m) fun t _ (y : S1x4096x128.Idx) => ?_
  have H := (reads_at h0 h1 h2 h3 t).end_dk
  have hy : (y 2).val < 128 := (y 2).isLt
  blk_simp
  rw [after0_8]
  refine Eq.trans (H _ _ ⟨128 + (y 2).val, _⟩) (Eq.trans ?_ (congrArg A.wantDkr (emb8 m t y)).symm)
  exact congrArg (fun i => (((A.head (headAt m t)).dk i ⟨128 + (y 2).val, by omega⟩ : ℝ) : EReal)) (row_split (y 1) _ _)

end Values

end Cert.KernelIdeal.Gen

end
-- ==== Proof.FlashRefDefs.lean ====
module

public import proofs.«01_k».proof.Proof.Gen.ReferenceIdeal.Run
public import Idealize.ShloMosaic.Lib.Pointwise

@[expose] public section

/-! The reference program's results, as functions of its arguments, one step at a time. -/

set_option maxRecDepth 8192

noncomputable section

namespace Cert.ReferenceIdeal.Value

open Cert.ReferenceIdeal Cert.ReferenceIdeal.Gen Idealize.ShloMosaic Idealize.ShloMosaic.TcCoe Idealize.ShloMosaic.StableHlo
open Idealize.SL.Sem
open scoped BigOperators

/-- The scaled scores. -/
def scores (a0 : FVec Ideal S4096x8x192 .f32) (a1 : FVec Ideal S4096x8x256 .f32) (a2 : FVec Ideal S4096x64 .f32) : FVec Ideal S8x4096x4096 .f32 :=
  mulf (addf (Host.dotGeneral dot_S4096x8x128_S4096x8x128_S8x4096x4096_2_2_0_0_1_1 none (extractStridedSlice S4096x8x128 ![0, 0, 0] a0 slices_S4096x8x192_S4096x8x128_0_0_0) (extractStridedSlice S4096x8x128 ![0, 0, 0] a1 slices_S4096x8x256_S4096x8x128_0_0_0)) (Host.dotGeneral dot_S4096x8x64_S4096x8x64_S8x4096x4096_2_2_0_0_1_1 none (extractStridedSlice S4096x8x64 ![0, 0, 128] a0 slices_S4096x8x192_S4096x8x64_0_0_128) (broadcastInDim S4096x8x64 ![0, 1, 2] bcast_S4096x1x64_S4096x8x64_0_1_2 (broadcastInDim S4096x1x64 ![0, 2] bcast_S4096x64_S4096x1x64_0_2 a2)))) (broadcastInDim S8x4096x4096 ![] bcast_S_S8x4096x4096 (Host.rsqrt (constant S_ .f32 0x43400000#32)))

/-- Which key rows a query row sees. -/
def allowed  : IVec S8x4096x4096 1 :=
  broadcastInDim S8x4096x4096 ![0, 1, 2] bcast_S1x4096x4096_S8x4096x4096_0_1_2 (broadcastInDim S1x4096x4096 ![1, 2] bcast_S4096x4096_S1x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The scores, masked. -/
def masked (a0 : FVec Ideal S4096x8x192 .f32) (a1 : FVec Ideal S4096x8x256 .f32) (a2 : FVec Ideal S4096x64 .f32) : FVec Ideal S8x4096x4096 .f32 :=
  select allowed (scores a0 a1 a2) (broadcastInDim S8x4096x4096 ![] bcast_S_S8x4096x4096 (id (constant S_ .f32 0xFF800000#32)))

/-- The greatest score of each row. -/
def top (a0 : FVec Ideal S4096x8x192 .f32) (a1 : FVec Ideal S4096x8x256 .f32) (a2 : FVec Ideal S4096x64 .f32) : FVec Ideal S8x4096 .f32 :=
  maximumf (broadcastInDim S8x4096 ![] bcast_S_S8x4096 (constant S_ .f32 0xFF800000#32)) (Host.reduce FloatOps.maximumf (masked a0 a1 a2) (constant S_ .f32 0xFF800000#32) reducesTo_S8x4096x4096_S8x4096_d2 h_S_)

/-- The exponentials of the scores lowered by the greatest. -/
def low (a0 : FVec Ideal S4096x8x192 .f32) (a1 : FVec Ideal S4096x8x256 .f32) (a2 : FVec Ideal S4096x64 .f32) : FVec Ideal S8x4096x4096 .f32 :=
  Host.exp (subf (masked a0 a1 a2) (broadcastInDim S8x4096x4096 ![0, 1, 2] bcast_S8x4096x1_S8x4096x4096_0_1_2 (broadcastInDim S8x4096x1 ![0, 1] bcast_S8x4096_S8x4096x1_0_1 (top a0 a1 a2))))

/-- The sums of the exponentials. -/
def mass (a0 : FVec Ideal S4096x8x192 .f32) (a1 : FVec Ideal S4096x8x256 .f32) (a2 : FVec Ideal S4096x64 .f32) : FVec Ideal S8x4096x1 .f32 :=
  broadcastInDim S8x4096x1 ![0, 1] bcast_S8x4096_S8x4096x1_0_1 (Host.reduceAdd (low a0 a1 a2) (constant S_ .f32 0x00000000#32) reducesTo_S8x4096x4096_S8x4096_d2 h_S_)

/-- The probabilities. -/
def prob (a0 : FVec Ideal S4096x8x192 .f32) (a1 : FVec Ideal S4096x8x256 .f32) (a2 : FVec Ideal S4096x64 .f32) : FVec Ideal S8x4096x4096 .f32 :=
  Host.divf (low a0 a1 a2) (broadcastInDim S8x4096x4096 ![0, 1, 2] bcast_S8x4096x1_S8x4096x4096_0_1_2 (mass a0 a1 a2))

/-- The cotangents of the probabilities. -/
def dprob (a1 : FVec Ideal S4096x8x256 .f32) (a3 : FVec Ideal S4096x8x128 .f32) : FVec Ideal S8x4096x4096 .f32 :=
  Host.dotGeneral dot_S8x128x4096_S4096x8x128_S8x4096x4096_1_2_2_0_0_1 none (transpose S8x128x4096 [1, 2, 0] a3 transposes_S4096x8x128_S8x128x4096_1_2_0) (extractStridedSlice S4096x8x128 ![0, 0, 128] a1 slices_S4096x8x256_S4096x8x128_0_0_128)

/-- The gradient of the values. -/
def dv (a0 : FVec Ideal S4096x8x192 .f32) (a1 : FVec Ideal S4096x8x256 .f32) (a2 : FVec Ideal S4096x64 .f32) (a3 : FVec Ideal S4096x8x128 .f32) : FVec Ideal S4096x8x128 .f32 :=
  transpose S4096x8x128 [2, 0, 1] (Host.dotGeneral dot_S8x128x4096_S8x4096x4096_S8x128x4096_2_1_1_2_0_0 none (transpose S8x128x4096 [1, 2, 0] a3 transposes_S4096x8x128_S8x128x4096_1_2_0) (prob a0 a1 a2)) transposes_S8x128x4096_S4096x8x128_2_0_1

/-- The sum the rows are corrected by. -/
def mean (a0 : FVec Ideal S4096x8x192 .f32) (a1 : FVec Ideal S4096x8x256 .f32) (a2 : FVec Ideal S4096x64 .f32) (a3 : FVec Ideal S4096x8x128 .f32) : FVec Ideal S8x4096 .f32 :=
  Host.reduceAdd (mulf (mulf (dprob a1 a3) (broadcastInDim S8x4096x4096 ![0, 1, 2] bcast_S8x4096x1_S8x4096x4096_0_1_2 (Host.divf (broadcastInDim S8x4096x1 ![] bcast_S_S8x4096x1 (constant S_ .f32 0x3F800000#32)) (mulf (mass a0 a1 a2) (mass a0 a1 a2))))) (low a0 a1 a2)) (constant S_ .f32 0x00000000#32) reducesTo_S8x4096x4096_S8x4096_d2 h_S_

/-- The cotangents of the products. -/
def dscore (a0 : FVec Ideal S4096x8x192 .f32) (a1 : FVec Ideal S4096x8x256 .f32) (a2 : FVec Ideal S4096x64 .f32) (a3 : FVec Ideal S4096x8x128 .f32) : FVec Ideal S8x4096x4096 .f32 :=
  mulf (select allowed (mulf (addf (Host.divf (dprob a1 a3) (broadcastInDim S8x4096x4096 ![0, 1, 2] bcast_S8x4096x1_S8x4096x4096_0_1_2 (mass a0 a1 a2))) (broadcastInDim S8x4096x4096 ![0, 1] bcast_S8x4096_S8x4096x4096_0_1 (Host.reduceAdd (Host.negf (shapeCast S8x4096x1 (mean a0 a1 a2 a3) shapeCasts_S8x4096_S8x4096x1)) (constant S_ .f32 0x00000000#32) reducesTo_S8x4096x1_S8x4096_d2 h_S_))) (low a0 a1 a2)) (broadcastInDim S8x4096x4096 ![] bcast_S_S8x4096x4096 (constant S_ .f32 0x00000000#32))) (broadcastInDim S8x4096x4096 ![] bcast_S_S8x4096x4096 (Host.rsqrt (constant S_ .f32 0x43400000#32)))

/-- The gradient of the rotated part of the keys. -/
def dkr (a0 : FVec Ideal S4096x8x192 .f32) (a1 : FVec Ideal S4096x8x256 .f32) (a2 : FVec Ideal S4096x64 .f32) (a3 : FVec Ideal S4096x8x128 .f32) : FVec Ideal S4096x8x64 .f32 :=
  transpose S4096x8x64 [1, 0, 2] (Host.dotGeneral dot_S8x4096x4096_S4096x8x64_S8x4096x64_1_0_2_2_0_1 none (dscore a0 a1 a2 a3) (extractStridedSlice S4096x8x64 ![0, 0, 128] a0 slices_S4096x8x192_S4096x8x64_0_0_128)) transposes_S8x4096x64_S4096x8x64_1_0_2

/-- The gradient of the rotated part of the queries. -/
def dqr (a0 : FVec Ideal S4096x8x192 .f32) (a1 : FVec Ideal S4096x8x256 .f32) (a2 : FVec Ideal S4096x64 .f32) (a3 : FVec Ideal S4096x8x128 .f32) : FVec Ideal S4096x8x64 .f32 :=
  transpose S4096x8x64 [1, 0, 2] (Host.dotGeneral dot_S8x4096x4096_S4096x8x64_S8x4096x64_2_0_1_2_0_1 none (dscore a0 a1 a2 a3) (broadcastInDim S4096x8x64 ![0, 1, 2] bcast_S4096x1x64_S4096x8x64_0_1_2 (broadcastInDim S4096x1x64 ![0, 2] bcast_S4096x64_S4096x1x64_0_2 a2))) transposes_S8x4096x64_S4096x8x64_1_0_2

/-- The gradient of the other part of the keys. -/
def dkn (a0 : FVec Ideal S4096x8x192 .f32) (a1 : FVec Ideal S4096x8x256 .f32) (a2 : FVec Ideal S4096x64 .f32) (a3 : FVec Ideal S4096x8x128 .f32) : FVec Ideal S4096x8x128 .f32 :=
  transpose S4096x8x128 [1, 0, 2] (Host.dotGeneral dot_S8x4096x4096_S4096x8x128_S8x4096x128_1_0_2_2_0_1 none (dscore a0 a1 a2 a3) (extractStridedSlice S4096x8x128 ![0, 0, 0] a0 slices_S4096x8x192_S4096x8x128_0_0_0)) transposes_S8x4096x128_S4096x8x128_1_0_2

/-- The gradient of the other part of the queries. -/
def dqn (a0 : FVec Ideal S4096x8x192 .f32) (a1 : FVec Ideal S4096x8x256 .f32) (a2 : FVec Ideal S4096x64 .f32) (a3 : FVec Ideal S4096x8x128 .f32) : FVec Ideal S4096x8x128 .f32 :=
  transpose S4096x8x128 [1, 0, 2] (Host.dotGeneral dot_S8x4096x4096_S4096x8x128_S8x4096x128_2_0_1_2_0_1 none (dscore a0 a1 a2 a3) (extractStridedSlice S4096x8x128 ![0, 0, 0] a1 slices_S4096x8x256_S4096x8x128_0_0_0)) transposes_S8x4096x128_S4096x8x128_1_0_2

/-- The first result. -/
def resDq (a0 : FVec Ideal S4096x8x192 .f32) (a1 : FVec Ideal S4096x8x256 .f32) (a2 : FVec Ideal S4096x64 .f32) (a3 : FVec Ideal S4096x8x128 .f32) : FVec Ideal S8x4096x256 .f32 :=
  pad S8x4096x256 ![0, 0, 0] ![0, 0, 64] ![0, 0, 0] (transpose S8x4096x192 [1, 0, 2] (addf (pad S4096x8x192 ![0, 0, 128] ![0, 0, 0] ![0, 0, 0] (dqr a0 a1 a2 a3) (constant S_ .f32 0x00000000#32) pads_S4096x8x64_S4096x8x192_000_000_12800 h_S_) (pad S4096x8x192 ![0, 0, 0] ![0, 0, 64] ![0, 0, 0] (dqn a0 a1 a2 a3) (constant S_ .f32 0x00000000#32) pads_S4096x8x128_S4096x8x192_000_000_0640 h_S_)) transposes_S4096x8x192_S8x4096x192_1_0_2) (sitofp .f32 (constantI S_ 32 0#32)) pads_S8x4096x192_S8x4096x256_000_000_0640 h_S_

/-- The second result. -/
def resDkv (a0 : FVec Ideal S4096x8x192 .f32) (a1 : FVec Ideal S4096x8x256 .f32) (a2 : FVec Ideal S4096x64 .f32) (a3 : FVec Ideal S4096x8x128 .f32) : FVec Ideal S4096x2048 .bf16 :=
  truncf .bf16 (shapeCast S4096x2048 (addf (pad S4096x8x256 ![0, 0, 128] ![0, 0, 0] ![0, 0, 0] (dv a0 a1 a2 a3) (constant S_ .f32 0x00000000#32) pads_S4096x8x128_S4096x8x256_000_000_12800 h_S_) (pad S4096x8x256 ![0, 0, 0] ![0, 0, 128] ![0, 0, 0] (dkn a0 a1 a2 a3) (constant S_ .f32 0x00000000#32) pads_S4096x8x128_S4096x8x256_000_000_01280 h_S_)) shapeCasts_S4096x8x256_S4096x2048) bitsLt_bf16_f32

/-- The third result. -/
def resDkr (a0 : FVec Ideal S4096x8x192 .f32) (a1 : FVec Ideal S4096x8x256 .f32) (a2 : FVec Ideal S4096x64 .f32) (a3 : FVec Ideal S4096x8x128 .f32) : FVec Ideal S8x4096x128 .f32 :=
  pad S8x4096x128 ![0, 0, 0] ![0, 0, 64] ![0, 0, 0] (transpose S8x4096x64 [1, 0, 2] (dkr a0 a1 a2 a3) transposes_S4096x8x64_S8x4096x64_1_0_2) (sitofp .f32 (constantI S_ 32 0#32)) pads_S8x4096x64_S8x4096x128_000_000_0640 h_S_

variable (m : (ℓ : Loc nD τ sig) → Buf (Elt Ideal) ℓ) (c : Dev nD)

theorem res_dq : res_main_v84 m c = resDq (m ((c.tc : Thread nD τ).loc main_arg0)) (m ((c.tc : Thread nD τ).loc main_arg1)) (m ((c.tc : Thread nD τ).loc main_arg2)) (m ((c.tc : Thread nD τ).loc main_arg3)) := by
  unfold res_main_v84 resDq dqr dqn dscore mean dprob mass low top masked scores allowed
  rfl

theorem res_dkv : res_main_v86 m c = resDkv (m ((c.tc : Thread nD τ).loc main_arg0)) (m ((c.tc : Thread nD τ).loc main_arg1)) (m ((c.tc : Thread nD τ).loc main_arg2)) (m ((c.tc : Thread nD τ).loc main_arg3)) := by
  unfold res_main_v86 resDkv dv dkn dscore mean dprob prob mass low top masked scores allowed
  rfl

theorem res_dkr : res_main_v88 m c = resDkr (m ((c.tc : Thread nD τ).loc main_arg0)) (m ((c.tc : Thread nD τ).loc main_arg1)) (m ((c.tc : Thread nD τ).loc main_arg2)) (m ((c.tc : Thread nD τ).loc main_arg3)) := by
  unfold res_main_v88 resDkr dkr dscore mean dprob mass low top masked scores allowed
  rfl

end Cert.ReferenceIdeal.Value

end
-- ==== Proof.FlashRef.lean ====
module

public import proofs.«01_k».proof.Proof.FlashRefDefs
public import proofs.«01_k».proof.Proof.FlashArgs

@[expose] public section

/-! The reference program's results at an index, for arguments that are real numbers. -/

set_option maxRecDepth 8192

noncomputable section

namespace Cert.ReferenceIdeal.Value

open Cert.ReferenceIdeal Cert.ReferenceIdeal.Gen Idealize.ShloMosaic Idealize.ShloMosaic.TcCoe Idealize.ShloMosaic.StableHlo
open Idealize.SL.Sem
open scoped BigOperators

variable {A : Cert.Attn.Args} {a0 : FVec Ideal S4096x8x192 .f32} {a1 : FVec Ideal S4096x8x256 .f32} {a2 : FVec Ideal S4096x64 .f32} {a3 : FVec Ideal S4096x8x128 .f32}
  (h0 : ∀ i h d, a0 (ix3 i h d) = ((A.q i h d : ℝ) : EReal)) (h1 : ∀ i h d, a1 (ix3 i h d) = ((A.kv i h d : ℝ) : EReal))
  (h2 : ∀ i d, a2 (ix2 i d) = ((A.kr i d : ℝ) : EReal)) (h3 : ∀ i h d, a3 (ix3 i h d) = ((A.ct i h d : ℝ) : EReal))

include h0 h1 h2 in
theorem scores_at (h : Fin 8) (i j : Fin 4096) : scores a0 a1 a2 (ix3 h i j) = (((A.head h).score i j : ℝ) : EReal) := by
  pointwise [scores]
  simp only [h0, h1, h2]
  rw [Cert.Attn.ofBits_192, Cert.Attn.rsqrt_192, Cert.Attn.coe_sum_mul, Cert.Attn.coe_sum_mul, ← EReal.coe_add, ← EReal.coe_mul]
  unfold Cert.Attn.Head.score
  rw [Cert.Attn.Args.dot_head]

include h0 h1 h2 in
theorem masked_at (h : Fin 8) (i j : Fin 4096) :
    masked a0 a1 a2 (ix3 h i j) = if j ≤ i then (((A.head h).score i j : ℝ) : EReal) else ⊥ := by
  pointwise [masked, allowed]
  rw [Cert.Attn.sle_rows, scores_at h0 h1 h2, show id (constant (F := Ideal) S_ FTy.f32 4286578688#32) Idealize.ShloMosaic.ix0 = (⊥ : EReal) from Cert.Attn.ofBits_bot]
  by_cases hj : j ≤ i <;> simp [hj, Scalar.select]

/-- The greatest element of each row, at an index. -/
theorem greatest_read (X : FVec Ideal S8x4096x4096 .f32) (h : Fin 8) (i : Fin 4096) :
    Host.reduce FloatOps.maximumf X (constant S_ .f32 0xFF800000#32) reducesTo_S8x4096x4096_S8x4096_d2 h_S_ (ix2 h i)
      = Finset.univ.fold max (Ideal.ofBits FTy.f32 4286578688#32) fun x => X (ix3 h i x) := by
  pointwise

theorem lifted_read (R : FVec Ideal S8x4096 .f32) (h : Fin 8) (i : Fin 4096) :
    maximumf (broadcastInDim S8x4096 ![] bcast_S_S8x4096 (constant S_ .f32 0xFF800000#32)) R (ix2 h i) = R (ix2 h i) := by
  have e : maximumf (broadcastInDim S8x4096 ![] bcast_S_S8x4096 (constant S_ .f32 0xFF800000#32)) R (ix2 h i) = max (Ideal.ofBits FTy.f32 4286578688#32) (R (ix2 h i)) := by
    pointwise
  rw [e, Cert.Attn.ofBits_bot]
  exact max_eq_right bot_le

include h0 h1 h2 in
theorem top_at (h : Fin 8) (i : Fin 4096) : ∃ M : ℝ, top a0 a1 a2 (ix2 h i) = (M : EReal) := by
  obtain ⟨M, hM⟩ := Cert.Attn.fold_top i fun j => (A.head h).score i j
  have e : (fun x => masked a0 a1 a2 (ix3 h i x)) = fun j => if j ≤ i then (((A.head h).score i j : ℝ) : EReal) else ⊥ :=
    funext fun j => masked_at h0 h1 h2 h i j
  have e2 := greatest_read (masked a0 a1 a2) h i
  rw [Cert.Attn.ofBits_bot, e, hM] at e2
  refine ⟨M, ?_⟩
  unfold top
  generalize Host.reduce FloatOps.maximumf (masked a0 a1 a2) (constant S_ .f32 0xFF800000#32) reducesTo_S8x4096x4096_S8x4096_d2 h_S_ = R at e2 ⊢
  exact (lifted_read R h i).trans e2

/-- What a row's exponentials give, with the number its scores are lowered by. -/
structure RowStat (A : Cert.Attn.Args) (a0 : FVec Ideal S4096x8x192 .f32) (a1 : FVec Ideal S4096x8x256 .f32) (a2 : FVec Ideal S4096x64 .f32)
    (h : Fin 8) (i : Fin 4096) (M : ℝ) : Prop where
  low : ∀ j, low a0 a1 a2 (ix3 h i j) = (((A.head h).low M i j : ℝ) : EReal)
  mass : mass a0 a1 a2 (ix3 h i 0) = ((∑ j, (A.head h).low M i j : ℝ) : EReal)

include h0 h1 h2 in
theorem row_stat (h : Fin 8) (i : Fin 4096) : ∃ M : ℝ, RowStat A a0 a1 a2 h i M := by
  obtain ⟨M, hM⟩ := top_at h0 h1 h2 h i
  have hl : ∀ j, low a0 a1 a2 (ix3 h i j) = (((A.head h).low M i j : ℝ) : EReal) := by
    intro j
    have e := masked_at h0 h1 h2 h i j
    unfold low
    generalize masked a0 a1 a2 = X at e ⊢
    generalize top a0 a1 a2 = T at hM ⊢
    pointwise
    rw [e, hM, Cert.Attn.exp_low]
    rfl
  refine ⟨M, hl, ?_⟩
  have e : (fun x => low a0 a1 a2 (ix3 h i x)) = fun j => (((A.head h).low M i j : ℝ) : EReal) := funext hl
  unfold mass
  generalize low a0 a1 a2 = X at e ⊢
  pointwise
  rw [e, Cert.Attn.coe_sum]

include h0 h1 h2 in
theorem prob_at (h : Fin 8) (i j : Fin 4096) : prob a0 a1 a2 (ix3 h i j) = (((A.head h).prob i j : ℝ) : EReal) := by
  obtain ⟨M, hM⟩ := row_stat h0 h1 h2 h i
  have e1 := hM.low j
  have e2 := hM.mass
  unfold prob
  generalize low a0 a1 a2 = T at e1 ⊢
  generalize mass a0 a1 a2 = L at e2 ⊢
  pointwise
  rw [e1, e2, Cert.Attn.div_low _ _ ((A.head h).sum_low_pos M i).ne', Cert.Attn.Head.prob_low]

include h1 h3 in
theorem dprob_at (h : Fin 8) (i j : Fin 4096) : dprob a1 a3 (ix3 h i j) = (((A.head h).dprob i j : ℝ) : EReal) := by
  pointwise [dprob]
  simp only [h1, h3]
  refine (Cert.Attn.coe_sum_mul _ _ _).trans (congrArg _ (Finset.sum_congr rfl fun d _ => mul_comm _ _))

include h0 h1 h2 h3 in
theorem mean_at (h : Fin 8) (i : Fin 4096) (M : ℝ) (hM : RowStat A a0 a1 a2 h i M) :
    mean a0 a1 a2 a3 (ix2 h i) = ((∑ k, (A.head h).dprob i k * (1 / ((∑ k, (A.head h).low M i k) * (∑ k, (A.head h).low M i k))) * (A.head h).low M i k : ℝ) : EReal) := by
  have e1 := fun j => dprob_at h1 h3 h i j
  have e2 := hM.low
  have e3 := hM.mass
  have e4 := ((A.head h).sum_low_pos M i).ne'
  unfold mean
  generalize low a0 a1 a2 = T at e2 ⊢
  generalize mass a0 a1 a2 = L at e3 ⊢
  generalize dprob a1 a3 = D at e1 ⊢
  pointwise
  simp only [e1, e2, e3]
  rw [← EReal.coe_mul, ← EReal.coe_one, Cert.Attn.div_low _ _ (mul_ne_zero e4 e4)]
  simp only [← EReal.coe_mul]
  rw [Cert.Attn.coe_sum]

/-- A unit axis added, the sign changed, and the axis summed away. -/
theorem unit_neg (X : FVec Ideal S8x4096 .f32) (h : Fin 8) (i : Fin 4096) :
    Host.reduceAdd (Host.negf (shapeCast S8x4096x1 X shapeCasts_S8x4096_S8x4096x1)) (constant S_ .f32 0x00000000#32) reducesTo_S8x4096x1_S8x4096_d2 h_S_ (ix2 h i) = -X (ix2 h i) := by
  have e : ∀ x : Fin 1, shapeCast S8x4096x1 X shapeCasts_S8x4096_S8x4096x1 (ix3 h i x) = X (ix2 h i) := by
    intro x
    refine shapeCast_apply _ shapeCasts_S8x4096_S8x4096x1 (ix3 h i x) (ix2 h i) ?_
    rw [Shape.rowMajor_val_three, Shape.rowMajor_val_two]
    simp
  generalize shapeCast S8x4096x1 X shapeCasts_S8x4096_S8x4096x1 = Y at e ⊢
  pointwise
  simp [e]

include h0 h1 h2 h3 in
theorem dscore_at (h : Fin 8) (i j : Fin 4096) : dscore a0 a1 a2 a3 (ix3 h i j) = (((A.head h).dscore i j : ℝ) : EReal) := by
  obtain ⟨M, hM⟩ := row_stat h0 h1 h2 h i
  have e1 := dprob_at h1 h3 h i j
  have e2 := hM.low j
  have e3 := hM.mass
  have e4 := ((A.head h).sum_low_pos M i).ne'
  have e5 := (unit_neg (mean a0 a1 a2 a3) h i).trans (congrArg Neg.neg (mean_at h0 h1 h2 h3 h i M hM))
  unfold dscore
  generalize Host.reduceAdd (Host.negf (shapeCast S8x4096x1 (mean a0 a1 a2 a3) shapeCasts_S8x4096_S8x4096x1)) (constant S_ .f32 0x00000000#32) reducesTo_S8x4096x1_S8x4096_d2 h_S_ = N at e5 ⊢
  generalize low a0 a1 a2 = T at e2 ⊢
  generalize mass a0 a1 a2 = L at e3 ⊢
  generalize dprob a1 a3 = D at e1 ⊢
  pointwise [allowed]
  rw [Cert.Attn.sle_rows, Cert.Attn.ofBits_192, Cert.Attn.rsqrt_192, e1, e2, e3, e5, Cert.Attn.div_low _ _ e4, ← EReal.coe_neg, ← EReal.coe_add, ← EReal.coe_mul, ← Cert.Attn.Head.dscore_low _ M]
  by_cases hj : j ≤ i
  · simp only [hj, Scalar.select]
    simp
  · simp only [hj, Scalar.select]
    simp

include h0 h1 h2 h3 in
theorem dv_at (h : Fin 8) (j : Fin 4096) (d : Fin 128) : dv a0 a1 a2 a3 (ix3 j h d) = (((A.head h).dv j d : ℝ) : EReal) := by
  have e := fun i => prob_at h0 h1 h2 h i j
  unfold dv
  generalize prob a0 a1 a2 = P at e ⊢
  pointwise
  simp only [e, h3]
  refine (Cert.Attn.coe_sum_mul _ _ _).trans (congrArg _ (Finset.sum_congr rfl fun d _ => mul_comm _ _))

include h0 h1 h2 h3 in
theorem dkr_at (h : Fin 8) (j : Fin 4096) (d : Fin 64) : dkr a0 a1 a2 a3 (ix3 j h d) = (((A.head h).dk j ⟨128 + d.val, by omega⟩ : ℝ) : EReal) := by
  have e := fun i => dscore_at h0 h1 h2 h3 h i j
  unfold dkr
  generalize dscore a0 a1 a2 a3 = P at e ⊢
  pointwise
  simp only [e, h0]
  refine (Cert.Attn.coe_sum_mul _ _ _).trans (congrArg _ (Finset.sum_congr rfl fun i _ => congrArg _ ?_))
  simp only [Cert.Attn.Args.head]
  rw [dif_pos (by omega)]

include h0 h1 h2 h3 in
theorem dkn_at (h : Fin 8) (j : Fin 4096) (d : Fin 128) : dkn a0 a1 a2 a3 (ix3 j h d) = (((A.head h).dk j ⟨d.val, by omega⟩ : ℝ) : EReal) := by
  have e := fun i => dscore_at h0 h1 h2 h3 h i j
  unfold dkn
  generalize dscore a0 a1 a2 a3 = P at e ⊢
  pointwise
  simp only [e, h0]
  refine (Cert.Attn.coe_sum_mul _ _ _).trans (congrArg _ (Finset.sum_congr rfl fun i _ => congrArg _ ?_))
  simp only [Cert.Attn.Args.head]
  rw [dif_pos (by omega)]

include h0 h1 h2 h3 in
theorem dqr_at (h : Fin 8) (i : Fin 4096) (d : Fin 64) : dqr a0 a1 a2 a3 (ix3 i h d) = (((A.head h).dq i ⟨128 + d.val, by omega⟩ : ℝ) : EReal) := by
  have e := fun j => dscore_at h0 h1 h2 h3 h i j
  unfold dqr
  generalize dscore a0 a1 a2 a3 = P at e ⊢
  pointwise
  simp only [e, h2]
  refine (Cert.Attn.coe_sum_mul _ _ _).trans (congrArg _ (Finset.sum_congr rfl fun j _ => (mul_comm _ _).trans (congrArg (· * _) ?_)))
  simp only [Cert.Attn.Args.head]
  rw [dif_neg (by omega), dif_pos (by omega)]
  exact congrArg _ (Fin.ext (by simp))

include h0 h1 h2 h3 in
theorem dqn_at (h : Fin 8) (i : Fin 4096) (d : Fin 128) : dqn a0 a1 a2 a3 (ix3 i h d) = (((A.head h).dq i ⟨d.val, by omega⟩ : ℝ) : EReal) := by
  have e := fun j => dscore_at h0 h1 h2 h3 h i j
  unfold dqn
  generalize dscore a0 a1 a2 a3 = P at e ⊢
  pointwise
  simp only [e, h1]
  refine (Cert.Attn.coe_sum_mul _ _ _).trans (congrArg _ (Finset.sum_congr rfl fun j _ => (mul_comm _ _).trans (congrArg (· * _) ?_)))
  simp only [Cert.Attn.Args.head]
  rw [dif_pos (by omega)]

theorem sitofp_zero : FloatOps.sitofp (F := Ideal) FTy.f32 0#32 = (0 : EReal) := by
  show (((0#32 : BitVec 32).toInt : ℝ) : EReal) = 0
  simp

include h0 h1 h2 h3 in
theorem resDq_eq : resDq a0 a1 a2 a3 = A.wantDq := by
  have e1 := fun i h => dqr_at h0 h1 h2 h3 i h
  have e2 := fun i h => dqn_at h0 h1 h2 h3 i h
  funext y
  idx_vars y
  unfold resDq
  generalize dqr a0 a1 a2 a3 = P at e1 ⊢
  generalize dqn a0 a1 a2 a3 = Q at e2 ⊢
  pointwise
  show _ = (((A.head y0).dq y1 y2 : ℝ) : EReal)
  by_cases c1 : y2.val < 128
  · rw [dif_pos (show y2.val < 192 by omega), dif_neg (show ¬(128 ≤ y2.val ∧ y2.val - 128 < 64) by omega), dif_pos c1, zero_add]
    exact e2 _ _ _
  · by_cases c2 : y2.val < 192
    · have c3 : 128 ≤ y2.val ∧ y2.val - 128 < 64 := by omega
      refine (dif_pos c2).trans ((congrArg₂ (fun a b : EReal => a + b) (dif_pos c3) (dif_neg c1)).trans ((add_zero (_ : EReal)).trans ((e1 _ _ _).trans ?_)))
      have ed : ∀ h : 128 + (y2.val - 128) < 256, (⟨128 + (y2.val - 128), h⟩ : Fin 256) = y2 := fun h => Fin.ext (Nat.add_sub_of_le (by omega))
      exact congrArg (fun d : Fin 256 => (((A.head y0).dq y1 d : ℝ) : EReal)) (ed _)
    · have e : (A.head y0).dq y1 y2 = 0 := by
        refine Finset.sum_eq_zero fun j _ => ?_
        simp only [Cert.Attn.Args.head]
        rw [dif_neg c1, dif_neg c2, zero_mul]
      rw [dif_neg c2, e, sitofp_zero, EReal.coe_zero]

include h0 h1 h2 h3 in
theorem resDkv_eq : resDkv a0 a1 a2 a3 = A.wantDkv := by
  have e1 := fun i h => dv_at h0 h1 h2 h3 i h
  have e2 := fun i h => dkn_at h0 h1 h2 h3 i h
  funext y
  idx_vars y
  unfold resDkv
  generalize dv a0 a1 a2 a3 = P at e1 ⊢
  generalize dkn a0 a1 a2 a3 = Q at e2 ⊢
  pointwise
  show _ = ((A.gradKV y0 y1 : ℝ) : EReal)
  unfold Cert.Attn.Args.gradKV
  by_cases c1 : y1.val % 256 < 128
  · rw [dif_neg (by omega), dif_pos ⟨by omega, c1⟩, dif_pos c1, zero_add, e2]
  · rw [dif_pos ⟨by omega, by omega, by omega⟩, dif_neg (fun h => c1 h.2), dif_neg c1, add_zero, e1]

include h0 h1 h2 h3 in
theorem resDkr_eq : resDkr a0 a1 a2 a3 = A.wantDkr := by
  have e1 := fun i h => dkr_at h0 h1 h2 h3 i h
  funext y
  idx_vars y
  unfold resDkr
  generalize dkr a0 a1 a2 a3 = P at e1 ⊢
  pointwise
  show _ = ((A.gradKR y0 y1 y2 : ℝ) : EReal)
  unfold Cert.Attn.Args.gradKR
  by_cases c1 : y2.val < 64
  · rw [dif_pos c1, e1]
  · have e : (A.head y0).dk y1 ⟨128 + y2.val, by omega⟩ = 0 := by
      refine Finset.sum_eq_zero fun i _ => ?_
      simp only [Cert.Attn.Args.head]
      rw [dif_neg (by omega), mul_zero]
    rw [dif_neg c1, e, sitofp_zero, EReal.coe_zero]

end Cert.ReferenceIdeal.Value

end
-- ==== Proof.FlashPre.lean ====
module

public import proofs.«01_k».proof.Proof.Gen.Pre_finite_inputs
public import proofs.«01_k».proof.Proof.FlashArgs
public import Idealize.ShloMosaic.Lib.ReduceAll

@[expose] public section

/-! What the precondition gives: every argument is the array of a real number at each index. -/

noncomputable section

namespace Cert.Pre_finite_inputs.Gen

open Cert.Pre_finite_inputs Idealize.ShloMosaic

theorem and_one : ∀ x y : BitVec 1, x &&& y = 1#1 → x = 1#1 ∧ y = 1#1 := by decide

theorem ofBits_top : Ideal.ofBits FTy.f32 2139095040#32 = ⊤ := by simp [Ideal.ofBits, Ideal.ieee]

/-- A number whose absolute value is below the infinity is a real number. -/
theorem real_of_abs (x : EReal) (h : Ideal.cmp .olt (max x (-x)) ⊤ = 1#1) : x = ((x.toReal : ℝ) : EReal) := by
  have h1 : max x (-x) < ⊤ := by
    by_contra hn
    unfold Ideal.cmp at h
    simp only [hn, decide_false] at h
    exact absurd h (by decide)
  refine (EReal.coe_toReal (fun e => ?_) (fun e => ?_)).symm
  · rw [e] at h1
    simp at h1
  · rw [e] at h1
    simp at h1

variable {a0 : FVec Ideal S4096x8x192 .f32} {a1 : FVec Ideal S4096x8x256 .f32} {a2 : FVec Ideal S4096x64 .f32} {a3 : FVec Ideal S4096x8x128 .f32}

theorem subsingleton_ : Subsingleton S_.Idx := ⟨fun a b => funext fun x => x.elim0⟩

/-- An array whose comparison with the infinity holds everywhere is real everywhere. -/
theorem real_of_all {s : Shape} {axes : List (Fin s.rank)} (a : FVec Ideal s .f32) (hb : S_.BroadcastsInDim s (![] : Fin 0 → Fin s.rank)) (hr : s.ReducesTo axes S_)
    (e : Host.reduce IntOp.andi (cmpf .olt (Host.absf a) (broadcastInDim s ![] hb (constant S_ .f32 0x7F800000#32))) (constantI S_ 1 1#1) hr h_S_ ix0 = 1#1) (i : s.Idx) :
    a i = (((a i).toReal : ℝ) : EReal) := by
  haveI := subsingleton_
  have h := Host.reduce_andi_all _ _ hr h_S_ ix0 e i
  refine real_of_abs _ (Eq.trans ?_ h)
  show Ideal.cmp .olt (max (a i) (-(a i))) ⊤ = Ideal.cmp .olt (max (a i) (-(a i))) (Ideal.ofBits FTy.f32 2139095040#32)
  rw [ofBits_top]

/-- The four arrays are real everywhere. -/
theorem real_of_pre (e : fn (F := Ideal) a0 a1 a2 a3 = fun _ => 1#1) :
    (∀ i, a0 i = (((a0 i).toReal : ℝ) : EReal)) ∧ (∀ i, a1 i = (((a1 i).toReal : ℝ) : EReal)) ∧ (∀ i, a2 i = (((a2 i).toReal : ℝ) : EReal)) ∧ (∀ i, a3 i = (((a3 i).toReal : ℝ) : EReal)) := by
  have h := congrFun e ix0
  obtain ⟨h, h3⟩ := and_one _ _ h
  obtain ⟨h, h2⟩ := and_one _ _ h
  obtain ⟨h0, h1⟩ := and_one _ _ h
  exact ⟨real_of_all a0 bcast_S_S4096x8x192 reducesTo_S4096x8x192_S_d0_1_2 h0, real_of_all a1 bcast_S_S4096x8x256 reducesTo_S4096x8x256_S_d0_1_2 h1, real_of_all a2 bcast_S_S4096x64 reducesTo_S4096x64_S_d0_1 h2, real_of_all a3 bcast_S_S4096x8x128 reducesTo_S4096x8x128_S_d0_1_2 h3⟩

/-- The real numbers of four arrays. -/
def argsOf (a0 : FVec Ideal S4096x8x192 .f32) (a1 : FVec Ideal S4096x8x256 .f32) (a2 : FVec Ideal S4096x64 .f32) (a3 : FVec Ideal S4096x8x128 .f32) : Cert.Attn.Args where
  q i h d := (a0 (ix3 i h d)).toReal
  kv i h d := (a1 (ix3 i h d)).toReal
  kr i d := (a2 (ix2 i d)).toReal
  ct i h d := (a3 (ix3 i h d)).toReal

end Cert.Pre_finite_inputs.Gen

end
-- ==== Proof.FlashValue.lean ====
module

public import proofs.«01_k».proof.Defs
public import proofs.«01_k».proof.Proof.FlashFrame
public import proofs.«01_k».proof.Proof.FlashPost
public import proofs.«01_k».proof.Proof.FlashRef
public import proofs.«01_k».proof.Proof.FlashPre
public import Idealize.ShloMosaic.Lib.Quiescent

@[expose] public section

/-! The backward attention: the kernel's three results are the reference's, for arguments that are real numbers. -/

set_option maxRecDepth 16384

noncomputable section

namespace Cert.Proof

open Idealize.ShloMosaic Idealize.ShloMosaic.TcCoe Idealize.SL.Sem

theorem value1 : Cert.algebraic_KernelIdeal_ReferenceIdeal_pre_finite_inputs := by
  intro m g m' g' hpre hargs
  let A : Dev Cert.KernelIdeal.nD → Cert.Attn.Args := fun c =>
    Cert.Pre_finite_inputs.Gen.argsOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
  have hr := fun c => Cert.Pre_finite_inputs.Gen.real_of_pre (hpre c)
  have h0 : ∀ (c : Dev Cert.KernelIdeal.nD) i h d, m ((c.tc : Thread Cert.KernelIdeal.nD Cert.KernelIdeal.τ).loc Cert.KernelIdeal.main_arg0) (ix3 i h d) = (((A c).q i h d : ℝ) : EReal) :=
    fun c i h d => (hr c).1 (ix3 i h d)
  have h1 : ∀ (c : Dev Cert.KernelIdeal.nD) i h d, m ((c.tc : Thread Cert.KernelIdeal.nD Cert.KernelIdeal.τ).loc Cert.KernelIdeal.main_arg1) (ix3 i h d) = (((A c).kv i h d : ℝ) : EReal) :=
    fun c i h d => (hr c).2.1 (ix3 i h d)
  have h2 : ∀ (c : Dev Cert.KernelIdeal.nD) i d, m ((c.tc : Thread Cert.KernelIdeal.nD Cert.KernelIdeal.τ).loc Cert.KernelIdeal.main_arg2) (ix2 i d) = (((A c).kr i d : ℝ) : EReal) :=
    fun c i d => (hr c).2.2.1 (ix2 i d)
  have h3 : ∀ (c : Dev Cert.KernelIdeal.nD) i h d, m ((c.tc : Thread Cert.KernelIdeal.nD Cert.KernelIdeal.τ).loc Cert.KernelIdeal.main_arg3) (ix3 i h d) = (((A c).ct i h d : ℝ) : EReal) :=
    fun c i h d => (hr c).2.2.2 (ix3 i h d)
  refine ⟨fun c => (A c).wantDq, fun c => (A c).wantDkv, fun c => (A c).wantDkr, ?_, ?_⟩
  · refine (θ_run _ _ _).mono (fun r h c => ?_) (θ_run_and (Cert.KernelIdeal.Gen.run_main_quiescent m g) (Cert.KernelIdeal.Gen.frame_flash m g))
    obtain ⟨⟨h, -⟩, hf, -⟩ := h
    exact ⟨((h c).1 6).trans (Cert.KernelIdeal.Gen.result6 (h0 c) (h1 c) (h2 c) (h3 c)),
      ((h c).1 7).trans (Cert.KernelIdeal.Gen.result7 (h0 c) (h1 c) (h2 c) (h3 c)),
      ((h c).1 8).trans (Cert.KernelIdeal.Gen.result8 (h0 c) (h1 c) (h2 c) (h3 c)), hf c⟩
  · refine (θ_run _ _ _).mono (fun r h c => ?_) (Cert.ReferenceIdeal.Value.run m' g')
    obtain ⟨e0, e1, e2, e3⟩ := hargs c
    have k0 := fun i h d => (congrFun e0 (ix3 i h d)).trans (h0 c i h d)
    have k1 := fun i h d => (congrFun e1 (ix3 i h d)).trans (h1 c i h d)
    have k2 := fun i d => (congrFun e2 (ix2 i d)).trans (h2 c i d)
    have k3 := fun i h d => (congrFun e3 (ix3 i h d)).trans (h3 c i h d)
    exact ⟨(h c).1.trans ((Cert.ReferenceIdeal.Value.res_dq m' c).trans (Cert.ReferenceIdeal.Value.resDq_eq k0 k1 k2 k3)),
      (h c).2.1.trans ((Cert.ReferenceIdeal.Value.res_dkv m' c).trans (Cert.ReferenceIdeal.Value.resDkv_eq k0 k1 k2 k3)),
      (h c).2.2.1.trans ((Cert.ReferenceIdeal.Value.res_dkr m' c).trans (Cert.ReferenceIdeal.Value.resDkr_eq k0 k1 k2 k3)), (h c).2.2.2⟩

end Cert.Proof

end
-- ==== Proof.lean ====
module

public import proofs.«01_k».proof.Defs
public import proofs.«01_k».proof.Proof.FlashFrame
public import proofs.«01_k».proof.Proof.WordFlashFrame
public import proofs.«01_k».proof.Proof.Gen.ReferenceIdeal.Run
public import proofs.«01_k».proof.Proof.Products
public import proofs.«01_k».proof.Proof.FlashValue
public import proofs.«01_k».proof.Proof.Gen.Kernel2.Frame
public import proofs.«01_k».proof.Proof.Gen.Kernel2Ideal.Frame
public import proofs.«01_k».proof.Proof.Gen.Reference2Ideal
public import proofs.«01_k».proof.Proof.Gen.Kernel3.Frame
public import proofs.«01_k».proof.Proof.Gen.Kernel3Ideal.Frame
public import proofs.«01_k».proof.Proof.Gen.Reference3Ideal
public import proofs.«01_k».proof.Proof.Gen.Kernel4.Frame
public import proofs.«01_k».proof.Proof.Gen.Kernel4Ideal.Frame
public import proofs.«01_k».proof.Proof.Gen.Reference4Ideal
public import proofs.«01_k».proof.Proof.Gen.Kernel5.Frame
public import proofs.«01_k».proof.Proof.Gen.Kernel5Ideal.Frame
public import proofs.«01_k».proof.Proof.Gen.Reference5Ideal
public import proofs.«01_k».proof.Proof.Gen.Kernel6.Frame
public import proofs.«01_k».proof.Proof.Gen.Kernel6Ideal.Frame
public import proofs.«01_k».proof.Proof.Gen.Reference6Ideal
public import proofs.«01_k».proof.Proof.Gen.Kernel7.Frame
public import proofs.«01_k».proof.Proof.Gen.Kernel7Ideal.Frame
public import proofs.«01_k».proof.Proof.Gen.Reference7Ideal
public import proofs.«01_k».proof.Proof.Gen.Kernel8.Frame
public import proofs.«01_k».proof.Proof.Gen.Kernel8Ideal.Frame
public import proofs.«01_k».proof.Proof.Gen.Reference8Ideal
public import proofs.«01_k».proof.Proof.Gen.Kernel9.Frame
public import proofs.«01_k».proof.Proof.Gen.Kernel9Ideal.Frame
public import proofs.«01_k».proof.Proof.Gen.Reference9Ideal
public import proofs.«01_k».proof.Proof.Gen.Kernel10.Frame
public import proofs.«01_k».proof.Proof.Gen.Kernel10Ideal.Frame
public import proofs.«01_k».proof.Proof.Gen.Reference10Ideal
public import proofs.«01_k».proof.Proof.Gen.Kernel11.Frame
public import proofs.«01_k».proof.Proof.Gen.Kernel11Ideal.Frame
public import proofs.«01_k».proof.Proof.Gen.Reference11Ideal
public import proofs.«01_k».proof.Proof.Gen.Kernel12.Frame
public import proofs.«01_k».proof.Proof.Gen.Kernel12Ideal.Frame
public import proofs.«01_k».proof.Proof.Gen.Reference12Ideal
public import proofs.«01_k».proof.Proof.Gen.Kernel13.Frame
public import proofs.«01_k».proof.Proof.Gen.Kernel13Ideal.Frame
public import proofs.«01_k».proof.Proof.Gen.Reference13Ideal
public import proofs.«01_k».proof.Proof.Gen.Kernel14.Frame
public import proofs.«01_k».proof.Proof.Gen.Kernel14Ideal.Frame
public import proofs.«01_k».proof.Proof.Gen.Reference14Ideal
public import proofs.«01_k».proof.Proof.Gen.Kernel15.Frame
public import proofs.«01_k».proof.Proof.Gen.Kernel15Ideal.Frame
public import proofs.«01_k».proof.Proof.Gen.Reference15Ideal
public import proofs.«01_k».proof.Proof.Gen.Kernel16.Frame
public import proofs.«01_k».proof.Proof.Gen.Kernel16Ideal.Frame
public import proofs.«01_k».proof.Proof.Gen.Reference16Ideal
public import Idealize.ShloMosaic.PureOps.IdealRules
public import Idealize.ShloMosaic.Lib.Quiescent

@[expose] public section

/-! The certificate: the backward attention's frames, its named constants and its value, and the claims of the products and of the optimiser's steps. -/

noncomputable section

namespace Cert.Proof

open Idealize.ShloMosaic Idealize.ShloMosaic.TcCoe Idealize.SL.Sem

/-- The reference of the backward attention leaves its arguments as they were. -/
theorem reference1 : Cert.quiescent_ReferenceIdeal := fun m g _ =>
  (θ_run _ _ _).mono (fun r h => ⟨fun c => (h c).2.2.2, sem_eq_zero_of_no_sems (by decide) r.2⟩)
    (Cert.ReferenceIdeal.Value.run m g)

/-- The three named constants are the reals they stand for. -/
theorem named : Cert.preserves_Kernel_KernelIdeal :=
  ⟨IdealRules.named_const.statement Cert.KernelIdeal.κ "exp2_scale" .f32 0x3DD53B95#32 (((Real.sqrt 192)⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "scale" .f32 0x3D93CD3A#32 (((Real.sqrt 192)⁻¹ : ℝ) : EReal) rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts, Cert.Pre_finite_inputs.Gen.facts,
    fun m g _ => Cert.Kernel.Gen.frame_flash m g, fun m g _ => Cert.KernelIdeal.Gen.frame_flash m g, fun m g _ => Cert.KernelIdeal.Gen.frame_flash m g,
    reference1, fun m g _ => reference1 m g trivial,
    fun m g _ => Cert.Kernel2.Gen.frame m g, fun m g _ => Cert.Kernel2Ideal.Gen.frame m g, reference2,
    fun m g _ => Cert.Kernel3.Gen.frame m g, fun m g _ => Cert.Kernel3Ideal.Gen.frame m g, reference3,
    fun m g _ => Cert.Kernel4.Gen.frame m g, fun m g _ => Cert.Kernel4Ideal.Gen.frame m g, reference4,
    fun m g _ => Cert.Kernel5.Gen.frame m g, fun m g _ => Cert.Kernel5Ideal.Gen.frame m g, reference5,
    fun m g _ => Cert.Kernel6.Gen.frame m g, fun m g _ => Cert.Kernel6Ideal.Gen.frame m g, reference6,
    fun m g _ => Cert.Kernel7.Gen.frame m g, fun m g _ => Cert.Kernel7Ideal.Gen.frame m g, reference7,
    fun m g _ => Cert.Kernel8.Gen.frame m g, fun m g _ => Cert.Kernel8Ideal.Gen.frame m g, reference8,
    fun m g _ => Cert.Kernel9.Gen.frame m g, fun m g _ => Cert.Kernel9Ideal.Gen.frame m g, reference9,
    fun m g _ => Cert.Kernel10.Gen.frame m g, fun m g _ => Cert.Kernel10Ideal.Gen.frame m g, reference10,
    fun m g _ => Cert.Kernel11.Gen.frame m g, fun m g _ => Cert.Kernel11Ideal.Gen.frame m g, reference11,
    fun m g _ => Cert.Kernel12.Gen.frame m g, fun m g _ => Cert.Kernel12Ideal.Gen.frame m g, reference12,
    fun m g _ => Cert.Kernel13.Gen.frame m g, fun m g _ => Cert.Kernel13Ideal.Gen.frame m g, reference13,
    fun m g _ => Cert.Kernel14.Gen.frame m g, fun m g _ => Cert.Kernel14Ideal.Gen.frame m g, reference14,
    fun m g _ => Cert.Kernel15.Gen.frame m g, fun m g _ => Cert.Kernel15Ideal.Gen.frame m g, reference15,
    fun m g _ => Cert.Kernel16.Gen.frame m g, fun m g _ => Cert.Kernel16Ideal.Gen.frame m g, reference16,
    named, value1,
    trivial, value2, trivial, value3, trivial, value4, trivial, value5, trivial, value6, trivial, value7, trivial, value8, trivial, value9, trivial, value10, trivial, value11, trivial, value12, trivial, value13, trivial, value14, trivial, value15, trivial, value16⟩

end Cert.Proof

end
